-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S32768x128 : Shape := ⟨2, ![32768, 128]⟩
abbrev S16 : Shape := ⟨1, ![16]⟩
abbrev S128x128 : Shape := ⟨2, ![128, 128]⟩
abbrev S128 : Shape := ⟨1, ![128]⟩
abbrev S128x256 : Shape := ⟨2, ![128, 256]⟩
abbrev S_ : Shape := ⟨0, ![]⟩
abbrev S15 : Shape := ⟨1, ![15]⟩

class Facts : Prop where
  bcast_S_S16 : S_.BroadcastsInDim S16 (![] : Fin 0 → Fin S16.rank)
  slices_S16_S15_1 : S16.Slices ![1] S15
  slices_S16_S15_0 : S16.Slices ![0] S15
  bcast_S_S32768x128 : S_.BroadcastsInDim S32768x128 (![] : Fin 0 → Fin S32768x128.rank)
  bcast_S_S128x128 : S_.BroadcastsInDim S128x128 (![] : Fin 0 → Fin S128x128.rank)
  bcast_S_S128 : S_.BroadcastsInDim S128 (![] : Fin 0 → Fin S128.rank)

variable [Facts]

def fn_part1 {F : FTy → Type} [FloatOps F] (main_arg4 : FVec F S128 .f32) (main_arg5 : FVec F S128 .f32) (main_v1 : IVec S16 1) (main_v3 : IVec S16 1) (main_v6 : IVec S15 1) (main_v9 : IVec S32768x128 1) (main_v12 : IVec S128x128 1) (main_v15 : IVec S128 1) (main_v16 : FVec F S128 .f32) (main_v17 : FVec F S128 .f32) : IVec S16 1 × IVec S16 1 × IVec S15 1 × IVec S32768x128 1 × IVec S128x128 1 × IVec S128 1 × IVec S128 1 × IVec S128 1 × IVec S128 1 :=
  let main_v18 : IVec S128 1 := cmpf .olt main_v16 main_v17
  let main_cst_4 : FVec F S_ .f32 := constant S_ .f32 0x00000000#32
  let main_v19 : FVec F S128 .f32 := broadcastInDim S128 ![] bcast_S_S128 main_cst_4
  let main_v20 : IVec S128 1 := cmpf .ogt main_arg4 main_v19
  let main_v21 : FVec F S128 .f32 := Host.absf main_arg5
  let main_cst_5 : FVec F S_ .f32 := constant S_ .f32 0x7F800000#32
  let main_v22 : FVec F S128 .f32 := broadcastInDim S128 ![] bcast_S_S128 main_cst_5
  let main_v23 : IVec S128 1 := cmpf .olt main_v21 main_v22
  (main_v1, main_v3, main_v6, main_v9, main_v12, main_v15, main_v18, main_v20, main_v23)

def fn {F : FTy → Type} [FloatOps F] (main_arg0 : FVec F S32768x128 .f32) (main_arg1 : IVec S16 32) (main_arg2 : FVec F S128x128 .f32) (main_arg3 : FVec F S128 .f32) (main_arg4 : FVec F S128 .f32) (main_arg5 : FVec F S128 .f32) (main_arg6 : FVec F S128x256 .f32) (main_arg7 : FVec F S128 .f32) : IVec S16 1 × IVec S16 1 × IVec S15 1 × IVec S32768x128 1 × IVec S128x128 1 × IVec S128 1 × IVec S128 1 × IVec S128 1 × IVec S128 1 :=
  let main_c : IVec S_ 32 := constantI S_ 32 0#32
  let main_v0 : IVec S16 32 := broadcastInDim S16 ![] bcast_S_S16 main_c
  let main_v1 : IVec S16 1 := cmpi .sge main_arg1 main_v0
  let main_c_0 : IVec S_ 32 := constantI S_ 32 32768#32
  let main_v2 : IVec S16 32 := broadcastInDim S16 ![] bcast_S_S16 main_c_0
  let main_v3 : IVec S16 1 := cmpi .slt main_arg1 main_v2
  let main_v4 : IVec S15 32 := (extractStridedSlice S15 ![1] · slices_S16_S15_1) main_arg1
  let main_v5 : IVec S15 32 := (extractStridedSlice S15 ![0] · slices_S16_S15_0) main_arg1
  let main_v6 : IVec S15 1 := cmpi .sge main_v4 main_v5
  let main_v7 : FVec F S32768x128 .f32 := Host.absf main_arg0
  let main_cst : FVec F S_ .f32 := constant S_ .f32 0x7F800000#32
  let main_v8 : FVec F S32768x128 .f32 := broadcastInDim S32768x128 ![] bcast_S_S32768x128 main_cst
  let main_v9 : IVec S32768x128 1 := cmpf .olt main_v7 main_v8
  let main_v10 : FVec F S128x128 .f32 := Host.absf main_arg2
  let main_cst_1 : FVec F S_ .f32 := constant S_ .f32 0x7F800000#32
  let main_v11 : FVec F S128x128 .f32 := broadcastInDim S128x128 ![] bcast_S_S128x128 main_cst_1
  let main_v12 : IVec S128x128 1 := cmpf .olt main_v10 main_v11
  let main_v13 : FVec F S128 .f32 := Host.absf main_arg3
  let main_cst_2 : FVec F S_ .f32 := constant S_ .f32 0x7F800000#32
  let main_v14 : FVec F S128 .f32 := broadcastInDim S128 ![] bcast_S_S128 main_cst_2
  let main_v15 : IVec S128 1 := cmpf .olt main_v13 main_v14
  let main_v16 : FVec F S128 .f32 := Host.absf main_arg4
  let main_cst_3 : FVec F S_ .f32 := constant S_ .f32 0x7F800000#32
  let main_v17 : FVec F S128 .f32 := broadcastInDim S128 ![] bcast_S_S128 main_cst_3
  fn_part1 (F := F) main_arg4 main_arg5 main_v1 main_v3 main_v6 main_v9 main_v12 main_v15 main_v16 main_v17
-- ==== Kernel.lean ====
abbrev S32768x128 : Shape := ⟨2, ![32768, 128]⟩
abbrev S16 : Shape := ⟨1, ![16]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S32x128 : Shape := ⟨2, ![32, 128]⟩
abbrev S16384x128 : Shape := ⟨2, ![16384, 128]⟩
abbrev S2x16384x128 : Shape := ⟨3, ![2, 16384, 128]⟩
abbrev S8x128 : Shape := ⟨2, ![8, 128]⟩
abbrev S32x1 : Shape := ⟨2, ![32, 1]⟩
abbrev S1x16384x128 : Shape := ⟨3, ![1, 16384, 128]⟩
abbrev S2048x8x128 : Shape := ⟨3, ![2048, 8, 128]⟩
abbrev S1024x8x128 : Shape := ⟨3, ![1024, 8, 128]⟩
abbrev S512x8x128 : Shape := ⟨3, ![512, 8, 128]⟩
abbrev S256x8x128 : Shape := ⟨3, ![256, 8, 128]⟩
abbrev S128x8x128 : Shape := ⟨3, ![128, 8, 128]⟩
abbrev S64x8x128 : Shape := ⟨3, ![64, 8, 128]⟩
abbrev S32x8x128 : Shape := ⟨3, ![32, 8, 128]⟩
abbrev S16x8x128 : Shape := ⟨3, ![16, 8, 128]⟩
abbrev S8x8x128 : Shape := ⟨3, ![8, 8, 128]⟩
abbrev S4x8x128 : Shape := ⟨3, ![4, 8, 128]⟩
abbrev S2x8x128 : Shape := ⟨3, ![2, 8, 128]⟩
abbrev S1x8x128 : Shape := ⟨3, ![1, 8, 128]⟩
abbrev S1 : Shape := ⟨1, ![1]⟩
abbrev S128x16x8x128 : Shape := ⟨4, ![128, 16, 8, 128]⟩
abbrev S128x8x8x128 : Shape := ⟨4, ![128, 8, 8, 128]⟩
abbrev S128x4x8x128 : Shape := ⟨4, ![128, 4, 8, 128]⟩
abbrev S128x2x8x128 : Shape := ⟨4, ![128, 2, 8, 128]⟩
abbrev S128x1x8x128 : Shape := ⟨4, ![128, 1, 8, 128]⟩
abbrev S128x1 : Shape := ⟨2, ![128, 1]⟩
abbrev S1x128x128 : Shape := ⟨3, ![1, 128, 128]⟩
abbrev S32x16384 : Shape := ⟨2, ![32, 16384]⟩
abbrev S17x128 : Shape := ⟨2, ![17, 128]⟩

abbrev nBuf : Space → Nat
  | .hbm => 17
  | .vmem => 16
  | .smem => 1
  | _ => 0

abbrev bufTy : (tb : Table) → Fin (tcTables nBuf tb) → BufTy
  | .hbm, ⟨0, _⟩ => ⟨S32768x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S32x128, .f32⟩
  | .hbm, ⟨16, _⟩ => ⟨S17x128, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S32x128, .f32⟩
  | .local _ .vmem, ⟨9, _⟩ => ⟨S2x16384x128, .f32⟩
  | .local _ .vmem, ⟨10, _⟩ => ⟨S8x128, .f32⟩
  | .local _ .vmem, ⟨11, _⟩ => ⟨S8x128, .f32⟩
  | .local _ .vmem, ⟨12, _⟩ => ⟨S1x128, .f32⟩
  | .local _ .vmem, ⟨13, _⟩ => ⟨S1x128, .f32⟩
  | .local _ .vmem, ⟨14, _⟩ => ⟨S32x128, .f32⟩
  | .local _ .vmem, ⟨15, _⟩ => ⟨S32x128, .f32⟩
  | .local _ .smem, ⟨0, _⟩ => ⟨S16, .i32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (i : grid0.Coords) : Fin 3 → Nat :=
  let arg1 : BitVec 32 := BitVec.ofNat 32 (i 1).val
  let v15 : Index := Scalar.indexCast arg1
  let c0_7 : Index := 0#32
  let c0_8 : Index := 0#32
  ![v15.toNat, 0, 0]
@[reducible] def k0_t1_loop (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) : Scf.Loop 32 :=
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c0_i32_21 : BitVec 32 := 0#32
  let c16384_i32_19 : BitVec 32 := 16384#32
  let v104 : BitVec 32 := Scalar.addi v0 c16384_i32_19
  let c1_i32_20 : BitVec 32 := 1#32
  let v105 : BitVec 32 := Scalar.subi v104 c1_i32_20
  let v106 : BitVec 1 := Scalar.cmpi .sle v100 v105
  let v107 : BitVec 32 := Scalar.extui v106
  let v108 : BitVec 32 := Scalar.addi c0_i32_21 v107
  let c16384_i32_22 : BitVec 32 := 16384#32
  let v113 : BitVec 32 := Scalar.addi v0 c16384_i32_22
  let c1_i32_23 : BitVec 32 := 1#32
  let v114 : BitVec 32 := Scalar.subi v113 c1_i32_23
  let v115 : BitVec 1 := Scalar.cmpi .sle v109 v114
  let v116 : BitVec 32 := Scalar.extui v115
  let v117 : BitVec 32 := Scalar.addi v108 v116
  let c16384_i32_24 : BitVec 32 := 16384#32
  let v122 : BitVec 32 := Scalar.addi v0 c16384_i32_24
  let c1_i32_25 : BitVec 32 := 1#32
  let v123 : BitVec 32 := Scalar.subi v122 c1_i32_25
  let v124 : BitVec 1 := Scalar.cmpi .sle v118 v123
  let v125 : BitVec 32 := Scalar.extui v124
  let v126 : BitVec 32 := Scalar.addi v117 v125
  let c16384_i32_26 : BitVec 32 := 16384#32
  let v131 : BitVec 32 := Scalar.addi v0 c16384_i32_26
  let c1_i32_27 : BitVec 32 := 1#32
  let v132 : BitVec 32 := Scalar.subi v131 c1_i32_27
  let v133 : BitVec 1 := Scalar.cmpi .sle v127 v132
  let v134 : BitVec 32 := Scalar.extui v133
  let v135 : BitVec 32 := Scalar.addi v126 v134
  let c16384_i32_28 : BitVec 32 := 16384#32
  let v140 : BitVec 32 := Scalar.addi v0 c16384_i32_28
  let c1_i32_29 : BitVec 32 := 1#32
  let v141 : BitVec 32 := Scalar.subi v140 c1_i32_29
  let v142 : BitVec 1 := Scalar.cmpi .sle v136 v141
  let v143 : BitVec 32 := Scalar.extui v142
  let v144 : BitVec 32 := Scalar.addi v135 v143
  let c16384_i32_30 : BitVec 32 := 16384#32
  let v149 : BitVec 32 := Scalar.addi v0 c16384_i32_30
  let c1_i32_31 : BitVec 32 := 1#32
  let v150 : BitVec 32 := Scalar.subi v149 c1_i32_31
  let v151 : BitVec 1 := Scalar.cmpi .sle v145 v150
  let v152 : BitVec 32 := Scalar.extui v151
  let v153 : BitVec 32 := Scalar.addi v144 v152
  let c16384_i32_32 : BitVec 32 := 16384#32
  let v158 : BitVec 32 := Scalar.addi v0 c16384_i32_32
  let c1_i32_33 : BitVec 32 := 1#32
  let v159 : BitVec 32 := Scalar.subi v158 c1_i32_33
  let v160 : BitVec 1 := Scalar.cmpi .sle v154 v159
  let v161 : BitVec 32 := Scalar.extui v160
  let v162 : BitVec 32 := Scalar.addi v153 v161
  let c16384_i32_34 : BitVec 32 := 16384#32
  let v167 : BitVec 32 := Scalar.addi v0 c16384_i32_34
  let c1_i32_35 : BitVec 32 := 1#32
  let v168 : BitVec 32 := Scalar.subi v167 c1_i32_35
  let v169 : BitVec 1 := Scalar.cmpi .sle v163 v168
  let v170 : BitVec 32 := Scalar.extui v169
  let v171 : BitVec 32 := Scalar.addi v162 v170
  let c16384_i32_36 : BitVec 32 := 16384#32
  let v176 : BitVec 32 := Scalar.addi v0 c16384_i32_36
  let c1_i32_37 : BitVec 32 := 1#32
  let v177 : BitVec 32 := Scalar.subi v176 c1_i32_37
  let v178 : BitVec 1 := Scalar.cmpi .sle v172 v177
  let v179 : BitVec 32 := Scalar.extui v178
  let v180 : BitVec 32 := Scalar.addi v171 v179
  let c16384_i32_38 : BitVec 32 := 16384#32
  let v185 : BitVec 32 := Scalar.addi v0 c16384_i32_38
  let c1_i32_39 : BitVec 32 := 1#32
  let v186 : BitVec 32 := Scalar.subi v185 c1_i32_39
  let v187 : BitVec 1 := Scalar.cmpi .sle v181 v186
  let v188 : BitVec 32 := Scalar.extui v187
  let v189 : BitVec 32 := Scalar.addi v180 v188
  let c16384_i32_40 : BitVec 32 := 16384#32
  let v194 : BitVec 32 := Scalar.addi v0 c16384_i32_40
  let c1_i32_41 : BitVec 32 := 1#32
  let v195 : BitVec 32 := Scalar.subi v194 c1_i32_41
  let v196 : BitVec 1 := Scalar.cmpi .sle v190 v195
  let v197 : BitVec 32 := Scalar.extui v196
  let v198 : BitVec 32 := Scalar.addi v189 v197
  let c16384_i32_42 : BitVec 32 := 16384#32
  let v203 : BitVec 32 := Scalar.addi v0 c16384_i32_42
  let c1_i32_43 : BitVec 32 := 1#32
  let v204 : BitVec 32 := Scalar.subi v203 c1_i32_43
  let v205 : BitVec 1 := Scalar.cmpi .sle v199 v204
  let v206 : BitVec 32 := Scalar.extui v205
  let v207 : BitVec 32 := Scalar.addi v198 v206
  let c16384_i32_44 : BitVec 32 := 16384#32
  let v212 : BitVec 32 := Scalar.addi v0 c16384_i32_44
  let c1_i32_45 : BitVec 32 := 1#32
  let v213 : BitVec 32 := Scalar.subi v212 c1_i32_45
  let v214 : BitVec 1 := Scalar.cmpi .sle v208 v213
  let v215 : BitVec 32 := Scalar.extui v214
  let v216 : BitVec 32 := Scalar.addi v207 v215
  let c16384_i32_46 : BitVec 32 := 16384#32
  let v221 : BitVec 32 := Scalar.addi v0 c16384_i32_46
  let c1_i32_47 : BitVec 32 := 1#32
  let v222 : BitVec 32 := Scalar.subi v221 c1_i32_47
  let v223 : BitVec 1 := Scalar.cmpi .sle v217 v222
  let v224 : BitVec 32 := Scalar.extui v223
  let v225 : BitVec 32 := Scalar.addi v216 v224
  let c16384_i32_48 : BitVec 32 := 16384#32
  let v230 : BitVec 32 := Scalar.addi v0 c16384_i32_48
  let c1_i32_49 : BitVec 32 := 1#32
  let v231 : BitVec 32 := Scalar.subi v230 c1_i32_49
  let v232 : BitVec 1 := Scalar.cmpi .sle v226 v231
  let v233 : BitVec 32 := Scalar.extui v232
  let v234 : BitVec 32 := Scalar.addi v225 v233
  let c16384_i32_50 : BitVec 32 := 16384#32
  let v239 : BitVec 32 := Scalar.addi v0 c16384_i32_50
  let c1_i32_51 : BitVec 32 := 1#32
  let v240 : BitVec 32 := Scalar.subi v239 c1_i32_51
  let v241 : BitVec 1 := Scalar.cmpi .sle v235 v240
  let v242 : BitVec 32 := Scalar.extui v241
  let v243 : BitVec 32 := Scalar.addi v234 v242
  let c1_i32_55 : BitVec 32 := 1#32
  let v267 : BitVec 32 := Scalar.addi v243 c1_i32_55
  let v268 : BitVec 32 := Scalar.subi v267 v238
  let c1_i32_57 : BitVec 32 := 1#32
  let v270 : BitVec 32 := Scalar.divsi v268 c1_i32_57
  let v271 : BitVec 32 := Scalar.muli v270 c1_i32_57
  let v272 : BitVec 32 := Scalar.addi v238 v271
  let c1_i32_58 : BitVec 32 := 1#32
  ⟨v238, v272, c1_i32_58⟩
def k0_cond4 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) : BitVec 1 :=
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c0_i32_21 : BitVec 32 := 0#32
  let c16384_i32_19 : BitVec 32 := 16384#32
  let v104 : BitVec 32 := Scalar.addi v0 c16384_i32_19
  let c1_i32_20 : BitVec 32 := 1#32
  let v105 : BitVec 32 := Scalar.subi v104 c1_i32_20
  let v106 : BitVec 1 := Scalar.cmpi .sle v100 v105
  let v107 : BitVec 32 := Scalar.extui v106
  let v108 : BitVec 32 := Scalar.addi c0_i32_21 v107
  let c16384_i32_22 : BitVec 32 := 16384#32
  let v113 : BitVec 32 := Scalar.addi v0 c16384_i32_22
  let c1_i32_23 : BitVec 32 := 1#32
  let v114 : BitVec 32 := Scalar.subi v113 c1_i32_23
  let v115 : BitVec 1 := Scalar.cmpi .sle v109 v114
  let v116 : BitVec 32 := Scalar.extui v115
  let v117 : BitVec 32 := Scalar.addi v108 v116
  let c16384_i32_24 : BitVec 32 := 16384#32
  let v122 : BitVec 32 := Scalar.addi v0 c16384_i32_24
  let c1_i32_25 : BitVec 32 := 1#32
  let v123 : BitVec 32 := Scalar.subi v122 c1_i32_25
  let v124 : BitVec 1 := Scalar.cmpi .sle v118 v123
  let v125 : BitVec 32 := Scalar.extui v124
  let v126 : BitVec 32 := Scalar.addi v117 v125
  let c16384_i32_26 : BitVec 32 := 16384#32
  let v131 : BitVec 32 := Scalar.addi v0 c16384_i32_26
  let c1_i32_27 : BitVec 32 := 1#32
  let v132 : BitVec 32 := Scalar.subi v131 c1_i32_27
  let v133 : BitVec 1 := Scalar.cmpi .sle v127 v132
  let v134 : BitVec 32 := Scalar.extui v133
  let v135 : BitVec 32 := Scalar.addi v126 v134
  let c16384_i32_28 : BitVec 32 := 16384#32
  let v140 : BitVec 32 := Scalar.addi v0 c16384_i32_28
  let c1_i32_29 : BitVec 32 := 1#32
  let v141 : BitVec 32 := Scalar.subi v140 c1_i32_29
  let v142 : BitVec 1 := Scalar.cmpi .sle v136 v141
  let v143 : BitVec 32 := Scalar.extui v142
  let v144 : BitVec 32 := Scalar.addi v135 v143
  let c16384_i32_30 : BitVec 32 := 16384#32
  let v149 : BitVec 32 := Scalar.addi v0 c16384_i32_30
  let c1_i32_31 : BitVec 32 := 1#32
  let v150 : BitVec 32 := Scalar.subi v149 c1_i32_31
  let v151 : BitVec 1 := Scalar.cmpi .sle v145 v150
  let v152 : BitVec 32 := Scalar.extui v151
  let v153 : BitVec 32 := Scalar.addi v144 v152
  let c16384_i32_32 : BitVec 32 := 16384#32
  let v158 : BitVec 32 := Scalar.addi v0 c16384_i32_32
  let c1_i32_33 : BitVec 32 := 1#32
  let v159 : BitVec 32 := Scalar.subi v158 c1_i32_33
  let v160 : BitVec 1 := Scalar.cmpi .sle v154 v159
  let v161 : BitVec 32 := Scalar.extui v160
  let v162 : BitVec 32 := Scalar.addi v153 v161
  let c16384_i32_34 : BitVec 32 := 16384#32
  let v167 : BitVec 32 := Scalar.addi v0 c16384_i32_34
  let c1_i32_35 : BitVec 32 := 1#32
  let v168 : BitVec 32 := Scalar.subi v167 c1_i32_35
  let v169 : BitVec 1 := Scalar.cmpi .sle v163 v168
  let v170 : BitVec 32 := Scalar.extui v169
  let v171 : BitVec 32 := Scalar.addi v162 v170
  let c16384_i32_36 : BitVec 32 := 16384#32
  let v176 : BitVec 32 := Scalar.addi v0 c16384_i32_36
  let c1_i32_37 : BitVec 32 := 1#32
  let v177 : BitVec 32 := Scalar.subi v176 c1_i32_37
  let v178 : BitVec 1 := Scalar.cmpi .sle v172 v177
  let v179 : BitVec 32 := Scalar.extui v178
  let v180 : BitVec 32 := Scalar.addi v171 v179
  let c16384_i32_38 : BitVec 32 := 16384#32
  let v185 : BitVec 32 := Scalar.addi v0 c16384_i32_38
  let c1_i32_39 : BitVec 32 := 1#32
  let v186 : BitVec 32 := Scalar.subi v185 c1_i32_39
  let v187 : BitVec 1 := Scalar.cmpi .sle v181 v186
  let v188 : BitVec 32 := Scalar.extui v187
  let v189 : BitVec 32 := Scalar.addi v180 v188
  let c16384_i32_40 : BitVec 32 := 16384#32
  let v194 : BitVec 32 := Scalar.addi v0 c16384_i32_40
  let c1_i32_41 : BitVec 32 := 1#32
  let v195 : BitVec 32 := Scalar.subi v194 c1_i32_41
  let v196 : BitVec 1 := Scalar.cmpi .sle v190 v195
  let v197 : BitVec 32 := Scalar.extui v196
  let v198 : BitVec 32 := Scalar.addi v189 v197
  let c16384_i32_42 : BitVec 32 := 16384#32
  let v203 : BitVec 32 := Scalar.addi v0 c16384_i32_42
  let c1_i32_43 : BitVec 32 := 1#32
  let v204 : BitVec 32 := Scalar.subi v203 c1_i32_43
  let v205 : BitVec 1 := Scalar.cmpi .sle v199 v204
  let v206 : BitVec 32 := Scalar.extui v205
  let v207 : BitVec 32 := Scalar.addi v198 v206
  let c16384_i32_44 : BitVec 32 := 16384#32
  let v212 : BitVec 32 := Scalar.addi v0 c16384_i32_44
  let c1_i32_45 : BitVec 32 := 1#32
  let v213 : BitVec 32 := Scalar.subi v212 c1_i32_45
  let v214 : BitVec 1 := Scalar.cmpi .sle v208 v213
  let v215 : BitVec 32 := Scalar.extui v214
  let v216 : BitVec 32 := Scalar.addi v207 v215
  let c16384_i32_46 : BitVec 32 := 16384#32
  let v221 : BitVec 32 := Scalar.addi v0 c16384_i32_46
  let c1_i32_47 : BitVec 32 := 1#32
  let v222 : BitVec 32 := Scalar.subi v221 c1_i32_47
  let v223 : BitVec 1 := Scalar.cmpi .sle v217 v222
  let v224 : BitVec 32 := Scalar.extui v223
  let v225 : BitVec 32 := Scalar.addi v216 v224
  let c16384_i32_48 : BitVec 32 := 16384#32
  let v230 : BitVec 32 := Scalar.addi v0 c16384_i32_48
  let c1_i32_49 : BitVec 32 := 1#32
  let v231 : BitVec 32 := Scalar.subi v230 c1_i32_49
  let v232 : BitVec 1 := Scalar.cmpi .sle v226 v231
  let v233 : BitVec 32 := Scalar.extui v232
  let v234 : BitVec 32 := Scalar.addi v225 v233
  let c16384_i32_50 : BitVec 32 := 16384#32
  let v239 : BitVec 32 := Scalar.addi v0 c16384_i32_50
  let c1_i32_51 : BitVec 32 := 1#32
  let v240 : BitVec 32 := Scalar.subi v239 c1_i32_51
  let v241 : BitVec 1 := Scalar.cmpi .sle v235 v240
  let v242 : BitVec 32 := Scalar.extui v241
  let v243 : BitVec 32 := Scalar.addi v234 v242
  let v262 : BitVec 1 := Scalar.cmpi .ne v238 v243
  let v263 : BitVec 32 := Scalar.extui v262
  let c0_i32_54 : BitVec 32 := 0#32
  let v264 : BitVec 1 := Scalar.cmpi .ne v263 c0_i32_54
  v264

def k0_off2 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) : Fin 1 → Nat :=
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c1_i32_58 : BitVec 32 := 1#32
  let arg18 : BitVec 32 := Scf.iv v238 c1_i32_58 k0_t1
  let c1_i32_61 : BitVec 32 := 1#32
  let v274 : BitVec 32 := Scalar.subi arg18 c1_i32_61
  let c0_i32_62 : BitVec 32 := 0#32
  let v275 : BitVec 32 := Scalar.maxsi v274 c0_i32_62
  let v276 : Index := Scalar.indexCast v275
  ![v276.toNat]
def k0_off3 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) : Fin 1 → Nat :=
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c1_i32_58 : BitVec 32 := 1#32
  let arg18 : BitVec 32 := Scf.iv v238 c1_i32_58 k0_t1
  let c15_i32 : BitVec 32 := 15#32
  let v280 : BitVec 32 := Scalar.minsi arg18 c15_i32
  let v281 : Index := Scalar.indexCast v280
  ![v281.toNat]
def k0_mult1 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v277 : BitVec 32) : BitVec 32 :=
  let c127_i32 : BitVec 32 := 127#32
  let c0_i32_71 : BitVec 32 := 0#32
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c1_i32_58 : BitVec 32 := 1#32
  let arg18 : BitVec 32 := Scf.iv v238 c1_i32_58 k0_t1
  let c0_i32_60 : BitVec 32 := 0#32
  let v273 : BitVec 1 := Scalar.cmpi .eq arg18 c0_i32_60
  let c0_i32_63 : BitVec 32 := 0#32
  let v278 : BitVec 32 := Scalar.select v273 c0_i32_63 v277
  let v284 : BitVec 32 := Scalar.maxsi v278 v0
  let v287 : BitVec 32 := Scalar.subi v284 v0
  let c0_i32_65 : BitVec 32 := 0#32
  let v289 : BitVec 1 := Scalar.cmpi .sgt v287 c0_i32_65
  let v290 : BitVec 32 := Scalar.extui v289
  let c0_i32_66 : BitVec 32 := 0#32
  let v291 : BitVec 1 := Scalar.cmpi .slt v287 c0_i32_66
  let v292 : BitVec 32 := Scalar.extui v291
  let v293 : BitVec 32 := Scalar.subi v290 v292
  let c128_i32 : BitVec 32 := 128#32
  let c0_i32_67 : BitVec 32 := 0#32
  let v294 : BitVec 1 := Scalar.cmpi .sgt c128_i32 c0_i32_67
  let v295 : BitVec 32 := Scalar.extui v294
  let c0_i32_68 : BitVec 32 := 0#32
  let v296 : BitVec 1 := Scalar.cmpi .slt c128_i32 c0_i32_68
  let v297 : BitVec 32 := Scalar.extui v296
  let v298 : BitVec 32 := Scalar.subi v295 v297
  let v299 : BitVec 1 := Scalar.cmpi .ne v293 v298
  let v300 : BitVec 32 := Scalar.remsi v287 c128_i32
  let c0_i32_69 : BitVec 32 := 0#32
  let v301 : BitVec 1 := Scalar.cmpi .ne v300 c0_i32_69
  let v302 : BitVec 1 := Scalar.andi v299 v301
  let v288 : BitVec 32 := Scalar.divsi v287 c128_i32
  let c1_i32_70 : BitVec 32 := 1#32
  let v303 : BitVec 32 := Scalar.subi v288 c1_i32_70
  let v304 : BitVec 32 := Scalar.select v302 v303 v288
  let v305 : BitVec 32 := Scalar.maxsi c0_i32_71 v304
  let v306 : BitVec 32 := Scalar.minsi c127_i32 v305
  let c128_i32_85 : BitVec 32 := 128#32
  let v348 : BitVec 32 := Scalar.muli v306 c128_i32_85
  v348

def k0_off4 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v277 : BitVec 32) : Fin 3 → Nat :=
  let arg1 : BitVec 32 := BitVec.ofNat 32 (i 1).val
  let v350 : Index := Scalar.indexCast arg1
  let c127_i32 : BitVec 32 := 127#32
  let c0_i32_71 : BitVec 32 := 0#32
  let c0_i32_18 : BitVec 32 := 0#32
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c1_i32_58 : BitVec 32 := 1#32
  let arg18 : BitVec 32 := Scf.iv v238 c1_i32_58 k0_t1
  let c0_i32_60 : BitVec 32 := 0#32
  let v273 : BitVec 1 := Scalar.cmpi .eq arg18 c0_i32_60
  let c0_i32_63 : BitVec 32 := 0#32
  let v278 : BitVec 32 := Scalar.select v273 c0_i32_63 v277
  let v284 : BitVec 32 := Scalar.maxsi v278 v0
  let v287 : BitVec 32 := Scalar.subi v284 v0
  let c0_i32_65 : BitVec 32 := 0#32
  let v289 : BitVec 1 := Scalar.cmpi .sgt v287 c0_i32_65
  let v290 : BitVec 32 := Scalar.extui v289
  let c0_i32_66 : BitVec 32 := 0#32
  let v291 : BitVec 1 := Scalar.cmpi .slt v287 c0_i32_66
  let v292 : BitVec 32 := Scalar.extui v291
  let v293 : BitVec 32 := Scalar.subi v290 v292
  let c128_i32 : BitVec 32 := 128#32
  let c0_i32_67 : BitVec 32 := 0#32
  let v294 : BitVec 1 := Scalar.cmpi .sgt c128_i32 c0_i32_67
  let v295 : BitVec 32 := Scalar.extui v294
  let c0_i32_68 : BitVec 32 := 0#32
  let v296 : BitVec 1 := Scalar.cmpi .slt c128_i32 c0_i32_68
  let v297 : BitVec 32 := Scalar.extui v296
  let v298 : BitVec 32 := Scalar.subi v295 v297
  let v299 : BitVec 1 := Scalar.cmpi .ne v293 v298
  let v300 : BitVec 32 := Scalar.remsi v287 c128_i32
  let c0_i32_69 : BitVec 32 := 0#32
  let v301 : BitVec 1 := Scalar.cmpi .ne v300 c0_i32_69
  let v302 : BitVec 1 := Scalar.andi v299 v301
  let v288 : BitVec 32 := Scalar.divsi v287 c128_i32
  let c1_i32_70 : BitVec 32 := 1#32
  let v303 : BitVec 32 := Scalar.subi v288 c1_i32_70
  let v304 : BitVec 32 := Scalar.select v302 v303 v288
  let v305 : BitVec 32 := Scalar.maxsi c0_i32_71 v304
  let v306 : BitVec 32 := Scalar.minsi c127_i32 v305
  let c128_i32_85 : BitVec 32 := 128#32
  let v348 : BitVec 32 := Scalar.muli v306 c128_i32_85
  let v349 : BitVec 32 := v348
  let v351 : Index := Scalar.indexCast v349
  let c0_86 : Index := 0#32
  ![v350.toNat, v351.toNat, 0]

def k0_chk2 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v277 : BitVec 32) : Prop :=
  (∀ (k0_h1 : k0_cond1 i = 1#1), ∀ (k0_h4 : k0_cond4 i v100 v109 v118 v127 v136 v145 v154 v163 v172 v181 v190 v199 v208 v217 v226 v235 = 1#1), 128 ∣ (k0_mult1 i v100 v109 v118 v127 v136 v145 v154 v163 v172 v181 v190 v199 v208 v217 v226 v235 k0_t1 v277).toNat) ∧
  (∀ (k0_h1 : k0_cond1 i = 1#1), ∀ (k0_h4 : k0_cond4 i v100 v109 v118 v127 v136 v145 v154 v163 v172 v181 v190 v199 v208 v217 v226 v235 = 1#1), ∀ a, (k0_off4 i v100 v109 v118 v127 v136 v145 v154 v163 v172 v181 v190 v199 v208 v217 v226 v235 k0_t1 v277) a + S1x128x128.size a ≤ S2x16384x128.size a)
theorem k0_mult1_dvd : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v277 : BitVec 32) (k0_hw2 : k0_chk2 i v100 v109 v118 v127 v136 v145 v154 v163 v172 v181 v190 v199 v208 v217 v226 v235 k0_t1 v277), ∀ (k0_h1 : k0_cond1 i = 1#1), ∀ (k0_h4 : k0_cond4 i v100 v109 v118 v127 v136 v145 v154 v163 v172 v181 v190 v199 v208 v217 v226 v235 = 1#1), 128 ∣ (k0_mult1 i v100 v109 v118 v127 v136 v145 v154 v163 v172 v181 v190 v199 v208 v217 v226 v235 k0_t1 v277).toNat := fun i v100 v109 v118 v127 v136 v145 v154 v163 v172 v181 v190 v199 v208 v217 v226 v235 k0_t1 v277 k0_hw2 k0_h1 k0_h4 => k0_hw2.1 k0_h1 k0_h4
theorem k0_off4_inb : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v277 : BitVec 32) (k0_hw2 : k0_chk2 i v100 v109 v118 v127 v136 v145 v154 v163 v172 v181 v190 v199 v208 v217 v226 v235 k0_t1 v277), ∀ (k0_h1 : k0_cond1 i = 1#1), ∀ (k0_h4 : k0_cond4 i v100 v109 v118 v127 v136 v145 v154 v163 v172 v181 v190 v199 v208 v217 v226 v235 = 1#1), ∀ a, (k0_off4 i v100 v109 v118 v127 v136 v145 v154 v163 v172 v181 v190 v199 v208 v217 v226 v235 k0_t1 v277) a + S1x128x128.size a ≤ S2x16384x128.size a := fun i v100 v109 v118 v127 v136 v145 v154 v163 v172 v181 v190 v199 v208 v217 v226 v235 k0_t1 v277 k0_hw2 k0_h1 k0_h4 => k0_hw2.2 k0_h1 k0_h4

def k0_mult2 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v282 : BitVec 32) : BitVec 32 :=
  let c127_i32_81 : BitVec 32 := 127#32
  let c0_i32_80 : BitVec 32 := 0#32
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c1_i32_58 : BitVec 32 := 1#32
  let arg18 : BitVec 32 := Scf.iv v238 c1_i32_58 k0_t1
  let c16_i32 : BitVec 32 := 16#32
  let v279 : BitVec 1 := Scalar.cmpi .eq arg18 c16_i32
  let c32768_i32 : BitVec 32 := 32768#32
  let v283 : BitVec 32 := Scalar.select v279 c32768_i32 v282
  let c16384_i32_64 : BitVec 32 := 16384#32
  let v285 : BitVec 32 := Scalar.addi v0 c16384_i32_64
  let v286 : BitVec 32 := Scalar.minsi v283 v285
  let c1_i32_72 : BitVec 32 := 1#32
  let v307 : BitVec 32 := Scalar.subi v286 c1_i32_72
  let v308 : BitVec 32 := Scalar.subi v307 v0
  let c0_i32_74 : BitVec 32 := 0#32
  let v310 : BitVec 1 := Scalar.cmpi .sgt v308 c0_i32_74
  let v311 : BitVec 32 := Scalar.extui v310
  let c0_i32_75 : BitVec 32 := 0#32
  let v312 : BitVec 1 := Scalar.cmpi .slt v308 c0_i32_75
  let v313 : BitVec 32 := Scalar.extui v312
  let v314 : BitVec 32 := Scalar.subi v311 v313
  let c128_i32_73 : BitVec 32 := 128#32
  let c0_i32_76 : BitVec 32 := 0#32
  let v315 : BitVec 1 := Scalar.cmpi .sgt c128_i32_73 c0_i32_76
  let v316 : BitVec 32 := Scalar.extui v315
  let c0_i32_77 : BitVec 32 := 0#32
  let v317 : BitVec 1 := Scalar.cmpi .slt c128_i32_73 c0_i32_77
  let v318 : BitVec 32 := Scalar.extui v317
  let v319 : BitVec 32 := Scalar.subi v316 v318
  let v320 : BitVec 1 := Scalar.cmpi .ne v314 v319
  let v321 : BitVec 32 := Scalar.remsi v308 c128_i32_73
  let c0_i32_78 : BitVec 32 := 0#32
  let v322 : BitVec 1 := Scalar.cmpi .ne v321 c0_i32_78
  let v323 : BitVec 1 := Scalar.andi v320 v322
  let v309 : BitVec 32 := Scalar.divsi v308 c128_i32_73
  let c1_i32_79 : BitVec 32 := 1#32
  let v324 : BitVec 32 := Scalar.subi v309 c1_i32_79
  let v325 : BitVec 32 := Scalar.select v323 v324 v309
  let v326 : BitVec 32 := Scalar.maxsi c0_i32_80 v325
  let v327 : BitVec 32 := Scalar.minsi c127_i32_81 v326
  let c128_i32_90 : BitVec 32 := 128#32
  let v369 : BitVec 32 := Scalar.muli v327 c128_i32_90
  v369

def k0_off5 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v282 : BitVec 32) : Fin 3 → Nat :=
  let arg1 : BitVec 32 := BitVec.ofNat 32 (i 1).val
  let v371 : Index := Scalar.indexCast arg1
  let c127_i32_81 : BitVec 32 := 127#32
  let c0_i32_80 : BitVec 32 := 0#32
  let c0_i32_18 : BitVec 32 := 0#32
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c1_i32_58 : BitVec 32 := 1#32
  let arg18 : BitVec 32 := Scf.iv v238 c1_i32_58 k0_t1
  let c16_i32 : BitVec 32 := 16#32
  let v279 : BitVec 1 := Scalar.cmpi .eq arg18 c16_i32
  let c32768_i32 : BitVec 32 := 32768#32
  let v283 : BitVec 32 := Scalar.select v279 c32768_i32 v282
  let c16384_i32_64 : BitVec 32 := 16384#32
  let v285 : BitVec 32 := Scalar.addi v0 c16384_i32_64
  let v286 : BitVec 32 := Scalar.minsi v283 v285
  let c1_i32_72 : BitVec 32 := 1#32
  let v307 : BitVec 32 := Scalar.subi v286 c1_i32_72
  let v308 : BitVec 32 := Scalar.subi v307 v0
  let c0_i32_74 : BitVec 32 := 0#32
  let v310 : BitVec 1 := Scalar.cmpi .sgt v308 c0_i32_74
  let v311 : BitVec 32 := Scalar.extui v310
  let c0_i32_75 : BitVec 32 := 0#32
  let v312 : BitVec 1 := Scalar.cmpi .slt v308 c0_i32_75
  let v313 : BitVec 32 := Scalar.extui v312
  let v314 : BitVec 32 := Scalar.subi v311 v313
  let c128_i32_73 : BitVec 32 := 128#32
  let c0_i32_76 : BitVec 32 := 0#32
  let v315 : BitVec 1 := Scalar.cmpi .sgt c128_i32_73 c0_i32_76
  let v316 : BitVec 32 := Scalar.extui v315
  let c0_i32_77 : BitVec 32 := 0#32
  let v317 : BitVec 1 := Scalar.cmpi .slt c128_i32_73 c0_i32_77
  let v318 : BitVec 32 := Scalar.extui v317
  let v319 : BitVec 32 := Scalar.subi v316 v318
  let v320 : BitVec 1 := Scalar.cmpi .ne v314 v319
  let v321 : BitVec 32 := Scalar.remsi v308 c128_i32_73
  let c0_i32_78 : BitVec 32 := 0#32
  let v322 : BitVec 1 := Scalar.cmpi .ne v321 c0_i32_78
  let v323 : BitVec 1 := Scalar.andi v320 v322
  let v309 : BitVec 32 := Scalar.divsi v308 c128_i32_73
  let c1_i32_79 : BitVec 32 := 1#32
  let v324 : BitVec 32 := Scalar.subi v309 c1_i32_79
  let v325 : BitVec 32 := Scalar.select v323 v324 v309
  let v326 : BitVec 32 := Scalar.maxsi c0_i32_80 v325
  let v327 : BitVec 32 := Scalar.minsi c127_i32_81 v326
  let c128_i32_90 : BitVec 32 := 128#32
  let v369 : BitVec 32 := Scalar.muli v327 c128_i32_90
  let v370 : BitVec 32 := v369
  let v372 : Index := Scalar.indexCast v370
  let c0_91 : Index := 0#32
  ![v371.toNat, v372.toNat, 0]

def k0_chk3 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v282 : BitVec 32) : Prop :=
  (∀ (k0_h1 : k0_cond1 i = 1#1), ∀ (k0_h4 : k0_cond4 i v100 v109 v118 v127 v136 v145 v154 v163 v172 v181 v190 v199 v208 v217 v226 v235 = 1#1), 128 ∣ (k0_mult2 i v100 v109 v118 v127 v136 v145 v154 v163 v172 v181 v190 v199 v208 v217 v226 v235 k0_t1 v282).toNat) ∧
  (∀ (k0_h1 : k0_cond1 i = 1#1), ∀ (k0_h4 : k0_cond4 i v100 v109 v118 v127 v136 v145 v154 v163 v172 v181 v190 v199 v208 v217 v226 v235 = 1#1), ∀ a, (k0_off5 i v100 v109 v118 v127 v136 v145 v154 v163 v172 v181 v190 v199 v208 v217 v226 v235 k0_t1 v282) a + S1x128x128.size a ≤ S2x16384x128.size a)
theorem k0_mult2_dvd : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v282 : BitVec 32) (k0_hw3 : k0_chk3 i v100 v109 v118 v127 v136 v145 v154 v163 v172 v181 v190 v199 v208 v217 v226 v235 k0_t1 v282), ∀ (k0_h1 : k0_cond1 i = 1#1), ∀ (k0_h4 : k0_cond4 i v100 v109 v118 v127 v136 v145 v154 v163 v172 v181 v190 v199 v208 v217 v226 v235 = 1#1), 128 ∣ (k0_mult2 i v100 v109 v118 v127 v136 v145 v154 v163 v172 v181 v190 v199 v208 v217 v226 v235 k0_t1 v282).toNat := fun i v100 v109 v118 v127 v136 v145 v154 v163 v172 v181 v190 v199 v208 v217 v226 v235 k0_t1 v282 k0_hw3 k0_h1 k0_h4 => k0_hw3.1 k0_h1 k0_h4
theorem k0_off5_inb : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t1 : Fin (k0_t1_loop i v100 v109 v118 v127 v136 v145 v154 v163 v172 v181 v190 v199 v208 v217 v226 v235).trips) (v282 : BitVec 32) (k0_hw3 : k0_chk3 i v100 v109 v118 v127 v136 v145 v154 v163 v172 v181 v190 v199 v208 v217 v226 v235 k0_t1 v282), ∀ (k0_h1 : k0_cond1 i = 1#1), ∀ (k0_h4 : k0_cond4 i v100 v109 v118 v127 v136 v145 v154 v163 v172 v181 v190 v199 v208 v217 v226 v235 = 1#1), ∀ a, (k0_off5 i v100 v109 v118 v127 v136 v145 v154 v163 v172 v181 v190 v199 v208 v217 v226 v235 k0_t1 v282) a + S1x128x128.size a ≤ S2x16384x128.size a := fun i v100 v109 v118 v127 v136 v145 v154 v163 v172 v181 v190 v199 v208 v217 v226 v235 k0_t1 v282 k0_hw3 k0_h1 k0_h4 => k0_hw3.2 k0_h1 k0_h4

@[reducible] def k0_t2_loop (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) : Scf.Loop 32 :=
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c0_i32_21 : BitVec 32 := 0#32
  let c16384_i32_19 : BitVec 32 := 16384#32
  let v104 : BitVec 32 := Scalar.addi v0 c16384_i32_19
  let c1_i32_20 : BitVec 32 := 1#32
  let v105 : BitVec 32 := Scalar.subi v104 c1_i32_20
  let v106 : BitVec 1 := Scalar.cmpi .sle v100 v105
  let v107 : BitVec 32 := Scalar.extui v106
  let v108 : BitVec 32 := Scalar.addi c0_i32_21 v107
  let c16384_i32_22 : BitVec 32 := 16384#32
  let v113 : BitVec 32 := Scalar.addi v0 c16384_i32_22
  let c1_i32_23 : BitVec 32 := 1#32
  let v114 : BitVec 32 := Scalar.subi v113 c1_i32_23
  let v115 : BitVec 1 := Scalar.cmpi .sle v109 v114
  let v116 : BitVec 32 := Scalar.extui v115
  let v117 : BitVec 32 := Scalar.addi v108 v116
  let c16384_i32_24 : BitVec 32 := 16384#32
  let v122 : BitVec 32 := Scalar.addi v0 c16384_i32_24
  let c1_i32_25 : BitVec 32 := 1#32
  let v123 : BitVec 32 := Scalar.subi v122 c1_i32_25
  let v124 : BitVec 1 := Scalar.cmpi .sle v118 v123
  let v125 : BitVec 32 := Scalar.extui v124
  let v126 : BitVec 32 := Scalar.addi v117 v125
  let c16384_i32_26 : BitVec 32 := 16384#32
  let v131 : BitVec 32 := Scalar.addi v0 c16384_i32_26
  let c1_i32_27 : BitVec 32 := 1#32
  let v132 : BitVec 32 := Scalar.subi v131 c1_i32_27
  let v133 : BitVec 1 := Scalar.cmpi .sle v127 v132
  let v134 : BitVec 32 := Scalar.extui v133
  let v135 : BitVec 32 := Scalar.addi v126 v134
  let c16384_i32_28 : BitVec 32 := 16384#32
  let v140 : BitVec 32 := Scalar.addi v0 c16384_i32_28
  let c1_i32_29 : BitVec 32 := 1#32
  let v141 : BitVec 32 := Scalar.subi v140 c1_i32_29
  let v142 : BitVec 1 := Scalar.cmpi .sle v136 v141
  let v143 : BitVec 32 := Scalar.extui v142
  let v144 : BitVec 32 := Scalar.addi v135 v143
  let c16384_i32_30 : BitVec 32 := 16384#32
  let v149 : BitVec 32 := Scalar.addi v0 c16384_i32_30
  let c1_i32_31 : BitVec 32 := 1#32
  let v150 : BitVec 32 := Scalar.subi v149 c1_i32_31
  let v151 : BitVec 1 := Scalar.cmpi .sle v145 v150
  let v152 : BitVec 32 := Scalar.extui v151
  let v153 : BitVec 32 := Scalar.addi v144 v152
  let c16384_i32_32 : BitVec 32 := 16384#32
  let v158 : BitVec 32 := Scalar.addi v0 c16384_i32_32
  let c1_i32_33 : BitVec 32 := 1#32
  let v159 : BitVec 32 := Scalar.subi v158 c1_i32_33
  let v160 : BitVec 1 := Scalar.cmpi .sle v154 v159
  let v161 : BitVec 32 := Scalar.extui v160
  let v162 : BitVec 32 := Scalar.addi v153 v161
  let c16384_i32_34 : BitVec 32 := 16384#32
  let v167 : BitVec 32 := Scalar.addi v0 c16384_i32_34
  let c1_i32_35 : BitVec 32 := 1#32
  let v168 : BitVec 32 := Scalar.subi v167 c1_i32_35
  let v169 : BitVec 1 := Scalar.cmpi .sle v163 v168
  let v170 : BitVec 32 := Scalar.extui v169
  let v171 : BitVec 32 := Scalar.addi v162 v170
  let c16384_i32_36 : BitVec 32 := 16384#32
  let v176 : BitVec 32 := Scalar.addi v0 c16384_i32_36
  let c1_i32_37 : BitVec 32 := 1#32
  let v177 : BitVec 32 := Scalar.subi v176 c1_i32_37
  let v178 : BitVec 1 := Scalar.cmpi .sle v172 v177
  let v179 : BitVec 32 := Scalar.extui v178
  let v180 : BitVec 32 := Scalar.addi v171 v179
  let c16384_i32_38 : BitVec 32 := 16384#32
  let v185 : BitVec 32 := Scalar.addi v0 c16384_i32_38
  let c1_i32_39 : BitVec 32 := 1#32
  let v186 : BitVec 32 := Scalar.subi v185 c1_i32_39
  let v187 : BitVec 1 := Scalar.cmpi .sle v181 v186
  let v188 : BitVec 32 := Scalar.extui v187
  let v189 : BitVec 32 := Scalar.addi v180 v188
  let c16384_i32_40 : BitVec 32 := 16384#32
  let v194 : BitVec 32 := Scalar.addi v0 c16384_i32_40
  let c1_i32_41 : BitVec 32 := 1#32
  let v195 : BitVec 32 := Scalar.subi v194 c1_i32_41
  let v196 : BitVec 1 := Scalar.cmpi .sle v190 v195
  let v197 : BitVec 32 := Scalar.extui v196
  let v198 : BitVec 32 := Scalar.addi v189 v197
  let c16384_i32_42 : BitVec 32 := 16384#32
  let v203 : BitVec 32 := Scalar.addi v0 c16384_i32_42
  let c1_i32_43 : BitVec 32 := 1#32
  let v204 : BitVec 32 := Scalar.subi v203 c1_i32_43
  let v205 : BitVec 1 := Scalar.cmpi .sle v199 v204
  let v206 : BitVec 32 := Scalar.extui v205
  let v207 : BitVec 32 := Scalar.addi v198 v206
  let c16384_i32_44 : BitVec 32 := 16384#32
  let v212 : BitVec 32 := Scalar.addi v0 c16384_i32_44
  let c1_i32_45 : BitVec 32 := 1#32
  let v213 : BitVec 32 := Scalar.subi v212 c1_i32_45
  let v214 : BitVec 1 := Scalar.cmpi .sle v208 v213
  let v215 : BitVec 32 := Scalar.extui v214
  let v216 : BitVec 32 := Scalar.addi v207 v215
  let c16384_i32_46 : BitVec 32 := 16384#32
  let v221 : BitVec 32 := Scalar.addi v0 c16384_i32_46
  let c1_i32_47 : BitVec 32 := 1#32
  let v222 : BitVec 32 := Scalar.subi v221 c1_i32_47
  let v223 : BitVec 1 := Scalar.cmpi .sle v217 v222
  let v224 : BitVec 32 := Scalar.extui v223
  let v225 : BitVec 32 := Scalar.addi v216 v224
  let c16384_i32_48 : BitVec 32 := 16384#32
  let v230 : BitVec 32 := Scalar.addi v0 c16384_i32_48
  let c1_i32_49 : BitVec 32 := 1#32
  let v231 : BitVec 32 := Scalar.subi v230 c1_i32_49
  let v232 : BitVec 1 := Scalar.cmpi .sle v226 v231
  let v233 : BitVec 32 := Scalar.extui v232
  let v234 : BitVec 32 := Scalar.addi v225 v233
  let c16384_i32_50 : BitVec 32 := 16384#32
  let v239 : BitVec 32 := Scalar.addi v0 c16384_i32_50
  let c1_i32_51 : BitVec 32 := 1#32
  let v240 : BitVec 32 := Scalar.subi v239 c1_i32_51
  let v241 : BitVec 1 := Scalar.cmpi .sle v235 v240
  let v242 : BitVec 32 := Scalar.extui v241
  let v243 : BitVec 32 := Scalar.addi v234 v242
  let c1_i32_55 : BitVec 32 := 1#32
  let v267 : BitVec 32 := Scalar.addi v243 c1_i32_55
  let v268 : BitVec 32 := Scalar.subi v267 v238
  let c1_i32_57 : BitVec 32 := 1#32
  let v270 : BitVec 32 := Scalar.divsi v268 c1_i32_57
  let v271 : BitVec 32 := Scalar.muli v270 c1_i32_57
  let v272 : BitVec 32 := Scalar.addi v238 v271
  let v269 : BitVec 32 := Scalar.addi v238 v268
  let c1_i32_59 : BitVec 32 := 1#32
  ⟨v272, v269, c1_i32_59⟩
def k0_off6 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) : Fin 1 → Nat :=
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c0_i32_21 : BitVec 32 := 0#32
  let c16384_i32_19 : BitVec 32 := 16384#32
  let v104 : BitVec 32 := Scalar.addi v0 c16384_i32_19
  let c1_i32_20 : BitVec 32 := 1#32
  let v105 : BitVec 32 := Scalar.subi v104 c1_i32_20
  let v106 : BitVec 1 := Scalar.cmpi .sle v100 v105
  let v107 : BitVec 32 := Scalar.extui v106
  let v108 : BitVec 32 := Scalar.addi c0_i32_21 v107
  let c16384_i32_22 : BitVec 32 := 16384#32
  let v113 : BitVec 32 := Scalar.addi v0 c16384_i32_22
  let c1_i32_23 : BitVec 32 := 1#32
  let v114 : BitVec 32 := Scalar.subi v113 c1_i32_23
  let v115 : BitVec 1 := Scalar.cmpi .sle v109 v114
  let v116 : BitVec 32 := Scalar.extui v115
  let v117 : BitVec 32 := Scalar.addi v108 v116
  let c16384_i32_24 : BitVec 32 := 16384#32
  let v122 : BitVec 32 := Scalar.addi v0 c16384_i32_24
  let c1_i32_25 : BitVec 32 := 1#32
  let v123 : BitVec 32 := Scalar.subi v122 c1_i32_25
  let v124 : BitVec 1 := Scalar.cmpi .sle v118 v123
  let v125 : BitVec 32 := Scalar.extui v124
  let v126 : BitVec 32 := Scalar.addi v117 v125
  let c16384_i32_26 : BitVec 32 := 16384#32
  let v131 : BitVec 32 := Scalar.addi v0 c16384_i32_26
  let c1_i32_27 : BitVec 32 := 1#32
  let v132 : BitVec 32 := Scalar.subi v131 c1_i32_27
  let v133 : BitVec 1 := Scalar.cmpi .sle v127 v132
  let v134 : BitVec 32 := Scalar.extui v133
  let v135 : BitVec 32 := Scalar.addi v126 v134
  let c16384_i32_28 : BitVec 32 := 16384#32
  let v140 : BitVec 32 := Scalar.addi v0 c16384_i32_28
  let c1_i32_29 : BitVec 32 := 1#32
  let v141 : BitVec 32 := Scalar.subi v140 c1_i32_29
  let v142 : BitVec 1 := Scalar.cmpi .sle v136 v141
  let v143 : BitVec 32 := Scalar.extui v142
  let v144 : BitVec 32 := Scalar.addi v135 v143
  let c16384_i32_30 : BitVec 32 := 16384#32
  let v149 : BitVec 32 := Scalar.addi v0 c16384_i32_30
  let c1_i32_31 : BitVec 32 := 1#32
  let v150 : BitVec 32 := Scalar.subi v149 c1_i32_31
  let v151 : BitVec 1 := Scalar.cmpi .sle v145 v150
  let v152 : BitVec 32 := Scalar.extui v151
  let v153 : BitVec 32 := Scalar.addi v144 v152
  let c16384_i32_32 : BitVec 32 := 16384#32
  let v158 : BitVec 32 := Scalar.addi v0 c16384_i32_32
  let c1_i32_33 : BitVec 32 := 1#32
  let v159 : BitVec 32 := Scalar.subi v158 c1_i32_33
  let v160 : BitVec 1 := Scalar.cmpi .sle v154 v159
  let v161 : BitVec 32 := Scalar.extui v160
  let v162 : BitVec 32 := Scalar.addi v153 v161
  let c16384_i32_34 : BitVec 32 := 16384#32
  let v167 : BitVec 32 := Scalar.addi v0 c16384_i32_34
  let c1_i32_35 : BitVec 32 := 1#32
  let v168 : BitVec 32 := Scalar.subi v167 c1_i32_35
  let v169 : BitVec 1 := Scalar.cmpi .sle v163 v168
  let v170 : BitVec 32 := Scalar.extui v169
  let v171 : BitVec 32 := Scalar.addi v162 v170
  let c16384_i32_36 : BitVec 32 := 16384#32
  let v176 : BitVec 32 := Scalar.addi v0 c16384_i32_36
  let c1_i32_37 : BitVec 32 := 1#32
  let v177 : BitVec 32 := Scalar.subi v176 c1_i32_37
  let v178 : BitVec 1 := Scalar.cmpi .sle v172 v177
  let v179 : BitVec 32 := Scalar.extui v178
  let v180 : BitVec 32 := Scalar.addi v171 v179
  let c16384_i32_38 : BitVec 32 := 16384#32
  let v185 : BitVec 32 := Scalar.addi v0 c16384_i32_38
  let c1_i32_39 : BitVec 32 := 1#32
  let v186 : BitVec 32 := Scalar.subi v185 c1_i32_39
  let v187 : BitVec 1 := Scalar.cmpi .sle v181 v186
  let v188 : BitVec 32 := Scalar.extui v187
  let v189 : BitVec 32 := Scalar.addi v180 v188
  let c16384_i32_40 : BitVec 32 := 16384#32
  let v194 : BitVec 32 := Scalar.addi v0 c16384_i32_40
  let c1_i32_41 : BitVec 32 := 1#32
  let v195 : BitVec 32 := Scalar.subi v194 c1_i32_41
  let v196 : BitVec 1 := Scalar.cmpi .sle v190 v195
  let v197 : BitVec 32 := Scalar.extui v196
  let v198 : BitVec 32 := Scalar.addi v189 v197
  let c16384_i32_42 : BitVec 32 := 16384#32
  let v203 : BitVec 32 := Scalar.addi v0 c16384_i32_42
  let c1_i32_43 : BitVec 32 := 1#32
  let v204 : BitVec 32 := Scalar.subi v203 c1_i32_43
  let v205 : BitVec 1 := Scalar.cmpi .sle v199 v204
  let v206 : BitVec 32 := Scalar.extui v205
  let v207 : BitVec 32 := Scalar.addi v198 v206
  let c16384_i32_44 : BitVec 32 := 16384#32
  let v212 : BitVec 32 := Scalar.addi v0 c16384_i32_44
  let c1_i32_45 : BitVec 32 := 1#32
  let v213 : BitVec 32 := Scalar.subi v212 c1_i32_45
  let v214 : BitVec 1 := Scalar.cmpi .sle v208 v213
  let v215 : BitVec 32 := Scalar.extui v214
  let v216 : BitVec 32 := Scalar.addi v207 v215
  let c16384_i32_46 : BitVec 32 := 16384#32
  let v221 : BitVec 32 := Scalar.addi v0 c16384_i32_46
  let c1_i32_47 : BitVec 32 := 1#32
  let v222 : BitVec 32 := Scalar.subi v221 c1_i32_47
  let v223 : BitVec 1 := Scalar.cmpi .sle v217 v222
  let v224 : BitVec 32 := Scalar.extui v223
  let v225 : BitVec 32 := Scalar.addi v216 v224
  let c16384_i32_48 : BitVec 32 := 16384#32
  let v230 : BitVec 32 := Scalar.addi v0 c16384_i32_48
  let c1_i32_49 : BitVec 32 := 1#32
  let v231 : BitVec 32 := Scalar.subi v230 c1_i32_49
  let v232 : BitVec 1 := Scalar.cmpi .sle v226 v231
  let v233 : BitVec 32 := Scalar.extui v232
  let v234 : BitVec 32 := Scalar.addi v225 v233
  let c16384_i32_50 : BitVec 32 := 16384#32
  let v239 : BitVec 32 := Scalar.addi v0 c16384_i32_50
  let c1_i32_51 : BitVec 32 := 1#32
  let v240 : BitVec 32 := Scalar.subi v239 c1_i32_51
  let v241 : BitVec 1 := Scalar.cmpi .sle v235 v240
  let v242 : BitVec 32 := Scalar.extui v241
  let v243 : BitVec 32 := Scalar.addi v234 v242
  let c1_i32_55 : BitVec 32 := 1#32
  let v267 : BitVec 32 := Scalar.addi v243 c1_i32_55
  let v268 : BitVec 32 := Scalar.subi v267 v238
  let c1_i32_57 : BitVec 32 := 1#32
  let v270 : BitVec 32 := Scalar.divsi v268 c1_i32_57
  let v271 : BitVec 32 := Scalar.muli v270 c1_i32_57
  let v272 : BitVec 32 := Scalar.addi v238 v271
  let c1_i32_59 : BitVec 32 := 1#32
  let arg18 : BitVec 32 := Scf.iv v272 c1_i32_59 k0_t2
  let c1_i32_61 : BitVec 32 := 1#32
  let v274 : BitVec 32 := Scalar.subi arg18 c1_i32_61
  let c0_i32_62 : BitVec 32 := 0#32
  let v275 : BitVec 32 := Scalar.maxsi v274 c0_i32_62
  let v276 : Index := Scalar.indexCast v275
  ![v276.toNat]
def k0_off7 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) : Fin 1 → Nat :=
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c0_i32_21 : BitVec 32 := 0#32
  let c16384_i32_19 : BitVec 32 := 16384#32
  let v104 : BitVec 32 := Scalar.addi v0 c16384_i32_19
  let c1_i32_20 : BitVec 32 := 1#32
  let v105 : BitVec 32 := Scalar.subi v104 c1_i32_20
  let v106 : BitVec 1 := Scalar.cmpi .sle v100 v105
  let v107 : BitVec 32 := Scalar.extui v106
  let v108 : BitVec 32 := Scalar.addi c0_i32_21 v107
  let c16384_i32_22 : BitVec 32 := 16384#32
  let v113 : BitVec 32 := Scalar.addi v0 c16384_i32_22
  let c1_i32_23 : BitVec 32 := 1#32
  let v114 : BitVec 32 := Scalar.subi v113 c1_i32_23
  let v115 : BitVec 1 := Scalar.cmpi .sle v109 v114
  let v116 : BitVec 32 := Scalar.extui v115
  let v117 : BitVec 32 := Scalar.addi v108 v116
  let c16384_i32_24 : BitVec 32 := 16384#32
  let v122 : BitVec 32 := Scalar.addi v0 c16384_i32_24
  let c1_i32_25 : BitVec 32 := 1#32
  let v123 : BitVec 32 := Scalar.subi v122 c1_i32_25
  let v124 : BitVec 1 := Scalar.cmpi .sle v118 v123
  let v125 : BitVec 32 := Scalar.extui v124
  let v126 : BitVec 32 := Scalar.addi v117 v125
  let c16384_i32_26 : BitVec 32 := 16384#32
  let v131 : BitVec 32 := Scalar.addi v0 c16384_i32_26
  let c1_i32_27 : BitVec 32 := 1#32
  let v132 : BitVec 32 := Scalar.subi v131 c1_i32_27
  let v133 : BitVec 1 := Scalar.cmpi .sle v127 v132
  let v134 : BitVec 32 := Scalar.extui v133
  let v135 : BitVec 32 := Scalar.addi v126 v134
  let c16384_i32_28 : BitVec 32 := 16384#32
  let v140 : BitVec 32 := Scalar.addi v0 c16384_i32_28
  let c1_i32_29 : BitVec 32 := 1#32
  let v141 : BitVec 32 := Scalar.subi v140 c1_i32_29
  let v142 : BitVec 1 := Scalar.cmpi .sle v136 v141
  let v143 : BitVec 32 := Scalar.extui v142
  let v144 : BitVec 32 := Scalar.addi v135 v143
  let c16384_i32_30 : BitVec 32 := 16384#32
  let v149 : BitVec 32 := Scalar.addi v0 c16384_i32_30
  let c1_i32_31 : BitVec 32 := 1#32
  let v150 : BitVec 32 := Scalar.subi v149 c1_i32_31
  let v151 : BitVec 1 := Scalar.cmpi .sle v145 v150
  let v152 : BitVec 32 := Scalar.extui v151
  let v153 : BitVec 32 := Scalar.addi v144 v152
  let c16384_i32_32 : BitVec 32 := 16384#32
  let v158 : BitVec 32 := Scalar.addi v0 c16384_i32_32
  let c1_i32_33 : BitVec 32 := 1#32
  let v159 : BitVec 32 := Scalar.subi v158 c1_i32_33
  let v160 : BitVec 1 := Scalar.cmpi .sle v154 v159
  let v161 : BitVec 32 := Scalar.extui v160
  let v162 : BitVec 32 := Scalar.addi v153 v161
  let c16384_i32_34 : BitVec 32 := 16384#32
  let v167 : BitVec 32 := Scalar.addi v0 c16384_i32_34
  let c1_i32_35 : BitVec 32 := 1#32
  let v168 : BitVec 32 := Scalar.subi v167 c1_i32_35
  let v169 : BitVec 1 := Scalar.cmpi .sle v163 v168
  let v170 : BitVec 32 := Scalar.extui v169
  let v171 : BitVec 32 := Scalar.addi v162 v170
  let c16384_i32_36 : BitVec 32 := 16384#32
  let v176 : BitVec 32 := Scalar.addi v0 c16384_i32_36
  let c1_i32_37 : BitVec 32 := 1#32
  let v177 : BitVec 32 := Scalar.subi v176 c1_i32_37
  let v178 : BitVec 1 := Scalar.cmpi .sle v172 v177
  let v179 : BitVec 32 := Scalar.extui v178
  let v180 : BitVec 32 := Scalar.addi v171 v179
  let c16384_i32_38 : BitVec 32 := 16384#32
  let v185 : BitVec 32 := Scalar.addi v0 c16384_i32_38
  let c1_i32_39 : BitVec 32 := 1#32
  let v186 : BitVec 32 := Scalar.subi v185 c1_i32_39
  let v187 : BitVec 1 := Scalar.cmpi .sle v181 v186
  let v188 : BitVec 32 := Scalar.extui v187
  let v189 : BitVec 32 := Scalar.addi v180 v188
  let c16384_i32_40 : BitVec 32 := 16384#32
  let v194 : BitVec 32 := Scalar.addi v0 c16384_i32_40
  let c1_i32_41 : BitVec 32 := 1#32
  let v195 : BitVec 32 := Scalar.subi v194 c1_i32_41
  let v196 : BitVec 1 := Scalar.cmpi .sle v190 v195
  let v197 : BitVec 32 := Scalar.extui v196
  let v198 : BitVec 32 := Scalar.addi v189 v197
  let c16384_i32_42 : BitVec 32 := 16384#32
  let v203 : BitVec 32 := Scalar.addi v0 c16384_i32_42
  let c1_i32_43 : BitVec 32 := 1#32
  let v204 : BitVec 32 := Scalar.subi v203 c1_i32_43
  let v205 : BitVec 1 := Scalar.cmpi .sle v199 v204
  let v206 : BitVec 32 := Scalar.extui v205
  let v207 : BitVec 32 := Scalar.addi v198 v206
  let c16384_i32_44 : BitVec 32 := 16384#32
  let v212 : BitVec 32 := Scalar.addi v0 c16384_i32_44
  let c1_i32_45 : BitVec 32 := 1#32
  let v213 : BitVec 32 := Scalar.subi v212 c1_i32_45
  let v214 : BitVec 1 := Scalar.cmpi .sle v208 v213
  let v215 : BitVec 32 := Scalar.extui v214
  let v216 : BitVec 32 := Scalar.addi v207 v215
  let c16384_i32_46 : BitVec 32 := 16384#32
  let v221 : BitVec 32 := Scalar.addi v0 c16384_i32_46
  let c1_i32_47 : BitVec 32 := 1#32
  let v222 : BitVec 32 := Scalar.subi v221 c1_i32_47
  let v223 : BitVec 1 := Scalar.cmpi .sle v217 v222
  let v224 : BitVec 32 := Scalar.extui v223
  let v225 : BitVec 32 := Scalar.addi v216 v224
  let c16384_i32_48 : BitVec 32 := 16384#32
  let v230 : BitVec 32 := Scalar.addi v0 c16384_i32_48
  let c1_i32_49 : BitVec 32 := 1#32
  let v231 : BitVec 32 := Scalar.subi v230 c1_i32_49
  let v232 : BitVec 1 := Scalar.cmpi .sle v226 v231
  let v233 : BitVec 32 := Scalar.extui v232
  let v234 : BitVec 32 := Scalar.addi v225 v233
  let c16384_i32_50 : BitVec 32 := 16384#32
  let v239 : BitVec 32 := Scalar.addi v0 c16384_i32_50
  let c1_i32_51 : BitVec 32 := 1#32
  let v240 : BitVec 32 := Scalar.subi v239 c1_i32_51
  let v241 : BitVec 1 := Scalar.cmpi .sle v235 v240
  let v242 : BitVec 32 := Scalar.extui v241
  let v243 : BitVec 32 := Scalar.addi v234 v242
  let c1_i32_55 : BitVec 32 := 1#32
  let v267 : BitVec 32 := Scalar.addi v243 c1_i32_55
  let v268 : BitVec 32 := Scalar.subi v267 v238
  let c1_i32_57 : BitVec 32 := 1#32
  let v270 : BitVec 32 := Scalar.divsi v268 c1_i32_57
  let v271 : BitVec 32 := Scalar.muli v270 c1_i32_57
  let v272 : BitVec 32 := Scalar.addi v238 v271
  let c1_i32_59 : BitVec 32 := 1#32
  let arg18 : BitVec 32 := Scf.iv v272 c1_i32_59 k0_t2
  let c15_i32 : BitVec 32 := 15#32
  let v280 : BitVec 32 := Scalar.minsi arg18 c15_i32
  let v281 : Index := Scalar.indexCast v280
  ![v281.toNat]

def k0_chk1 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) : Prop :=
  (∀ (k0_h1 : k0_cond1 i = 1#1), ∀ (k0_h4 : k0_cond4 i v100 v109 v118 v127 v136 v145 v154 v163 v172 v181 v190 v199 v208 v217 v226 v235 = 1#1), (k0_t1_loop i v100 v109 v118 v127 v136 v145 v154 v163 v172 v181 v190 v199 v208 v217 v226 v235).OK) ∧
  (∀ k0_t1 : Fin (k0_t1_loop i v100 v109 v118 v127 v136 v145 v154 v163 v172 v181 v190 v199 v208 v217 v226 v235).trips, ∀ (k0_h1 : k0_cond1 i = 1#1), ∀ (k0_h4 : k0_cond4 i v100 v109 v118 v127 v136 v145 v154 v163 v172 v181 v190 v199 v208 v217 v226 v235 = 1#1), ∀ a, (k0_off2 i v100 v109 v118 v127 v136 v145 v154 v163 v172 v181 v190 v199 v208 v217 v226 v235 k0_t1) a + S1.size a ≤ S16.size a) ∧
  (∀ k0_t1 : Fin (k0_t1_loop i v100 v109 v118 v127 v136 v145 v154 v163 v172 v181 v190 v199 v208 v217 v226 v235).trips, ∀ (k0_h1 : k0_cond1 i = 1#1), ∀ (k0_h4 : k0_cond4 i v100 v109 v118 v127 v136 v145 v154 v163 v172 v181 v190 v199 v208 v217 v226 v235 = 1#1), ∀ a, (k0_off3 i v100 v109 v118 v127 v136 v145 v154 v163 v172 v181 v190 v199 v208 v217 v226 v235 k0_t1) a + S1.size a ≤ S16.size a) ∧
  (∀ (k0_h1 : k0_cond1 i = 1#1), ∀ (k0_h4 : k0_cond4 i v100 v109 v118 v127 v136 v145 v154 v163 v172 v181 v190 v199 v208 v217 v226 v235 = 1#1), (k0_t2_loop i v100 v109 v118 v127 v136 v145 v154 v163 v172 v181 v190 v199 v208 v217 v226 v235).OK) ∧
  (∀ k0_t2 : Fin (k0_t2_loop i v100 v109 v118 v127 v136 v145 v154 v163 v172 v181 v190 v199 v208 v217 v226 v235).trips, ∀ (k0_h1 : k0_cond1 i = 1#1), ∀ (k0_h4 : k0_cond4 i v100 v109 v118 v127 v136 v145 v154 v163 v172 v181 v190 v199 v208 v217 v226 v235 = 1#1), ∀ a, (k0_off6 i v100 v109 v118 v127 v136 v145 v154 v163 v172 v181 v190 v199 v208 v217 v226 v235 k0_t2) a + S1.size a ≤ S16.size a) ∧
  (∀ k0_t2 : Fin (k0_t2_loop i v100 v109 v118 v127 v136 v145 v154 v163 v172 v181 v190 v199 v208 v217 v226 v235).trips, ∀ (k0_h1 : k0_cond1 i = 1#1), ∀ (k0_h4 : k0_cond4 i v100 v109 v118 v127 v136 v145 v154 v163 v172 v181 v190 v199 v208 v217 v226 v235 = 1#1), ∀ a, (k0_off7 i v100 v109 v118 v127 v136 v145 v154 v163 v172 v181 v190 v199 v208 v217 v226 v235 k0_t2) a + S1.size a ≤ S16.size a)
theorem k0_t1_ok : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_hw1 : k0_chk1 i v100 v109 v118 v127 v136 v145 v154 v163 v172 v181 v190 v199 v208 v217 v226 v235), ∀ (k0_h1 : k0_cond1 i = 1#1), ∀ (k0_h4 : k0_cond4 i v100 v109 v118 v127 v136 v145 v154 v163 v172 v181 v190 v199 v208 v217 v226 v235 = 1#1), (k0_t1_loop i v100 v109 v118 v127 v136 v145 v154 v163 v172 v181 v190 v199 v208 v217 v226 v235).OK := fun i v100 v109 v118 v127 v136 v145 v154 v163 v172 v181 v190 v199 v208 v217 v226 v235 k0_hw1 k0_h1 k0_h4 => k0_hw1.1 k0_h1 k0_h4
theorem k0_off2_inb : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_hw1 : k0_chk1 i v100 v109 v118 v127 v136 v145 v154 v163 v172 v181 v190 v199 v208 v217 v226 v235) (k0_t1 : Fin (k0_t1_loop i v100 v109 v118 v127 v136 v145 v154 v163 v172 v181 v190 v199 v208 v217 v226 v235).trips), ∀ (k0_h1 : k0_cond1 i = 1#1), ∀ (k0_h4 : k0_cond4 i v100 v109 v118 v127 v136 v145 v154 v163 v172 v181 v190 v199 v208 v217 v226 v235 = 1#1), ∀ a, (k0_off2 i v100 v109 v118 v127 v136 v145 v154 v163 v172 v181 v190 v199 v208 v217 v226 v235 k0_t1) a + S1.size a ≤ S16.size a := fun i v100 v109 v118 v127 v136 v145 v154 v163 v172 v181 v190 v199 v208 v217 v226 v235 k0_hw1 k0_t1 k0_h1 k0_h4 => k0_hw1.2.1 k0_t1 k0_h1 k0_h4
theorem k0_off3_inb : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_hw1 : k0_chk1 i v100 v109 v118 v127 v136 v145 v154 v163 v172 v181 v190 v199 v208 v217 v226 v235) (k0_t1 : Fin (k0_t1_loop i v100 v109 v118 v127 v136 v145 v154 v163 v172 v181 v190 v199 v208 v217 v226 v235).trips), ∀ (k0_h1 : k0_cond1 i = 1#1), ∀ (k0_h4 : k0_cond4 i v100 v109 v118 v127 v136 v145 v154 v163 v172 v181 v190 v199 v208 v217 v226 v235 = 1#1), ∀ a, (k0_off3 i v100 v109 v118 v127 v136 v145 v154 v163 v172 v181 v190 v199 v208 v217 v226 v235 k0_t1) a + S1.size a ≤ S16.size a := fun i v100 v109 v118 v127 v136 v145 v154 v163 v172 v181 v190 v199 v208 v217 v226 v235 k0_hw1 k0_t1 k0_h1 k0_h4 => k0_hw1.2.2.1 k0_t1 k0_h1 k0_h4
theorem k0_t2_ok : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_hw1 : k0_chk1 i v100 v109 v118 v127 v136 v145 v154 v163 v172 v181 v190 v199 v208 v217 v226 v235), ∀ (k0_h1 : k0_cond1 i = 1#1), ∀ (k0_h4 : k0_cond4 i v100 v109 v118 v127 v136 v145 v154 v163 v172 v181 v190 v199 v208 v217 v226 v235 = 1#1), (k0_t2_loop i v100 v109 v118 v127 v136 v145 v154 v163 v172 v181 v190 v199 v208 v217 v226 v235).OK := fun i v100 v109 v118 v127 v136 v145 v154 v163 v172 v181 v190 v199 v208 v217 v226 v235 k0_hw1 k0_h1 k0_h4 => k0_hw1.2.2.2.1 k0_h1 k0_h4
theorem k0_off6_inb : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_hw1 : k0_chk1 i v100 v109 v118 v127 v136 v145 v154 v163 v172 v181 v190 v199 v208 v217 v226 v235) (k0_t2 : Fin (k0_t2_loop i v100 v109 v118 v127 v136 v145 v154 v163 v172 v181 v190 v199 v208 v217 v226 v235).trips), ∀ (k0_h1 : k0_cond1 i = 1#1), ∀ (k0_h4 : k0_cond4 i v100 v109 v118 v127 v136 v145 v154 v163 v172 v181 v190 v199 v208 v217 v226 v235 = 1#1), ∀ a, (k0_off6 i v100 v109 v118 v127 v136 v145 v154 v163 v172 v181 v190 v199 v208 v217 v226 v235 k0_t2) a + S1.size a ≤ S16.size a := fun i v100 v109 v118 v127 v136 v145 v154 v163 v172 v181 v190 v199 v208 v217 v226 v235 k0_hw1 k0_t2 k0_h1 k0_h4 => k0_hw1.2.2.2.2.1 k0_t2 k0_h1 k0_h4
theorem k0_off7_inb : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_hw1 : k0_chk1 i v100 v109 v118 v127 v136 v145 v154 v163 v172 v181 v190 v199 v208 v217 v226 v235) (k0_t2 : Fin (k0_t2_loop i v100 v109 v118 v127 v136 v145 v154 v163 v172 v181 v190 v199 v208 v217 v226 v235).trips), ∀ (k0_h1 : k0_cond1 i = 1#1), ∀ (k0_h4 : k0_cond4 i v100 v109 v118 v127 v136 v145 v154 v163 v172 v181 v190 v199 v208 v217 v226 v235 = 1#1), ∀ a, (k0_off7 i v100 v109 v118 v127 v136 v145 v154 v163 v172 v181 v190 v199 v208 v217 v226 v235 k0_t2) a + S1.size a ≤ S16.size a := fun i v100 v109 v118 v127 v136 v145 v154 v163 v172 v181 v190 v199 v208 v217 v226 v235 k0_hw1 k0_t2 k0_h1 k0_h4 => k0_hw1.2.2.2.2.2 k0_t2 k0_h1 k0_h4

def k0_mult3 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v277 : BitVec 32) : BitVec 32 :=
  let c127_i32 : BitVec 32 := 127#32
  let c0_i32_71 : BitVec 32 := 0#32
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c0_i32_21 : BitVec 32 := 0#32
  let c16384_i32_19 : BitVec 32 := 16384#32
  let v104 : BitVec 32 := Scalar.addi v0 c16384_i32_19
  let c1_i32_20 : BitVec 32 := 1#32
  let v105 : BitVec 32 := Scalar.subi v104 c1_i32_20
  let v106 : BitVec 1 := Scalar.cmpi .sle v100 v105
  let v107 : BitVec 32 := Scalar.extui v106
  let v108 : BitVec 32 := Scalar.addi c0_i32_21 v107
  let c16384_i32_22 : BitVec 32 := 16384#32
  let v113 : BitVec 32 := Scalar.addi v0 c16384_i32_22
  let c1_i32_23 : BitVec 32 := 1#32
  let v114 : BitVec 32 := Scalar.subi v113 c1_i32_23
  let v115 : BitVec 1 := Scalar.cmpi .sle v109 v114
  let v116 : BitVec 32 := Scalar.extui v115
  let v117 : BitVec 32 := Scalar.addi v108 v116
  let c16384_i32_24 : BitVec 32 := 16384#32
  let v122 : BitVec 32 := Scalar.addi v0 c16384_i32_24
  let c1_i32_25 : BitVec 32 := 1#32
  let v123 : BitVec 32 := Scalar.subi v122 c1_i32_25
  let v124 : BitVec 1 := Scalar.cmpi .sle v118 v123
  let v125 : BitVec 32 := Scalar.extui v124
  let v126 : BitVec 32 := Scalar.addi v117 v125
  let c16384_i32_26 : BitVec 32 := 16384#32
  let v131 : BitVec 32 := Scalar.addi v0 c16384_i32_26
  let c1_i32_27 : BitVec 32 := 1#32
  let v132 : BitVec 32 := Scalar.subi v131 c1_i32_27
  let v133 : BitVec 1 := Scalar.cmpi .sle v127 v132
  let v134 : BitVec 32 := Scalar.extui v133
  let v135 : BitVec 32 := Scalar.addi v126 v134
  let c16384_i32_28 : BitVec 32 := 16384#32
  let v140 : BitVec 32 := Scalar.addi v0 c16384_i32_28
  let c1_i32_29 : BitVec 32 := 1#32
  let v141 : BitVec 32 := Scalar.subi v140 c1_i32_29
  let v142 : BitVec 1 := Scalar.cmpi .sle v136 v141
  let v143 : BitVec 32 := Scalar.extui v142
  let v144 : BitVec 32 := Scalar.addi v135 v143
  let c16384_i32_30 : BitVec 32 := 16384#32
  let v149 : BitVec 32 := Scalar.addi v0 c16384_i32_30
  let c1_i32_31 : BitVec 32 := 1#32
  let v150 : BitVec 32 := Scalar.subi v149 c1_i32_31
  let v151 : BitVec 1 := Scalar.cmpi .sle v145 v150
  let v152 : BitVec 32 := Scalar.extui v151
  let v153 : BitVec 32 := Scalar.addi v144 v152
  let c16384_i32_32 : BitVec 32 := 16384#32
  let v158 : BitVec 32 := Scalar.addi v0 c16384_i32_32
  let c1_i32_33 : BitVec 32 := 1#32
  let v159 : BitVec 32 := Scalar.subi v158 c1_i32_33
  let v160 : BitVec 1 := Scalar.cmpi .sle v154 v159
  let v161 : BitVec 32 := Scalar.extui v160
  let v162 : BitVec 32 := Scalar.addi v153 v161
  let c16384_i32_34 : BitVec 32 := 16384#32
  let v167 : BitVec 32 := Scalar.addi v0 c16384_i32_34
  let c1_i32_35 : BitVec 32 := 1#32
  let v168 : BitVec 32 := Scalar.subi v167 c1_i32_35
  let v169 : BitVec 1 := Scalar.cmpi .sle v163 v168
  let v170 : BitVec 32 := Scalar.extui v169
  let v171 : BitVec 32 := Scalar.addi v162 v170
  let c16384_i32_36 : BitVec 32 := 16384#32
  let v176 : BitVec 32 := Scalar.addi v0 c16384_i32_36
  let c1_i32_37 : BitVec 32 := 1#32
  let v177 : BitVec 32 := Scalar.subi v176 c1_i32_37
  let v178 : BitVec 1 := Scalar.cmpi .sle v172 v177
  let v179 : BitVec 32 := Scalar.extui v178
  let v180 : BitVec 32 := Scalar.addi v171 v179
  let c16384_i32_38 : BitVec 32 := 16384#32
  let v185 : BitVec 32 := Scalar.addi v0 c16384_i32_38
  let c1_i32_39 : BitVec 32 := 1#32
  let v186 : BitVec 32 := Scalar.subi v185 c1_i32_39
  let v187 : BitVec 1 := Scalar.cmpi .sle v181 v186
  let v188 : BitVec 32 := Scalar.extui v187
  let v189 : BitVec 32 := Scalar.addi v180 v188
  let c16384_i32_40 : BitVec 32 := 16384#32
  let v194 : BitVec 32 := Scalar.addi v0 c16384_i32_40
  let c1_i32_41 : BitVec 32 := 1#32
  let v195 : BitVec 32 := Scalar.subi v194 c1_i32_41
  let v196 : BitVec 1 := Scalar.cmpi .sle v190 v195
  let v197 : BitVec 32 := Scalar.extui v196
  let v198 : BitVec 32 := Scalar.addi v189 v197
  let c16384_i32_42 : BitVec 32 := 16384#32
  let v203 : BitVec 32 := Scalar.addi v0 c16384_i32_42
  let c1_i32_43 : BitVec 32 := 1#32
  let v204 : BitVec 32 := Scalar.subi v203 c1_i32_43
  let v205 : BitVec 1 := Scalar.cmpi .sle v199 v204
  let v206 : BitVec 32 := Scalar.extui v205
  let v207 : BitVec 32 := Scalar.addi v198 v206
  let c16384_i32_44 : BitVec 32 := 16384#32
  let v212 : BitVec 32 := Scalar.addi v0 c16384_i32_44
  let c1_i32_45 : BitVec 32 := 1#32
  let v213 : BitVec 32 := Scalar.subi v212 c1_i32_45
  let v214 : BitVec 1 := Scalar.cmpi .sle v208 v213
  let v215 : BitVec 32 := Scalar.extui v214
  let v216 : BitVec 32 := Scalar.addi v207 v215
  let c16384_i32_46 : BitVec 32 := 16384#32
  let v221 : BitVec 32 := Scalar.addi v0 c16384_i32_46
  let c1_i32_47 : BitVec 32 := 1#32
  let v222 : BitVec 32 := Scalar.subi v221 c1_i32_47
  let v223 : BitVec 1 := Scalar.cmpi .sle v217 v222
  let v224 : BitVec 32 := Scalar.extui v223
  let v225 : BitVec 32 := Scalar.addi v216 v224
  let c16384_i32_48 : BitVec 32 := 16384#32
  let v230 : BitVec 32 := Scalar.addi v0 c16384_i32_48
  let c1_i32_49 : BitVec 32 := 1#32
  let v231 : BitVec 32 := Scalar.subi v230 c1_i32_49
  let v232 : BitVec 1 := Scalar.cmpi .sle v226 v231
  let v233 : BitVec 32 := Scalar.extui v232
  let v234 : BitVec 32 := Scalar.addi v225 v233
  let c16384_i32_50 : BitVec 32 := 16384#32
  let v239 : BitVec 32 := Scalar.addi v0 c16384_i32_50
  let c1_i32_51 : BitVec 32 := 1#32
  let v240 : BitVec 32 := Scalar.subi v239 c1_i32_51
  let v241 : BitVec 1 := Scalar.cmpi .sle v235 v240
  let v242 : BitVec 32 := Scalar.extui v241
  let v243 : BitVec 32 := Scalar.addi v234 v242
  let c1_i32_55 : BitVec 32 := 1#32
  let v267 : BitVec 32 := Scalar.addi v243 c1_i32_55
  let v268 : BitVec 32 := Scalar.subi v267 v238
  let c1_i32_57 : BitVec 32 := 1#32
  let v270 : BitVec 32 := Scalar.divsi v268 c1_i32_57
  let v271 : BitVec 32 := Scalar.muli v270 c1_i32_57
  let v272 : BitVec 32 := Scalar.addi v238 v271
  let c1_i32_59 : BitVec 32 := 1#32
  let arg18 : BitVec 32 := Scf.iv v272 c1_i32_59 k0_t2
  let c0_i32_60 : BitVec 32 := 0#32
  let v273 : BitVec 1 := Scalar.cmpi .eq arg18 c0_i32_60
  let c0_i32_63 : BitVec 32 := 0#32
  let v278 : BitVec 32 := Scalar.select v273 c0_i32_63 v277
  let v284 : BitVec 32 := Scalar.maxsi v278 v0
  let v287 : BitVec 32 := Scalar.subi v284 v0
  let c0_i32_65 : BitVec 32 := 0#32
  let v289 : BitVec 1 := Scalar.cmpi .sgt v287 c0_i32_65
  let v290 : BitVec 32 := Scalar.extui v289
  let c0_i32_66 : BitVec 32 := 0#32
  let v291 : BitVec 1 := Scalar.cmpi .slt v287 c0_i32_66
  let v292 : BitVec 32 := Scalar.extui v291
  let v293 : BitVec 32 := Scalar.subi v290 v292
  let c128_i32 : BitVec 32 := 128#32
  let c0_i32_67 : BitVec 32 := 0#32
  let v294 : BitVec 1 := Scalar.cmpi .sgt c128_i32 c0_i32_67
  let v295 : BitVec 32 := Scalar.extui v294
  let c0_i32_68 : BitVec 32 := 0#32
  let v296 : BitVec 1 := Scalar.cmpi .slt c128_i32 c0_i32_68
  let v297 : BitVec 32 := Scalar.extui v296
  let v298 : BitVec 32 := Scalar.subi v295 v297
  let v299 : BitVec 1 := Scalar.cmpi .ne v293 v298
  let v300 : BitVec 32 := Scalar.remsi v287 c128_i32
  let c0_i32_69 : BitVec 32 := 0#32
  let v301 : BitVec 1 := Scalar.cmpi .ne v300 c0_i32_69
  let v302 : BitVec 1 := Scalar.andi v299 v301
  let v288 : BitVec 32 := Scalar.divsi v287 c128_i32
  let c1_i32_70 : BitVec 32 := 1#32
  let v303 : BitVec 32 := Scalar.subi v288 c1_i32_70
  let v304 : BitVec 32 := Scalar.select v302 v303 v288
  let v305 : BitVec 32 := Scalar.maxsi c0_i32_71 v304
  let v306 : BitVec 32 := Scalar.minsi c127_i32 v305
  let c128_i32_85 : BitVec 32 := 128#32
  let v348 : BitVec 32 := Scalar.muli v306 c128_i32_85
  v348

def k0_off8 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v277 : BitVec 32) : Fin 3 → Nat :=
  let arg1 : BitVec 32 := BitVec.ofNat 32 (i 1).val
  let v350 : Index := Scalar.indexCast arg1
  let c127_i32 : BitVec 32 := 127#32
  let c0_i32_71 : BitVec 32 := 0#32
  let c0_i32_18 : BitVec 32 := 0#32
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c0_i32_21 : BitVec 32 := 0#32
  let c16384_i32_19 : BitVec 32 := 16384#32
  let v104 : BitVec 32 := Scalar.addi v0 c16384_i32_19
  let c1_i32_20 : BitVec 32 := 1#32
  let v105 : BitVec 32 := Scalar.subi v104 c1_i32_20
  let v106 : BitVec 1 := Scalar.cmpi .sle v100 v105
  let v107 : BitVec 32 := Scalar.extui v106
  let v108 : BitVec 32 := Scalar.addi c0_i32_21 v107
  let c16384_i32_22 : BitVec 32 := 16384#32
  let v113 : BitVec 32 := Scalar.addi v0 c16384_i32_22
  let c1_i32_23 : BitVec 32 := 1#32
  let v114 : BitVec 32 := Scalar.subi v113 c1_i32_23
  let v115 : BitVec 1 := Scalar.cmpi .sle v109 v114
  let v116 : BitVec 32 := Scalar.extui v115
  let v117 : BitVec 32 := Scalar.addi v108 v116
  let c16384_i32_24 : BitVec 32 := 16384#32
  let v122 : BitVec 32 := Scalar.addi v0 c16384_i32_24
  let c1_i32_25 : BitVec 32 := 1#32
  let v123 : BitVec 32 := Scalar.subi v122 c1_i32_25
  let v124 : BitVec 1 := Scalar.cmpi .sle v118 v123
  let v125 : BitVec 32 := Scalar.extui v124
  let v126 : BitVec 32 := Scalar.addi v117 v125
  let c16384_i32_26 : BitVec 32 := 16384#32
  let v131 : BitVec 32 := Scalar.addi v0 c16384_i32_26
  let c1_i32_27 : BitVec 32 := 1#32
  let v132 : BitVec 32 := Scalar.subi v131 c1_i32_27
  let v133 : BitVec 1 := Scalar.cmpi .sle v127 v132
  let v134 : BitVec 32 := Scalar.extui v133
  let v135 : BitVec 32 := Scalar.addi v126 v134
  let c16384_i32_28 : BitVec 32 := 16384#32
  let v140 : BitVec 32 := Scalar.addi v0 c16384_i32_28
  let c1_i32_29 : BitVec 32 := 1#32
  let v141 : BitVec 32 := Scalar.subi v140 c1_i32_29
  let v142 : BitVec 1 := Scalar.cmpi .sle v136 v141
  let v143 : BitVec 32 := Scalar.extui v142
  let v144 : BitVec 32 := Scalar.addi v135 v143
  let c16384_i32_30 : BitVec 32 := 16384#32
  let v149 : BitVec 32 := Scalar.addi v0 c16384_i32_30
  let c1_i32_31 : BitVec 32 := 1#32
  let v150 : BitVec 32 := Scalar.subi v149 c1_i32_31
  let v151 : BitVec 1 := Scalar.cmpi .sle v145 v150
  let v152 : BitVec 32 := Scalar.extui v151
  let v153 : BitVec 32 := Scalar.addi v144 v152
  let c16384_i32_32 : BitVec 32 := 16384#32
  let v158 : BitVec 32 := Scalar.addi v0 c16384_i32_32
  let c1_i32_33 : BitVec 32 := 1#32
  let v159 : BitVec 32 := Scalar.subi v158 c1_i32_33
  let v160 : BitVec 1 := Scalar.cmpi .sle v154 v159
  let v161 : BitVec 32 := Scalar.extui v160
  let v162 : BitVec 32 := Scalar.addi v153 v161
  let c16384_i32_34 : BitVec 32 := 16384#32
  let v167 : BitVec 32 := Scalar.addi v0 c16384_i32_34
  let c1_i32_35 : BitVec 32 := 1#32
  let v168 : BitVec 32 := Scalar.subi v167 c1_i32_35
  let v169 : BitVec 1 := Scalar.cmpi .sle v163 v168
  let v170 : BitVec 32 := Scalar.extui v169
  let v171 : BitVec 32 := Scalar.addi v162 v170
  let c16384_i32_36 : BitVec 32 := 16384#32
  let v176 : BitVec 32 := Scalar.addi v0 c16384_i32_36
  let c1_i32_37 : BitVec 32 := 1#32
  let v177 : BitVec 32 := Scalar.subi v176 c1_i32_37
  let v178 : BitVec 1 := Scalar.cmpi .sle v172 v177
  let v179 : BitVec 32 := Scalar.extui v178
  let v180 : BitVec 32 := Scalar.addi v171 v179
  let c16384_i32_38 : BitVec 32 := 16384#32
  let v185 : BitVec 32 := Scalar.addi v0 c16384_i32_38
  let c1_i32_39 : BitVec 32 := 1#32
  let v186 : BitVec 32 := Scalar.subi v185 c1_i32_39
  let v187 : BitVec 1 := Scalar.cmpi .sle v181 v186
  let v188 : BitVec 32 := Scalar.extui v187
  let v189 : BitVec 32 := Scalar.addi v180 v188
  let c16384_i32_40 : BitVec 32 := 16384#32
  let v194 : BitVec 32 := Scalar.addi v0 c16384_i32_40
  let c1_i32_41 : BitVec 32 := 1#32
  let v195 : BitVec 32 := Scalar.subi v194 c1_i32_41
  let v196 : BitVec 1 := Scalar.cmpi .sle v190 v195
  let v197 : BitVec 32 := Scalar.extui v196
  let v198 : BitVec 32 := Scalar.addi v189 v197
  let c16384_i32_42 : BitVec 32 := 16384#32
  let v203 : BitVec 32 := Scalar.addi v0 c16384_i32_42
  let c1_i32_43 : BitVec 32 := 1#32
  let v204 : BitVec 32 := Scalar.subi v203 c1_i32_43
  let v205 : BitVec 1 := Scalar.cmpi .sle v199 v204
  let v206 : BitVec 32 := Scalar.extui v205
  let v207 : BitVec 32 := Scalar.addi v198 v206
  let c16384_i32_44 : BitVec 32 := 16384#32
  let v212 : BitVec 32 := Scalar.addi v0 c16384_i32_44
  let c1_i32_45 : BitVec 32 := 1#32
  let v213 : BitVec 32 := Scalar.subi v212 c1_i32_45
  let v214 : BitVec 1 := Scalar.cmpi .sle v208 v213
  let v215 : BitVec 32 := Scalar.extui v214
  let v216 : BitVec 32 := Scalar.addi v207 v215
  let c16384_i32_46 : BitVec 32 := 16384#32
  let v221 : BitVec 32 := Scalar.addi v0 c16384_i32_46
  let c1_i32_47 : BitVec 32 := 1#32
  let v222 : BitVec 32 := Scalar.subi v221 c1_i32_47
  let v223 : BitVec 1 := Scalar.cmpi .sle v217 v222
  let v224 : BitVec 32 := Scalar.extui v223
  let v225 : BitVec 32 := Scalar.addi v216 v224
  let c16384_i32_48 : BitVec 32 := 16384#32
  let v230 : BitVec 32 := Scalar.addi v0 c16384_i32_48
  let c1_i32_49 : BitVec 32 := 1#32
  let v231 : BitVec 32 := Scalar.subi v230 c1_i32_49
  let v232 : BitVec 1 := Scalar.cmpi .sle v226 v231
  let v233 : BitVec 32 := Scalar.extui v232
  let v234 : BitVec 32 := Scalar.addi v225 v233
  let c16384_i32_50 : BitVec 32 := 16384#32
  let v239 : BitVec 32 := Scalar.addi v0 c16384_i32_50
  let c1_i32_51 : BitVec 32 := 1#32
  let v240 : BitVec 32 := Scalar.subi v239 c1_i32_51
  let v241 : BitVec 1 := Scalar.cmpi .sle v235 v240
  let v242 : BitVec 32 := Scalar.extui v241
  let v243 : BitVec 32 := Scalar.addi v234 v242
  let c1_i32_55 : BitVec 32 := 1#32
  let v267 : BitVec 32 := Scalar.addi v243 c1_i32_55
  let v268 : BitVec 32 := Scalar.subi v267 v238
  let c1_i32_57 : BitVec 32 := 1#32
  let v270 : BitVec 32 := Scalar.divsi v268 c1_i32_57
  let v271 : BitVec 32 := Scalar.muli v270 c1_i32_57
  let v272 : BitVec 32 := Scalar.addi v238 v271
  let c1_i32_59 : BitVec 32 := 1#32
  let arg18 : BitVec 32 := Scf.iv v272 c1_i32_59 k0_t2
  let c0_i32_60 : BitVec 32 := 0#32
  let v273 : BitVec 1 := Scalar.cmpi .eq arg18 c0_i32_60
  let c0_i32_63 : BitVec 32 := 0#32
  let v278 : BitVec 32 := Scalar.select v273 c0_i32_63 v277
  let v284 : BitVec 32 := Scalar.maxsi v278 v0
  let v287 : BitVec 32 := Scalar.subi v284 v0
  let c0_i32_65 : BitVec 32 := 0#32
  let v289 : BitVec 1 := Scalar.cmpi .sgt v287 c0_i32_65
  let v290 : BitVec 32 := Scalar.extui v289
  let c0_i32_66 : BitVec 32 := 0#32
  let v291 : BitVec 1 := Scalar.cmpi .slt v287 c0_i32_66
  let v292 : BitVec 32 := Scalar.extui v291
  let v293 : BitVec 32 := Scalar.subi v290 v292
  let c128_i32 : BitVec 32 := 128#32
  let c0_i32_67 : BitVec 32 := 0#32
  let v294 : BitVec 1 := Scalar.cmpi .sgt c128_i32 c0_i32_67
  let v295 : BitVec 32 := Scalar.extui v294
  let c0_i32_68 : BitVec 32 := 0#32
  let v296 : BitVec 1 := Scalar.cmpi .slt c128_i32 c0_i32_68
  let v297 : BitVec 32 := Scalar.extui v296
  let v298 : BitVec 32 := Scalar.subi v295 v297
  let v299 : BitVec 1 := Scalar.cmpi .ne v293 v298
  let v300 : BitVec 32 := Scalar.remsi v287 c128_i32
  let c0_i32_69 : BitVec 32 := 0#32
  let v301 : BitVec 1 := Scalar.cmpi .ne v300 c0_i32_69
  let v302 : BitVec 1 := Scalar.andi v299 v301
  let v288 : BitVec 32 := Scalar.divsi v287 c128_i32
  let c1_i32_70 : BitVec 32 := 1#32
  let v303 : BitVec 32 := Scalar.subi v288 c1_i32_70
  let v304 : BitVec 32 := Scalar.select v302 v303 v288
  let v305 : BitVec 32 := Scalar.maxsi c0_i32_71 v304
  let v306 : BitVec 32 := Scalar.minsi c127_i32 v305
  let c128_i32_85 : BitVec 32 := 128#32
  let v348 : BitVec 32 := Scalar.muli v306 c128_i32_85
  let v349 : BitVec 32 := v348
  let v351 : Index := Scalar.indexCast v349
  let c0_86 : Index := 0#32
  ![v350.toNat, v351.toNat, 0]

def k0_chk4 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v277 : BitVec 32) : Prop :=
  (∀ (k0_h1 : k0_cond1 i = 1#1), ∀ (k0_h4 : k0_cond4 i v100 v109 v118 v127 v136 v145 v154 v163 v172 v181 v190 v199 v208 v217 v226 v235 = 1#1), 128 ∣ (k0_mult3 i v100 v109 v118 v127 v136 v145 v154 v163 v172 v181 v190 v199 v208 v217 v226 v235 k0_t2 v277).toNat) ∧
  (∀ (k0_h1 : k0_cond1 i = 1#1), ∀ (k0_h4 : k0_cond4 i v100 v109 v118 v127 v136 v145 v154 v163 v172 v181 v190 v199 v208 v217 v226 v235 = 1#1), ∀ a, (k0_off8 i v100 v109 v118 v127 v136 v145 v154 v163 v172 v181 v190 v199 v208 v217 v226 v235 k0_t2 v277) a + S1x128x128.size a ≤ S2x16384x128.size a)
theorem k0_mult3_dvd : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v277 : BitVec 32) (k0_hw4 : k0_chk4 i v100 v109 v118 v127 v136 v145 v154 v163 v172 v181 v190 v199 v208 v217 v226 v235 k0_t2 v277), ∀ (k0_h1 : k0_cond1 i = 1#1), ∀ (k0_h4 : k0_cond4 i v100 v109 v118 v127 v136 v145 v154 v163 v172 v181 v190 v199 v208 v217 v226 v235 = 1#1), 128 ∣ (k0_mult3 i v100 v109 v118 v127 v136 v145 v154 v163 v172 v181 v190 v199 v208 v217 v226 v235 k0_t2 v277).toNat := fun i v100 v109 v118 v127 v136 v145 v154 v163 v172 v181 v190 v199 v208 v217 v226 v235 k0_t2 v277 k0_hw4 k0_h1 k0_h4 => k0_hw4.1 k0_h1 k0_h4
theorem k0_off8_inb : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v277 : BitVec 32) (k0_hw4 : k0_chk4 i v100 v109 v118 v127 v136 v145 v154 v163 v172 v181 v190 v199 v208 v217 v226 v235 k0_t2 v277), ∀ (k0_h1 : k0_cond1 i = 1#1), ∀ (k0_h4 : k0_cond4 i v100 v109 v118 v127 v136 v145 v154 v163 v172 v181 v190 v199 v208 v217 v226 v235 = 1#1), ∀ a, (k0_off8 i v100 v109 v118 v127 v136 v145 v154 v163 v172 v181 v190 v199 v208 v217 v226 v235 k0_t2 v277) a + S1x128x128.size a ≤ S2x16384x128.size a := fun i v100 v109 v118 v127 v136 v145 v154 v163 v172 v181 v190 v199 v208 v217 v226 v235 k0_t2 v277 k0_hw4 k0_h1 k0_h4 => k0_hw4.2 k0_h1 k0_h4

def k0_mult4 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v282 : BitVec 32) : BitVec 32 :=
  let c127_i32_81 : BitVec 32 := 127#32
  let c0_i32_80 : BitVec 32 := 0#32
  let c0_i32_18 : BitVec 32 := 0#32
  let arg1 : BitVec 32 := BitVec.ofNat 32 (i 1).val
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c0_i32_21 : BitVec 32 := 0#32
  let c16384_i32_19 : BitVec 32 := 16384#32
  let v104 : BitVec 32 := Scalar.addi v0 c16384_i32_19
  let c1_i32_20 : BitVec 32 := 1#32
  let v105 : BitVec 32 := Scalar.subi v104 c1_i32_20
  let v106 : BitVec 1 := Scalar.cmpi .sle v100 v105
  let v107 : BitVec 32 := Scalar.extui v106
  let v108 : BitVec 32 := Scalar.addi c0_i32_21 v107
  let c16384_i32_22 : BitVec 32 := 16384#32
  let v113 : BitVec 32 := Scalar.addi v0 c16384_i32_22
  let c1_i32_23 : BitVec 32 := 1#32
  let v114 : BitVec 32 := Scalar.subi v113 c1_i32_23
  let v115 : BitVec 1 := Scalar.cmpi .sle v109 v114
  let v116 : BitVec 32 := Scalar.extui v115
  let v117 : BitVec 32 := Scalar.addi v108 v116
  let c16384_i32_24 : BitVec 32 := 16384#32
  let v122 : BitVec 32 := Scalar.addi v0 c16384_i32_24
  let c1_i32_25 : BitVec 32 := 1#32
  let v123 : BitVec 32 := Scalar.subi v122 c1_i32_25
  let v124 : BitVec 1 := Scalar.cmpi .sle v118 v123
  let v125 : BitVec 32 := Scalar.extui v124
  let v126 : BitVec 32 := Scalar.addi v117 v125
  let c16384_i32_26 : BitVec 32 := 16384#32
  let v131 : BitVec 32 := Scalar.addi v0 c16384_i32_26
  let c1_i32_27 : BitVec 32 := 1#32
  let v132 : BitVec 32 := Scalar.subi v131 c1_i32_27
  let v133 : BitVec 1 := Scalar.cmpi .sle v127 v132
  let v134 : BitVec 32 := Scalar.extui v133
  let v135 : BitVec 32 := Scalar.addi v126 v134
  let c16384_i32_28 : BitVec 32 := 16384#32
  let v140 : BitVec 32 := Scalar.addi v0 c16384_i32_28
  let c1_i32_29 : BitVec 32 := 1#32
  let v141 : BitVec 32 := Scalar.subi v140 c1_i32_29
  let v142 : BitVec 1 := Scalar.cmpi .sle v136 v141
  let v143 : BitVec 32 := Scalar.extui v142
  let v144 : BitVec 32 := Scalar.addi v135 v143
  let c16384_i32_30 : BitVec 32 := 16384#32
  let v149 : BitVec 32 := Scalar.addi v0 c16384_i32_30
  let c1_i32_31 : BitVec 32 := 1#32
  let v150 : BitVec 32 := Scalar.subi v149 c1_i32_31
  let v151 : BitVec 1 := Scalar.cmpi .sle v145 v150
  let v152 : BitVec 32 := Scalar.extui v151
  let v153 : BitVec 32 := Scalar.addi v144 v152
  let c16384_i32_32 : BitVec 32 := 16384#32
  let v158 : BitVec 32 := Scalar.addi v0 c16384_i32_32
  let c1_i32_33 : BitVec 32 := 1#32
  let v159 : BitVec 32 := Scalar.subi v158 c1_i32_33
  let v160 : BitVec 1 := Scalar.cmpi .sle v154 v159
  let v161 : BitVec 32 := Scalar.extui v160
  let v162 : BitVec 32 := Scalar.addi v153 v161
  let c16384_i32_34 : BitVec 32 := 16384#32
  let v167 : BitVec 32 := Scalar.addi v0 c16384_i32_34
  let c1_i32_35 : BitVec 32 := 1#32
  let v168 : BitVec 32 := Scalar.subi v167 c1_i32_35
  let v169 : BitVec 1 := Scalar.cmpi .sle v163 v168
  let v170 : BitVec 32 := Scalar.extui v169
  let v171 : BitVec 32 := Scalar.addi v162 v170
  let c16384_i32_36 : BitVec 32 := 16384#32
  let v176 : BitVec 32 := Scalar.addi v0 c16384_i32_36
  let c1_i32_37 : BitVec 32 := 1#32
  let v177 : BitVec 32 := Scalar.subi v176 c1_i32_37
  let v178 : BitVec 1 := Scalar.cmpi .sle v172 v177
  let v179 : BitVec 32 := Scalar.extui v178
  let v180 : BitVec 32 := Scalar.addi v171 v179
  let c16384_i32_38 : BitVec 32 := 16384#32
  let v185 : BitVec 32 := Scalar.addi v0 c16384_i32_38
  let c1_i32_39 : BitVec 32 := 1#32
  let v186 : BitVec 32 := Scalar.subi v185 c1_i32_39
  let v187 : BitVec 1 := Scalar.cmpi .sle v181 v186
  let v188 : BitVec 32 := Scalar.extui v187
  let v189 : BitVec 32 := Scalar.addi v180 v188
  let c16384_i32_40 : BitVec 32 := 16384#32
  let v194 : BitVec 32 := Scalar.addi v0 c16384_i32_40
  let c1_i32_41 : BitVec 32 := 1#32
  let v195 : BitVec 32 := Scalar.subi v194 c1_i32_41
  let v196 : BitVec 1 := Scalar.cmpi .sle v190 v195
  let v197 : BitVec 32 := Scalar.extui v196
  let v198 : BitVec 32 := Scalar.addi v189 v197
  let c16384_i32_42 : BitVec 32 := 16384#32
  let v203 : BitVec 32 := Scalar.addi v0 c16384_i32_42
  let c1_i32_43 : BitVec 32 := 1#32
  let v204 : BitVec 32 := Scalar.subi v203 c1_i32_43
  let v205 : BitVec 1 := Scalar.cmpi .sle v199 v204
  let v206 : BitVec 32 := Scalar.extui v205
  let v207 : BitVec 32 := Scalar.addi v198 v206
  let c16384_i32_44 : BitVec 32 := 16384#32
  let v212 : BitVec 32 := Scalar.addi v0 c16384_i32_44
  let c1_i32_45 : BitVec 32 := 1#32
  let v213 : BitVec 32 := Scalar.subi v212 c1_i32_45
  let v214 : BitVec 1 := Scalar.cmpi .sle v208 v213
  let v215 : BitVec 32 := Scalar.extui v214
  let v216 : BitVec 32 := Scalar.addi v207 v215
  let c16384_i32_46 : BitVec 32 := 16384#32
  let v221 : BitVec 32 := Scalar.addi v0 c16384_i32_46
  let c1_i32_47 : BitVec 32 := 1#32
  let v222 : BitVec 32 := Scalar.subi v221 c1_i32_47
  let v223 : BitVec 1 := Scalar.cmpi .sle v217 v222
  let v224 : BitVec 32 := Scalar.extui v223
  let v225 : BitVec 32 := Scalar.addi v216 v224
  let c16384_i32_48 : BitVec 32 := 16384#32
  let v230 : BitVec 32 := Scalar.addi v0 c16384_i32_48
  let c1_i32_49 : BitVec 32 := 1#32
  let v231 : BitVec 32 := Scalar.subi v230 c1_i32_49
  let v232 : BitVec 1 := Scalar.cmpi .sle v226 v231
  let v233 : BitVec 32 := Scalar.extui v232
  let v234 : BitVec 32 := Scalar.addi v225 v233
  let c16384_i32_50 : BitVec 32 := 16384#32
  let v239 : BitVec 32 := Scalar.addi v0 c16384_i32_50
  let c1_i32_51 : BitVec 32 := 1#32
  let v240 : BitVec 32 := Scalar.subi v239 c1_i32_51
  let v241 : BitVec 1 := Scalar.cmpi .sle v235 v240
  let v242 : BitVec 32 := Scalar.extui v241
  let v243 : BitVec 32 := Scalar.addi v234 v242
  let c1_i32_55 : BitVec 32 := 1#32
  let v267 : BitVec 32 := Scalar.addi v243 c1_i32_55
  let v268 : BitVec 32 := Scalar.subi v267 v238
  let c1_i32_57 : BitVec 32 := 1#32
  let v270 : BitVec 32 := Scalar.divsi v268 c1_i32_57
  let v271 : BitVec 32 := Scalar.muli v270 c1_i32_57
  let v272 : BitVec 32 := Scalar.addi v238 v271
  let c1_i32_59 : BitVec 32 := 1#32
  let arg18 : BitVec 32 := Scf.iv v272 c1_i32_59 k0_t2
  let c16_i32 : BitVec 32 := 16#32
  let v279 : BitVec 1 := Scalar.cmpi .eq arg18 c16_i32
  let c32768_i32 : BitVec 32 := 32768#32
  let v283 : BitVec 32 := Scalar.select v279 c32768_i32 v282
  let c16384_i32_64 : BitVec 32 := 16384#32
  let v285 : BitVec 32 := Scalar.addi v0 c16384_i32_64
  let v286 : BitVec 32 := Scalar.minsi v283 v285
  let c1_i32_72 : BitVec 32 := 1#32
  let v307 : BitVec 32 := Scalar.subi v286 c1_i32_72
  let v308 : BitVec 32 := Scalar.subi v307 v0
  let c0_i32_74 : BitVec 32 := 0#32
  let v310 : BitVec 1 := Scalar.cmpi .sgt v308 c0_i32_74
  let v311 : BitVec 32 := Scalar.extui v310
  let c0_i32_75 : BitVec 32 := 0#32
  let v312 : BitVec 1 := Scalar.cmpi .slt v308 c0_i32_75
  let v313 : BitVec 32 := Scalar.extui v312
  let v314 : BitVec 32 := Scalar.subi v311 v313
  let c128_i32_73 : BitVec 32 := 128#32
  let c0_i32_76 : BitVec 32 := 0#32
  let v315 : BitVec 1 := Scalar.cmpi .sgt c128_i32_73 c0_i32_76
  let v316 : BitVec 32 := Scalar.extui v315
  let c0_i32_77 : BitVec 32 := 0#32
  let v317 : BitVec 1 := Scalar.cmpi .slt c128_i32_73 c0_i32_77
  let v318 : BitVec 32 := Scalar.extui v317
  let v319 : BitVec 32 := Scalar.subi v316 v318
  let v320 : BitVec 1 := Scalar.cmpi .ne v314 v319
  let v321 : BitVec 32 := Scalar.remsi v308 c128_i32_73
  let c0_i32_78 : BitVec 32 := 0#32
  let v322 : BitVec 1 := Scalar.cmpi .ne v321 c0_i32_78
  let v323 : BitVec 1 := Scalar.andi v320 v322
  let v309 : BitVec 32 := Scalar.divsi v308 c128_i32_73
  let c1_i32_79 : BitVec 32 := 1#32
  let v324 : BitVec 32 := Scalar.subi v309 c1_i32_79
  let v325 : BitVec 32 := Scalar.select v323 v324 v309
  let v326 : BitVec 32 := Scalar.maxsi c0_i32_80 v325
  let v327 : BitVec 32 := Scalar.minsi c127_i32_81 v326
  let c128_i32_90 : BitVec 32 := 128#32
  let v369 : BitVec 32 := Scalar.muli v327 c128_i32_90
  v369

def k0_off9 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v282 : BitVec 32) : Fin 3 → Nat :=
  let arg1 : BitVec 32 := BitVec.ofNat 32 (i 1).val
  let v371 : Index := Scalar.indexCast arg1
  let c127_i32_81 : BitVec 32 := 127#32
  let c0_i32_80 : BitVec 32 := 0#32
  let c0_i32_18 : BitVec 32 := 0#32
  let c16384_i32 : BitVec 32 := 16384#32
  let v0 : BitVec 32 := Scalar.muli arg1 c16384_i32
  let v101 : BitVec 1 := Scalar.cmpi .sle v100 v0
  let v102 : BitVec 32 := Scalar.extui v101
  let v103 : BitVec 32 := Scalar.addi c0_i32_18 v102
  let v110 : BitVec 1 := Scalar.cmpi .sle v109 v0
  let v111 : BitVec 32 := Scalar.extui v110
  let v112 : BitVec 32 := Scalar.addi v103 v111
  let v119 : BitVec 1 := Scalar.cmpi .sle v118 v0
  let v120 : BitVec 32 := Scalar.extui v119
  let v121 : BitVec 32 := Scalar.addi v112 v120
  let v128 : BitVec 1 := Scalar.cmpi .sle v127 v0
  let v129 : BitVec 32 := Scalar.extui v128
  let v130 : BitVec 32 := Scalar.addi v121 v129
  let v137 : BitVec 1 := Scalar.cmpi .sle v136 v0
  let v138 : BitVec 32 := Scalar.extui v137
  let v139 : BitVec 32 := Scalar.addi v130 v138
  let v146 : BitVec 1 := Scalar.cmpi .sle v145 v0
  let v147 : BitVec 32 := Scalar.extui v146
  let v148 : BitVec 32 := Scalar.addi v139 v147
  let v155 : BitVec 1 := Scalar.cmpi .sle v154 v0
  let v156 : BitVec 32 := Scalar.extui v155
  let v157 : BitVec 32 := Scalar.addi v148 v156
  let v164 : BitVec 1 := Scalar.cmpi .sle v163 v0
  let v165 : BitVec 32 := Scalar.extui v164
  let v166 : BitVec 32 := Scalar.addi v157 v165
  let v173 : BitVec 1 := Scalar.cmpi .sle v172 v0
  let v174 : BitVec 32 := Scalar.extui v173
  let v175 : BitVec 32 := Scalar.addi v166 v174
  let v182 : BitVec 1 := Scalar.cmpi .sle v181 v0
  let v183 : BitVec 32 := Scalar.extui v182
  let v184 : BitVec 32 := Scalar.addi v175 v183
  let v191 : BitVec 1 := Scalar.cmpi .sle v190 v0
  let v192 : BitVec 32 := Scalar.extui v191
  let v193 : BitVec 32 := Scalar.addi v184 v192
  let v200 : BitVec 1 := Scalar.cmpi .sle v199 v0
  let v201 : BitVec 32 := Scalar.extui v200
  let v202 : BitVec 32 := Scalar.addi v193 v201
  let v209 : BitVec 1 := Scalar.cmpi .sle v208 v0
  let v210 : BitVec 32 := Scalar.extui v209
  let v211 : BitVec 32 := Scalar.addi v202 v210
  let v218 : BitVec 1 := Scalar.cmpi .sle v217 v0
  let v219 : BitVec 32 := Scalar.extui v218
  let v220 : BitVec 32 := Scalar.addi v211 v219
  let v227 : BitVec 1 := Scalar.cmpi .sle v226 v0
  let v228 : BitVec 32 := Scalar.extui v227
  let v229 : BitVec 32 := Scalar.addi v220 v228
  let v236 : BitVec 1 := Scalar.cmpi .sle v235 v0
  let v237 : BitVec 32 := Scalar.extui v236
  let v238 : BitVec 32 := Scalar.addi v229 v237
  let c0_i32_21 : BitVec 32 := 0#32
  let c16384_i32_19 : BitVec 32 := 16384#32
  let v104 : BitVec 32 := Scalar.addi v0 c16384_i32_19
  let c1_i32_20 : BitVec 32 := 1#32
  let v105 : BitVec 32 := Scalar.subi v104 c1_i32_20
  let v106 : BitVec 1 := Scalar.cmpi .sle v100 v105
  let v107 : BitVec 32 := Scalar.extui v106
  let v108 : BitVec 32 := Scalar.addi c0_i32_21 v107
  let c16384_i32_22 : BitVec 32 := 16384#32
  let v113 : BitVec 32 := Scalar.addi v0 c16384_i32_22
  let c1_i32_23 : BitVec 32 := 1#32
  let v114 : BitVec 32 := Scalar.subi v113 c1_i32_23
  let v115 : BitVec 1 := Scalar.cmpi .sle v109 v114
  let v116 : BitVec 32 := Scalar.extui v115
  let v117 : BitVec 32 := Scalar.addi v108 v116
  let c16384_i32_24 : BitVec 32 := 16384#32
  let v122 : BitVec 32 := Scalar.addi v0 c16384_i32_24
  let c1_i32_25 : BitVec 32 := 1#32
  let v123 : BitVec 32 := Scalar.subi v122 c1_i32_25
  let v124 : BitVec 1 := Scalar.cmpi .sle v118 v123
  let v125 : BitVec 32 := Scalar.extui v124
  let v126 : BitVec 32 := Scalar.addi v117 v125
  let c16384_i32_26 : BitVec 32 := 16384#32
  let v131 : BitVec 32 := Scalar.addi v0 c16384_i32_26
  let c1_i32_27 : BitVec 32 := 1#32
  let v132 : BitVec 32 := Scalar.subi v131 c1_i32_27
  let v133 : BitVec 1 := Scalar.cmpi .sle v127 v132
  let v134 : BitVec 32 := Scalar.extui v133
  let v135 : BitVec 32 := Scalar.addi v126 v134
  let c16384_i32_28 : BitVec 32 := 16384#32
  let v140 : BitVec 32 := Scalar.addi v0 c16384_i32_28
  let c1_i32_29 : BitVec 32 := 1#32
  let v141 : BitVec 32 := Scalar.subi v140 c1_i32_29
  let v142 : BitVec 1 := Scalar.cmpi .sle v136 v141
  let v143 : BitVec 32 := Scalar.extui v142
  let v144 : BitVec 32 := Scalar.addi v135 v143
  let c16384_i32_30 : BitVec 32 := 16384#32
  let v149 : BitVec 32 := Scalar.addi v0 c16384_i32_30
  let c1_i32_31 : BitVec 32 := 1#32
  let v150 : BitVec 32 := Scalar.subi v149 c1_i32_31
  let v151 : BitVec 1 := Scalar.cmpi .sle v145 v150
  let v152 : BitVec 32 := Scalar.extui v151
  let v153 : BitVec 32 := Scalar.addi v144 v152
  let c16384_i32_32 : BitVec 32 := 16384#32
  let v158 : BitVec 32 := Scalar.addi v0 c16384_i32_32
  let c1_i32_33 : BitVec 32 := 1#32
  let v159 : BitVec 32 := Scalar.subi v158 c1_i32_33
  let v160 : BitVec 1 := Scalar.cmpi .sle v154 v159
  let v161 : BitVec 32 := Scalar.extui v160
  let v162 : BitVec 32 := Scalar.addi v153 v161
  let c16384_i32_34 : BitVec 32 := 16384#32
  let v167 : BitVec 32 := Scalar.addi v0 c16384_i32_34
  let c1_i32_35 : BitVec 32 := 1#32
  let v168 : BitVec 32 := Scalar.subi v167 c1_i32_35
  let v169 : BitVec 1 := Scalar.cmpi .sle v163 v168
  let v170 : BitVec 32 := Scalar.extui v169
  let v171 : BitVec 32 := Scalar.addi v162 v170
  let c16384_i32_36 : BitVec 32 := 16384#32
  let v176 : BitVec 32 := Scalar.addi v0 c16384_i32_36
  let c1_i32_37 : BitVec 32 := 1#32
  let v177 : BitVec 32 := Scalar.subi v176 c1_i32_37
  let v178 : BitVec 1 := Scalar.cmpi .sle v172 v177
  let v179 : BitVec 32 := Scalar.extui v178
  let v180 : BitVec 32 := Scalar.addi v171 v179
  let c16384_i32_38 : BitVec 32 := 16384#32
  let v185 : BitVec 32 := Scalar.addi v0 c16384_i32_38
  let c1_i32_39 : BitVec 32 := 1#32
  let v186 : BitVec 32 := Scalar.subi v185 c1_i32_39
  let v187 : BitVec 1 := Scalar.cmpi .sle v181 v186
  let v188 : BitVec 32 := Scalar.extui v187
  let v189 : BitVec 32 := Scalar.addi v180 v188
  let c16384_i32_40 : BitVec 32 := 16384#32
  let v194 : BitVec 32 := Scalar.addi v0 c16384_i32_40
  let c1_i32_41 : BitVec 32 := 1#32
  let v195 : BitVec 32 := Scalar.subi v194 c1_i32_41
  let v196 : BitVec 1 := Scalar.cmpi .sle v190 v195
  let v197 : BitVec 32 := Scalar.extui v196
  let v198 : BitVec 32 := Scalar.addi v189 v197
  let c16384_i32_42 : BitVec 32 := 16384#32
  let v203 : BitVec 32 := Scalar.addi v0 c16384_i32_42
  let c1_i32_43 : BitVec 32 := 1#32
  let v204 : BitVec 32 := Scalar.subi v203 c1_i32_43
  let v205 : BitVec 1 := Scalar.cmpi .sle v199 v204
  let v206 : BitVec 32 := Scalar.extui v205
  let v207 : BitVec 32 := Scalar.addi v198 v206
  let c16384_i32_44 : BitVec 32 := 16384#32
  let v212 : BitVec 32 := Scalar.addi v0 c16384_i32_44
  let c1_i32_45 : BitVec 32 := 1#32
  let v213 : BitVec 32 := Scalar.subi v212 c1_i32_45
  let v214 : BitVec 1 := Scalar.cmpi .sle v208 v213
  let v215 : BitVec 32 := Scalar.extui v214
  let v216 : BitVec 32 := Scalar.addi v207 v215
  let c16384_i32_46 : BitVec 32 := 16384#32
  let v221 : BitVec 32 := Scalar.addi v0 c16384_i32_46
  let c1_i32_47 : BitVec 32 := 1#32
  let v222 : BitVec 32 := Scalar.subi v221 c1_i32_47
  let v223 : BitVec 1 := Scalar.cmpi .sle v217 v222
  let v224 : BitVec 32 := Scalar.extui v223
  let v225 : BitVec 32 := Scalar.addi v216 v224
  let c16384_i32_48 : BitVec 32 := 16384#32
  let v230 : BitVec 32 := Scalar.addi v0 c16384_i32_48
  let c1_i32_49 : BitVec 32 := 1#32
  let v231 : BitVec 32 := Scalar.subi v230 c1_i32_49
  let v232 : BitVec 1 := Scalar.cmpi .sle v226 v231
  let v233 : BitVec 32 := Scalar.extui v232
  let v234 : BitVec 32 := Scalar.addi v225 v233
  let c16384_i32_50 : BitVec 32 := 16384#32
  let v239 : BitVec 32 := Scalar.addi v0 c16384_i32_50
  let c1_i32_51 : BitVec 32 := 1#32
  let v240 : BitVec 32 := Scalar.subi v239 c1_i32_51
  let v241 : BitVec 1 := Scalar.cmpi .sle v235 v240
  let v242 : BitVec 32 := Scalar.extui v241
  let v243 : BitVec 32 := Scalar.addi v234 v242
  let c1_i32_55 : BitVec 32 := 1#32
  let v267 : BitVec 32 := Scalar.addi v243 c1_i32_55
  let v268 : BitVec 32 := Scalar.subi v267 v238
  let c1_i32_57 : BitVec 32 := 1#32
  let v270 : BitVec 32 := Scalar.divsi v268 c1_i32_57
  let v271 : BitVec 32 := Scalar.muli v270 c1_i32_57
  let v272 : BitVec 32 := Scalar.addi v238 v271
  let c1_i32_59 : BitVec 32 := 1#32
  let arg18 : BitVec 32 := Scf.iv v272 c1_i32_59 k0_t2
  let c16_i32 : BitVec 32 := 16#32
  let v279 : BitVec 1 := Scalar.cmpi .eq arg18 c16_i32
  let c32768_i32 : BitVec 32 := 32768#32
  let v283 : BitVec 32 := Scalar.select v279 c32768_i32 v282
  let c16384_i32_64 : BitVec 32 := 16384#32
  let v285 : BitVec 32 := Scalar.addi v0 c16384_i32_64
  let v286 : BitVec 32 := Scalar.minsi v283 v285
  let c1_i32_72 : BitVec 32 := 1#32
  let v307 : BitVec 32 := Scalar.subi v286 c1_i32_72
  let v308 : BitVec 32 := Scalar.subi v307 v0
  let c0_i32_74 : BitVec 32 := 0#32
  let v310 : BitVec 1 := Scalar.cmpi .sgt v308 c0_i32_74
  let v311 : BitVec 32 := Scalar.extui v310
  let c0_i32_75 : BitVec 32 := 0#32
  let v312 : BitVec 1 := Scalar.cmpi .slt v308 c0_i32_75
  let v313 : BitVec 32 := Scalar.extui v312
  let v314 : BitVec 32 := Scalar.subi v311 v313
  let c128_i32_73 : BitVec 32 := 128#32
  let c0_i32_76 : BitVec 32 := 0#32
  let v315 : BitVec 1 := Scalar.cmpi .sgt c128_i32_73 c0_i32_76
  let v316 : BitVec 32 := Scalar.extui v315
  let c0_i32_77 : BitVec 32 := 0#32
  let v317 : BitVec 1 := Scalar.cmpi .slt c128_i32_73 c0_i32_77
  let v318 : BitVec 32 := Scalar.extui v317
  let v319 : BitVec 32 := Scalar.subi v316 v318
  let v320 : BitVec 1 := Scalar.cmpi .ne v314 v319
  let v321 : BitVec 32 := Scalar.remsi v308 c128_i32_73
  let c0_i32_78 : BitVec 32 := 0#32
  let v322 : BitVec 1 := Scalar.cmpi .ne v321 c0_i32_78
  let v323 : BitVec 1 := Scalar.andi v320 v322
  let v309 : BitVec 32 := Scalar.divsi v308 c128_i32_73
  let c1_i32_79 : BitVec 32 := 1#32
  let v324 : BitVec 32 := Scalar.subi v309 c1_i32_79
  let v325 : BitVec 32 := Scalar.select v323 v324 v309
  let v326 : BitVec 32 := Scalar.maxsi c0_i32_80 v325
  let v327 : BitVec 32 := Scalar.minsi c127_i32_81 v326
  let c128_i32_90 : BitVec 32 := 128#32
  let v369 : BitVec 32 := Scalar.muli v327 c128_i32_90
  let v370 : BitVec 32 := v369
  let v372 : Index := Scalar.indexCast v370
  let c0_91 : Index := 0#32
  ![v371.toNat, v372.toNat, 0]

def k0_chk5 (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v282 : BitVec 32) : Prop :=
  (∀ (k0_h1 : k0_cond1 i = 1#1), ∀ (k0_h4 : k0_cond4 i v100 v109 v118 v127 v136 v145 v154 v163 v172 v181 v190 v199 v208 v217 v226 v235 = 1#1), 128 ∣ (k0_mult4 i v100 v109 v118 v127 v136 v145 v154 v163 v172 v181 v190 v199 v208 v217 v226 v235 k0_t2 v282).toNat) ∧
  (∀ (k0_h1 : k0_cond1 i = 1#1), ∀ (k0_h4 : k0_cond4 i v100 v109 v118 v127 v136 v145 v154 v163 v172 v181 v190 v199 v208 v217 v226 v235 = 1#1), ∀ a, (k0_off9 i v100 v109 v118 v127 v136 v145 v154 v163 v172 v181 v190 v199 v208 v217 v226 v235 k0_t2 v282) a + S1x128x128.size a ≤ S2x16384x128.size a)
theorem k0_mult4_dvd : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v282 : BitVec 32) (k0_hw5 : k0_chk5 i v100 v109 v118 v127 v136 v145 v154 v163 v172 v181 v190 v199 v208 v217 v226 v235 k0_t2 v282), ∀ (k0_h1 : k0_cond1 i = 1#1), ∀ (k0_h4 : k0_cond4 i v100 v109 v118 v127 v136 v145 v154 v163 v172 v181 v190 v199 v208 v217 v226 v235 = 1#1), 128 ∣ (k0_mult4 i v100 v109 v118 v127 v136 v145 v154 v163 v172 v181 v190 v199 v208 v217 v226 v235 k0_t2 v282).toNat := fun i v100 v109 v118 v127 v136 v145 v154 v163 v172 v181 v190 v199 v208 v217 v226 v235 k0_t2 v282 k0_hw5 k0_h1 k0_h4 => k0_hw5.1 k0_h1 k0_h4
theorem k0_off9_inb : ∀ (i : grid0.Coords) (v100 : BitVec 32) (v109 : BitVec 32) (v118 : BitVec 32) (v127 : BitVec 32) (v136 : BitVec 32) (v145 : BitVec 32) (v154 : BitVec 32) (v163 : BitVec 32) (v172 : BitVec 32) (v181 : BitVec 32) (v190 : BitVec 32) (v199 : BitVec 32) (v208 : BitVec 32) (v217 : BitVec 32) (v226 : BitVec 32) (v235 : BitVec 32) (k0_t2 : Fin (k0_t2_loop i v100 v109 v118 v127 v136 v145 v154 v163 v172 v181 v190 v199 v208 v217 v226 v235).trips) (v282 : BitVec 32) (k0_hw5 : k0_chk5 i v100 v109 v118 v127 v136 v145 v154 v163 v172 v181 v190 v199 v208 v217 v226 v235 k0_t2 v282), ∀ (k0_h1 : k0_cond1 i = 1#1), ∀ (k0_h4 : k0_cond4 i v100 v109 v118 v127 v136 v145 v154 v163 v172 v181 v190 v199 v208 v217 v226 v235 = 1#1), ∀ a, (k0_off9 i v100 v109 v118 v127 v136 v145 v154 v163 v172 v181 v190 v199 v208 v217 v226 v235 k0_t2 v282) a + S1x128x128.size a ≤ S2x16384x128.size a := fun i v100 v109 v118 v127 v136 v145 v154 v163 v172 v181 v190 v199 v208 v217 v226 v235 k0_t2 v282 k0_hw5 k0_h1 k0_h4 => k0_hw5.2 k0_h1 k0_h4

def k0_cond5 (i : grid0.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_1 : BitVec 32 := 0#32
  let v7 : BitVec 1 := Scalar.cmpi .ne v6 c0_i32_1
  v7

def k0_off10 (i : grid0.Coords) : Fin 3 → Nat :=
  let arg1 : BitVec 32 := BitVec.ofNat 32 (i 1).val
  let v11 : Index := Scalar.indexCast arg1
  let c0 : Index := 0#32
  let c0_4 : Index := 0#32
  ![v11.toNat, 0, 0]
def k0_cond7 (i : grid0.Coords) : BitVec 1 :=
  let arg1 : BitVec 32 := BitVec.ofNat 32 (i 1).val
  let c1_i32_64 : BitVec 32 := 1#32
  let v247 : BitVec 1 := Scalar.cmpi .eq arg1 c1_i32_64
  let v248 : BitVec 32 := Scalar.extui v247
  let c0_i32_65 : BitVec 32 := 0#32
  let v249 : BitVec 1 := Scalar.cmpi .ne v248 c0_i32_65
  v249

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S32768x128 : Shape := ⟨2, ![32768, 128]⟩
abbrev S16 : Shape := ⟨1, ![16]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S_ : Shape := ⟨0, ![]⟩
abbrev S1x16 : Shape := ⟨2, ![1, 16]⟩
abbrev S32768 : Shape := ⟨1, ![32768]⟩
abbrev S32768x1 : Shape := ⟨2, ![32768, 1]⟩
abbrev S32768x16 : Shape := ⟨2, ![32768, 16]⟩
abbrev S1x32768 : Shape := ⟨2, ![1, 32768]⟩
abbrev S17 : Shape := ⟨1, ![17]⟩
abbrev S17x1 : Shape := ⟨2, ![17, 1]⟩
abbrev S17x32768 : Shape := ⟨2, ![17, 32768]⟩
abbrev S17x32768x1 : Shape := ⟨3, ![17, 32768, 1]⟩
abbrev S1x32768x128 : Shape := ⟨3, ![1, 32768, 128]⟩
abbrev S17x32768x128 : Shape := ⟨3, ![17, 32768, 128]⟩
abbrev S17x128 : Shape := ⟨2, ![17, 128]⟩
abbrev S17x256 : Shape := ⟨2, ![17, 256]⟩
abbrev S256x128 : Shape := ⟨2, ![256, 128]⟩

abbrev nBuf : Space → Nat
  | .hbm => 114
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S16, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S128x128, .f32⟩
  | .hbm, ⟨9, _⟩ => ⟨S32768x128, .f32⟩
  | .hbm, ⟨10, _⟩ => ⟨S1x128, .f32⟩
  | .hbm, ⟨11, _⟩ => ⟨S32768x128, .f32⟩
  | .hbm, ⟨12, _⟩ => ⟨S32768x128, .f32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S_, .f32⟩
  | .hbm, ⟨17, _⟩ => ⟨S1x128, .f32⟩
  | .hbm, ⟨18, _⟩ => ⟨S1x128, .f32⟩
  | .hbm, ⟨19, _⟩ => ⟨S_, .i32⟩
  | .hbm, ⟨20, _⟩ => ⟨S_, .f32⟩
  | .hbm, ⟨21, _⟩ => ⟨S128, .f32⟩
  | .hbm, ⟨22, _⟩ => ⟨S1x128, .f32⟩
  | .hbm, ⟨23, _⟩ => ⟨S_, .f32⟩
  | .hbm, ⟨24, _⟩ => ⟨S1x128, .f32⟩
  | .hbm, ⟨25, _⟩ => ⟨S1x128, .f32⟩
  | .hbm, ⟨26, _⟩ => ⟨S32768x128, .f32⟩
  | .hbm, ⟨27, _⟩ => ⟨S32768x128, .f32⟩
  | .hbm, ⟨28, _⟩ => ⟨S32768x128, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S128, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S32768x128, .f32⟩
  | .hbm, ⟨44, _⟩ => ⟨S32768x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S32768x128, .f32⟩
  | .hbm, ⟨50, _⟩ => ⟨S32768x128, .f32⟩
  | .hbm, ⟨51, _⟩ => ⟨S1x128, .f32⟩
  | .hbm, ⟨52, _⟩ => ⟨S32768x128, .f32⟩
  | .hbm, ⟨53, _⟩ => ⟨S32768x128, .f32⟩
  | .hbm, ⟨54, _⟩ => ⟨S1x128, .f32⟩
  | .hbm, ⟨55, _⟩ => ⟨S32768x128, .f32⟩
  | .hbm, ⟨56, _⟩ => ⟨S32768x128, .f32⟩
  | .hbm, ⟨57, _⟩ => ⟨S_, .f32⟩
  | .hbm, ⟨58, _⟩ => ⟨S32768x128, .f32⟩
  | .hbm, ⟨59, _⟩ => ⟨S32768x128, .f32⟩
  | .hbm, ⟨60, _⟩ => ⟨S1x16, .i32⟩
  | .hbm, ⟨61, _⟩ => ⟨S32768, .i32⟩
  | .hbm, ⟨62, _⟩ => ⟨S32768x1, .i32⟩
  | .hbm, ⟨63, _⟩ => ⟨S32768x16, .i32⟩
  | .hbm, ⟨64, _⟩ => ⟨S32768x16, .i32⟩
  | .hbm, ⟨65, _⟩ => ⟨S32768x16, .i1⟩
  | .hbm, ⟨66, _⟩ => ⟨S32768x16, .i32⟩
  | .hbm, ⟨67, _⟩ => ⟨S_, .i32⟩
  | .hbm, ⟨68, _⟩ => ⟨S32768, .i32⟩
  | .hbm, ⟨69, _⟩ => ⟨S1x32768, .i32⟩
  | .hbm, ⟨70, _⟩ => ⟨S17, .i32⟩
  | .hbm, ⟨71, _⟩ => ⟨S17x1, .i32⟩
  | .hbm, ⟨72, _⟩ => ⟨S17x32768, .i32⟩
  | .hbm, ⟨73, _⟩ => ⟨S17x32768, .i32⟩
  | .hbm, ⟨74, _⟩ => ⟨S17x32768, .i1⟩
  | .hbm, ⟨75, _⟩ => ⟨S17x32768x1, .i1⟩
  | .hbm, ⟨76, _⟩ => ⟨S1x32768x128, .f32⟩
  | .hbm, ⟨77, _⟩ => ⟨S_, .f32⟩
  | .hbm, ⟨78, _⟩ => ⟨S_, .f32⟩
  | .hbm, ⟨79, _⟩ => ⟨S17x32768x128, .i1⟩
  | .hbm, ⟨80, _⟩ => ⟨S17x32768x128, .f32⟩
  | .hbm, ⟨81, _⟩ => ⟨S17x32768x128, .f32⟩
  | .hbm, ⟨82, _⟩ => ⟨S17x32768x128, .f32⟩
  | .hbm, ⟨83, _⟩ => ⟨S_, .f32⟩
  | .hbm, ⟨84, _⟩ => ⟨S17x128, .f32⟩
  | .hbm, ⟨85, _⟩ => ⟨S17x128, .f32⟩
  | .hbm, ⟨86, _⟩ => ⟨S_, .f32⟩
  | .hbm, ⟨87, _⟩ => ⟨S17x128, .f32⟩
  | .hbm, ⟨88, _⟩ => ⟨S17x128, .i1⟩
  | .hbm, ⟨89, _⟩ => ⟨S_, .f32⟩
  | .hbm, ⟨90, _⟩ => ⟨S_, .f32⟩
  | .hbm, ⟨91, _⟩ => ⟨S17x128, .f32⟩
  | .hbm, ⟨92, _⟩ => ⟨S17x128, .f32⟩
  | .hbm, ⟨93, _⟩ => ⟨S_, .f32⟩
  | .hbm, ⟨94, _⟩ => ⟨S32768x1, .f32⟩
  | .hbm, ⟨95, _⟩ => ⟨S_, .f32⟩
  | .hbm, ⟨96, _⟩ => ⟨S17x1, .f32⟩
  | .hbm, ⟨97, _⟩ => ⟨S32768x1, .i32⟩
  | .hbm, ⟨98, _⟩ => ⟨S17x1, .f32⟩
  | .hbm, ⟨99, _⟩ => ⟨S_, .f32⟩
  | .hbm, ⟨100, _⟩ => ⟨S17x128, .f32⟩
  | .hbm, ⟨101, _⟩ => ⟨S32768x1, .i32⟩
  | .hbm, ⟨102, _⟩ => ⟨S17x128, .f32⟩
  | .hbm, ⟨103, _⟩ => ⟨S_, .f32⟩
  | .hbm, ⟨104, _⟩ => ⟨S17x1, .f32⟩
  | .hbm, ⟨105, _⟩ => ⟨S17x1, .f32⟩
  | .hbm, ⟨106, _⟩ => ⟨S17x128, .f32⟩
  | .hbm, ⟨107, _⟩ => ⟨S17x128, .f32⟩
  | .hbm, ⟨108, _⟩ => ⟨S17x256, .f32⟩
  | .hbm, ⟨109, _⟩ => ⟨S256x128, .f32⟩
  | .hbm, ⟨110, _⟩ => ⟨S17x128, .f32⟩
  | .hbm, ⟨111, _⟩ => ⟨S1x128, .f32⟩
  | .hbm, ⟨112, _⟩ => ⟨S17x128, .f32⟩
  | .hbm, ⟨113, _⟩ => ⟨S17x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_call1_cst : Ref sig .tc := ⟨.hbm, 57, rfl⟩
abbrev main_call1_v0 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_c_2 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_3 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_v40 : Ref sig .tc := ⟨.hbm, 82, rfl⟩
abbrev main_cst_4 : Ref sig .tc := ⟨.hbm, 83, rfl⟩
abbrev main_v41 : Ref sig .tc := ⟨.hbm, 84, rfl⟩
abbrev main_v42 : Ref sig .tc := ⟨.hbm, 85, rfl⟩
abbrev main_cst_5 : Ref sig .tc := ⟨.hbm, 86, rfl⟩
abbrev main_v43 : Ref sig .tc := ⟨.hbm, 87, rfl⟩
abbrev main_v44 : Ref sig .tc := ⟨.hbm, 88, rfl⟩
abbrev main_cst_6 : Ref sig .tc := ⟨.hbm, 89, rfl⟩
abbrev main_call3_v0 : Ref sig .tc := ⟨.hbm, 90, rfl⟩
abbrev main_call3_v1 : Ref sig .tc := ⟨.hbm, 91, rfl⟩
abbrev main_v45 : Ref sig .tc := ⟨.hbm, 92, rfl⟩
abbrev main_cst_7 : Ref sig .tc := ⟨.hbm, 93, rfl⟩
abbrev main_v46 : Ref sig .tc := ⟨.hbm, 94, rfl⟩
abbrev main_cst_8 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_cst_9 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_cst_10 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩

abbrev nD : Nat := 1
abbrev τ : Topo := Topo.v7x

variable {F : FTy → Type} [FloatOps F]
-- ==== Proof.Words.lean ====
/-
  The 32-bit words the kernel computes from its table of segment ends: counts of table entries,
  the bounds of the loop over the segments of a tile, and clamped indices.
-/
module

public import Idealize.ShloMosaic.Lib.Tactic
public import Idealize.ShloMosaic.Lib.WordArith
public import Idealize.ShloMosaic.Lib.WordCmp
public import Idealize.ShloMosaic.Lib.LoopRemainder

@[expose] public section

namespace SegWords

open Idealize.ShloMosaic

/-- One if the word `w` is at most `v` as a signed number, zero otherwise. -/
def ind (w v : BitVec 32) : Nat := if w.toInt ≤ v.toInt then 1 else 0

theorem ind_le_one (w v : BitVec 32) : ind w v ≤ 1 := by unfold ind; split <;> omega

theorem ind_mono (w : BitVec 32) {u v : BitVec 32} (h : u.toInt ≤ v.toInt) : ind w u ≤ ind w v := by
  unfold ind; split <;> split <;> omega

/-- A running count, advanced by one comparison. -/
@[reducible] def bump (c w v : BitVec 32) : BitVec 32 := Scalar.addi c (Scalar.extui (Scalar.cmpi .sle w v))

theorem bump_toNat (c w v : BitVec 32) (h : c.toNat < 100) : (bump c w v).toNat = c.toNat + ind w v := by
  have e : Scalar.cmpi .sle w v = BitVec.ofBool (decide (w.toInt ≤ v.toInt)) := rfl
  unfold bump ind
  rw [e, WordCmp.scalar_extui_ofBool]
  show (c + _).toNat = _
  by_cases hc : w.toInt ≤ v.toInt
  · simp only [hc, decide_true, if_true, BitVec.toNat_add]; simp; omega
  · simp [hc]

/-- The count of the sixteen words that are at most `v`, in the order the kernel adds them. -/
@[reducible] def cntLe (v w0 w1 w2 w3 w4 w5 w6 w7 w8 w9 wa wb wc wd we wf : BitVec 32) : BitVec 32 :=
  bump (bump (bump (bump (bump (bump (bump (bump (bump (bump (bump (bump (bump (bump (bump (bump 0#32
    w0 v) w1 v) w2 v) w3 v) w4 v) w5 v) w6 v) w7 v) w8 v) w9 v) wa v) wb v) wc v) wd v) we v) wf v

/-- The count as a number. -/
theorem cntLe_toNat (v w0 w1 w2 w3 w4 w5 w6 w7 w8 w9 wa wb wc wd we wf : BitVec 32) :
    (cntLe v w0 w1 w2 w3 w4 w5 w6 w7 w8 w9 wa wb wc wd we wf).toNat =
      ind w0 v + ind w1 v + ind w2 v + ind w3 v + ind w4 v + ind w5 v + ind w6 v + ind w7 v + ind w8 v
        + ind w9 v + ind wa v + ind wb v + ind wc v + ind wd v + ind we v + ind wf v := by
  have z : (0#32 : BitVec 32).toNat = 0 := rfl
  have h0 := ind_le_one w0 v; have h1 := ind_le_one w1 v; have h2 := ind_le_one w2 v; have h3 := ind_le_one w3 v
  have h4 := ind_le_one w4 v; have h5 := ind_le_one w5 v; have h6 := ind_le_one w6 v; have h7 := ind_le_one w7 v
  have h8 := ind_le_one w8 v; have h9 := ind_le_one w9 v; have ha := ind_le_one wa v; have hb := ind_le_one wb v
  have hc := ind_le_one wc v; have hd := ind_le_one wd v; have he := ind_le_one we v
  have b0 := bump_toNat 0#32 w0 v (by omega)
  have b1 := bump_toNat _ w1 v (by rw [b0]; omega)
  have b2 := bump_toNat _ w2 v (by rw [b1, b0]; omega)
  have b3 := bump_toNat _ w3 v (by rw [b2, b1, b0]; omega)
  have b4 := bump_toNat _ w4 v (by rw [b3, b2, b1, b0]; omega)
  have b5 := bump_toNat _ w5 v (by rw [b4, b3, b2, b1, b0]; omega)
  have b6 := bump_toNat _ w6 v (by rw [b5, b4, b3, b2, b1, b0]; omega)
  have b7 := bump_toNat _ w7 v (by rw [b6, b5, b4, b3, b2, b1, b0]; omega)
  have b8 := bump_toNat _ w8 v (by rw [b7, b6, b5, b4, b3, b2, b1, b0]; omega)
  have b9 := bump_toNat _ w9 v (by rw [b8, b7, b6, b5, b4, b3, b2, b1, b0]; omega)
  have ba := bump_toNat _ wa v (by rw [b9, b8, b7, b6, b5, b4, b3, b2, b1, b0]; omega)
  have bb := bump_toNat _ wb v (by rw [ba, b9, b8, b7, b6, b5, b4, b3, b2, b1, b0]; omega)
  have bc := bump_toNat _ wc v (by rw [bb, ba, b9, b8, b7, b6, b5, b4, b3, b2, b1, b0]; omega)
  have bd := bump_toNat _ wd v (by rw [bc, bb, ba, b9, b8, b7, b6, b5, b4, b3, b2, b1, b0]; omega)
  have be := bump_toNat _ we v (by rw [bd, bc, bb, ba, b9, b8, b7, b6, b5, b4, b3, b2, b1, b0]; omega)
  have bf := bump_toNat _ wf v (by rw [be, bd, bc, bb, ba, b9, b8, b7, b6, b5, b4, b3, b2, b1, b0]; omega)
  rw [bf, be, bd, bc, bb, ba, b9, b8, b7, b6, b5, b4, b3, b2, b1, b0]; omega

theorem cntLe_le (v w0 w1 w2 w3 w4 w5 w6 w7 w8 w9 wa wb wc wd we wf : BitVec 32) :
    (cntLe v w0 w1 w2 w3 w4 w5 w6 w7 w8 w9 wa wb wc wd we wf).toNat ≤ 16 := by
  rw [cntLe_toNat]
  have h0 := ind_le_one w0 v; have h1 := ind_le_one w1 v; have h2 := ind_le_one w2 v; have h3 := ind_le_one w3 v
  have h4 := ind_le_one w4 v; have h5 := ind_le_one w5 v; have h6 := ind_le_one w6 v; have h7 := ind_le_one w7 v
  have h8 := ind_le_one w8 v; have h9 := ind_le_one w9 v; have ha := ind_le_one wa v; have hb := ind_le_one wb v
  have hc := ind_le_one wc v; have hd := ind_le_one wd v; have he := ind_le_one we v; have hf := ind_le_one wf v
  omega

/-- The count grows with the bound. -/
theorem cntLe_mono {u v : BitVec 32} (h : u.toInt ≤ v.toInt) (w0 w1 w2 w3 w4 w5 w6 w7 w8 w9 wa wb wc wd we wf : BitVec 32) :
    (cntLe u w0 w1 w2 w3 w4 w5 w6 w7 w8 w9 wa wb wc wd we wf).toNat
      ≤ (cntLe v w0 w1 w2 w3 w4 w5 w6 w7 w8 w9 wa wb wc wd we wf).toNat := by
  rw [cntLe_toNat, cntLe_toNat]
  have h0 := ind_mono w0 h; have h1 := ind_mono w1 h; have h2 := ind_mono w2 h; have h3 := ind_mono w3 h
  have h4 := ind_mono w4 h; have h5 := ind_mono w5 h; have h6 := ind_mono w6 h; have h7 := ind_mono w7 h
  have h8 := ind_mono w8 h; have h9 := ind_mono w9 h; have ha := ind_mono wa h; have hb := ind_mono wb h
  have hc := ind_mono wc h; have hd := ind_mono wd h; have he := ind_mono we h; have hf := ind_mono wf h
  omega

/-- The loop from `lo` to `hi` inclusive, as the kernel computes its bounds. -/
@[reducible] def segLoop (lo hi : BitVec 32) : Scf.Loop 32 :=
  ⟨lo, Scalar.addi lo (Scalar.muli (Scalar.divsi (Scalar.subi (Scalar.addi hi 1#32) lo) 1#32) 1#32), 1#32⟩

theorem segLoop_ub (lo hi : BitVec 32) (h : lo.toNat ≤ hi.toNat) (h' : hi.toNat ≤ 16) :
    (segLoop lo hi).ub.toNat = hi.toNat + 1 := by
  show (Scalar.addi lo (Scalar.muli (Scalar.divsi (Scalar.subi (Scalar.addi hi 1#32) lo) 1#32) 1#32)).toNat = _
  rw [Scalar.muli_divsi_one]
  show (lo + (hi + 1#32 - lo)).toNat = _
  simp only [BitVec.toNat_add, BitVec.toNat_sub, BitVec.toNat_ofNat]
  omega

theorem segLoop_trips (lo hi : BitVec 32) (h : lo.toNat ≤ hi.toNat) (h' : hi.toNat ≤ 16) :
    (segLoop lo hi).trips = hi.toNat + 1 - lo.toNat := by
  have e1 : ((segLoop lo hi).ub).toInt = (hi.toNat : Int) + 1 := by
    rw [WordCmp.toInt_eq_toNat_of_lt_half (by rw [segLoop_ub lo hi h h']; omega), segLoop_ub lo hi h h']; simp
  have e2 : lo.toInt = (lo.toNat : Int) := WordCmp.toInt_eq_toNat_of_lt_half (by omega)
  have e3 : (1#32 : BitVec 32).toInt = 1 := by decide
  show ((((segLoop lo hi).ub).toInt - lo.toInt + (1#32 : BitVec 32).toInt - 1) / (1#32 : BitVec 32).toInt).toNat = _
  rw [e1, e2, e3]; omega

theorem segLoop_ok (lo hi : BitVec 32) (h : lo.toNat ≤ hi.toNat) (h' : hi.toNat ≤ 16) : (segLoop lo hi).OK := by
  have e2 : lo.toInt = (lo.toNat : Int) := WordCmp.toInt_eq_toNat_of_lt_half (by omega)
  have e3 : (1#32 : BitVec 32).toInt = 1 := by decide
  refine ⟨by show 0 < (1#32 : BitVec 32).toInt; decide, ?_⟩
  show lo.toInt + ((segLoop lo hi).trips : Int) * (1#32 : BitVec 32).toInt < 2 ^ 31
  rw [segLoop_trips lo hi h h', e2, e3]; omega

/-- The loop variable at trip `k` is `lo + k`. -/
theorem segLoop_iv (lo hi : BitVec 32) (h : lo.toNat ≤ hi.toNat) (h' : hi.toNat ≤ 16)
    (k : Fin (segLoop lo hi).trips) : (Scf.iv lo 1#32 k).toNat = lo.toNat + k.val := by
  have hk := lt_of_lt_of_eq k.isLt (segLoop_trips lo hi h h')
  show (lo + BitVec.ofNat 32 k.val * 1#32).toNat = _
  simp only [BitVec.toNat_add, BitVec.toNat_mul, BitVec.toNat_ofNat]
  omega

theorem segLoop_iv_le (lo hi : BitVec 32) (h : lo.toNat ≤ hi.toNat) (h' : hi.toNat ≤ 16)
    (k : Fin (segLoop lo hi).trips) : (Scf.iv lo 1#32 k).toNat ≤ hi.toNat := by
  have hk := lt_of_lt_of_eq k.isLt (segLoop_trips lo hi h h')
  rw [segLoop_iv lo hi h h']; omega

/-- A word below half the range read signed. -/
theorem toInt_small {x : BitVec 32} (h : x.toNat < 2 ^ 31) : x.toInt = (x.toNat : Int) :=
  WordCmp.toInt_eq_toNat_of_lt_half (by omega)

/-- The index of the previous table entry, clamped below at zero. -/
theorem pred_clamp {x : BitVec 32} (h : x.toNat ≤ 16) :
    (Scalar.maxsi (Scalar.subi x 1#32) 0#32).toNat = x.toNat - 1 := by
  show (if (0#32).slt (x - 1#32) then (x - 1#32) else 0#32).toNat = _
  by_cases h0 : x.toNat = 0
  · have : x = 0#32 := BitVec.eq_of_toNat_eq (by simpa using h0)
    subst this; decide
  · have e : (x - 1#32).toNat = x.toNat - 1 := by
      simp only [BitVec.toNat_sub, BitVec.toNat_ofNat]; omega
    rw [← e]
    by_cases h1 : (0#32).slt (x - 1#32)
    · simp [h1]
    · simp only [h1]
      have hs : ¬ ((0#32 : BitVec 32).toInt < (x - 1#32).toInt) := by simpa [BitVec.slt] using h1
      rw [toInt_small (x := x - 1#32) (by omega)] at hs
      simp at hs ⊢; omega

/-- The index of a table entry, clamped above at fifteen. -/
theorem min_clamp {x : BitVec 32} (h : x.toNat ≤ 16) :
    (Scalar.minsi x 15#32).toNat = min x.toNat 15 := by
  show (if x.slt 15#32 then x else 15#32).toNat = _
  have e : x.slt 15#32 = decide (x.toNat < 15) := by
    simp only [BitVec.slt]; rw [toInt_small (x := x) (by omega)]; simp
  rw [e]; by_cases h1 : x.toNat < 15 <;> simp [h1] <;> omega

/-- A word clamped to `0 … 127`. -/
theorem clamp127 (x : BitVec 32) : (Scalar.minsi 127#32 (Scalar.maxsi 0#32 x)).toNat = min 127 x.toInt.toNat := by
  have h1 : (Scalar.maxsi 0#32 x).toNat = x.toInt.toNat := WordArith.toNat_maxsi_zero x
  have h2 : 2 * (Scalar.maxsi 0#32 x).toNat < 2 ^ 32 := WordArith.two_mul_toNat_maxsi_zero_lt x
  show (if (127#32).slt (Scalar.maxsi 0#32 x) then 127#32 else (Scalar.maxsi 0#32 x)).toNat = _
  have e : (127#32).slt (Scalar.maxsi 0#32 x) = decide (127 < (Scalar.maxsi 0#32 x).toNat) := by
    simp only [BitVec.slt]; rw [toInt_small (x := Scalar.maxsi 0#32 x) (by omega)]; simp
  rw [e]; by_cases h3 : 127 < (Scalar.maxsi 0#32 x).toNat <;> simp [h3] <;> omega

theorem clamp127_le (x : BitVec 32) : (Scalar.minsi 127#32 (Scalar.maxsi 0#32 x)).toNat ≤ 127 := by
  rw [clamp127]; omega

/-- The row a block index starts at. -/
theorem blockRow {g : BitVec 32} (h : g.toNat ≤ 127) : (Scalar.muli g 128#32).toNat = g.toNat * 128 := by
  show (g * 128#32).toNat = _
  simp only [BitVec.toNat_mul, BitVec.toNat_ofNat]; omega

/-- The first row of a tile, and its last. -/
theorem tileRow (n : Nat) (h : n < 2) : (Scalar.muli (BitVec.ofNat 32 n) 16384#32).toNat = n * 16384 := by
  have : n = 0 ∨ n = 1 := by omega
  rcases this with rfl | rfl <;> rfl

theorem tileLast (n : Nat) (h : n < 2) :
    (Scalar.subi (Scalar.addi (Scalar.muli (BitVec.ofNat 32 n) 16384#32) 16384#32) 1#32).toNat = n * 16384 + 16383 := by
  have : n = 0 ∨ n = 1 := by omega
  rcases this with rfl | rfl <;> rfl

theorem tile_le (n : Nat) (h : n < 2) : (Scalar.muli (BitVec.ofNat 32 n) 16384#32).toInt
    ≤ (Scalar.subi (Scalar.addi (Scalar.muli (BitVec.ofNat 32 n) 16384#32) 16384#32) 1#32).toInt := by
  have : n = 0 ∨ n = 1 := by omega
  rcases this with rfl | rfl <;> decide

/-- The floor of `x / 128`, as the kernel computes it. -/
@[reducible] def fdiv (x : BitVec 32) : BitVec 32 :=
  Scalar.select (Scalar.andi (Scalar.cmpi .ne (Scalar.subi (Scalar.extui (Scalar.cmpi .sgt x 0#32)) (Scalar.extui (Scalar.cmpi .slt x 0#32))) 1#32)
    (Scalar.cmpi .ne (Scalar.remsi x 128#32) 0#32)) (Scalar.subi (Scalar.divsi x 128#32) 1#32) (Scalar.divsi x 128#32)

/-- A word clamped to a block number. -/
@[reducible] def clampBlk (x : BitVec 32) : BitVec 32 := Scalar.minsi 127#32 (Scalar.maxsi 0#32 x)

/-- The block of the tile at `v0` that the segment starting at `st` begins in. -/
@[reducible] def blkLo (v0 st : BitVec 32) : BitVec 32 := clampBlk (fdiv (Scalar.subi (Scalar.maxsi st v0) v0))

/-- The last row of the segment ending at `en`, counted from the tile's first row. -/
@[reducible] def lastRow (v0 en : BitVec 32) : BitVec 32 :=
  Scalar.subi (Scalar.subi (Scalar.minsi en (Scalar.addi v0 16384#32)) 1#32) v0

/-- The block of the tile at `v0` that the segment ending at `en` ends in. -/
@[reducible] def blkHi (v0 en : BitVec 32) : BitVec 32 := clampBlk (fdiv (lastRow v0 en))

end SegWords
-- ==== Proof.Reads.lean ====
/-
  What a load of a whole buffer, of one table word, or of a block of rows reads, and what a store over a
  whole buffer leaves, for buffers held at a vector.
-/
module

public import Idealize.ShloMosaic.Lib.Tactic
public import Idealize.ShloMosaic.Lib.Pipeline.Value
public import Idealize.ShloMosaic.Lib.ValueIdx
public import Idealize.ShloMosaic.Lib.WritesUnit

@[expose] public section

namespace SegReads

open Idealize.ShloMosaic Idealize.ShloMosaic.ValueIdx

variable {sig : RefSig} {κ : Kind} {Val : EltTy → Type} {sp : Space} {S : Shape} {e : EltTy}

/-- A load of a whole buffer held at `X` reads `X`. -/
theorem readAt_whole {m : Memref sig κ sp S e} (h : m.IsWhole) (X : S.Idx → Val e)
    {off : Fin S.rank → Nat} (hz : off = fun _ => 0) (inb : ∀ a, off a + S.size a ≤ S.size a) :
    View.readAt Val m.view (Rect.unit off S.size inb).toLoadRect (h.unread X) = X := by
  rw [View.readAt_eq_ld, h.read_unread, View.ld_unit_zero hz]

/-- A store over a whole buffer leaves its payload, whatever was there. -/
theorem writes_whole [∀ e, Nonempty (Val e)] {m : Memref sig κ sp S e} (h : m.IsWhole) (f : m.view.ty.Contents Val) (w : S.Idx → Val e)
    {off : Fin S.rank → Nat} (hz : off = fun _ => 0) (inb : ∀ a, off a + S.size a ≤ S.size a)
    (L : List (View.Piece Val S e)) :
    m.view.writes Val f (⟨Rect.unit off S.size inb, w⟩ :: L) = h.unread w := by
  refine h.eq_unread ?_
  rw [View.read_writes_eq_canon _ _ _ (fun y => ⟨_, List.mem_cons_self, by
    subst hz
    show y ∈ (Rect.unit (fun _ => 0) S.size inb).set
    rw [Rect.mem_set_unit]
    exact fun a => ⟨Nat.zero_le _, by simp⟩⟩)]
  exact View.canon_cons_unit_zero hz inb w L

/-- The table word at index `n`. -/
def word {α : Type} (T : (⟨1, ![16]⟩ : Shape).Idx → α) (n : Nat) : α := T (ix1 ⟨n % 16, Nat.mod_lt _ (by decide)⟩)

/-- A load of one word of the table. -/
theorem readAt_word {m : Memref sig κ sp ⟨1, ![16]⟩ e} (h : m.IsWhole) (T : (⟨1, ![16]⟩ : Shape).Idx → Val e)
    {off : Fin 1 → Nat} (inb : ∀ a, off a + (⟨1, ![1]⟩ : Shape).size a ≤ (⟨1, ![16]⟩ : Shape).size a)
    (x : (⟨1, ![1]⟩ : Shape).Idx) :
    View.readAt Val m.view (Rect.unit (s := ⟨1, ![16]⟩) off (⟨1, ![1]⟩ : Shape).size inb).toLoadRect (h.unread T) x = word T (off 0) := by
  rw [View.readAt_eq_ld, h.read_unread]
  unfold word
  show T _ = T _
  congr 1
  funext a
  apply Fin.ext
  have h0 := inb 0
  have hx : (x 0).val < 1 := (x 0).isLt
  match a with
  | ⟨0, _⟩ =>
    show off 0 + 1 * (x 0).val = off 0 % 16
    have : off 0 + 1 ≤ 16 := h0
    omega

/-- The block of 128 rows of `G` that starts at row `128·g`. -/
def block {α : Type} (G : (⟨2, ![16384, 128]⟩ : Shape).Idx → α) (g : Nat) : (⟨3, ![1, 128, 128]⟩ : Shape).Idx → α :=
  fun x => G (ix2 ⟨(g * 128 + (x 1).val) % 16384, Nat.mod_lt _ (by decide)⟩ (x 2))

/-- A load of a block of rows of slab `t`, where that slab holds `G`. -/
theorem readAt_block {m : Memref sig κ sp ⟨3, ![2, 16384, 128]⟩ e} (h : m.IsWhole) (H : (⟨3, ![2, 16384, 128]⟩ : Shape).Idx → Val e)
    (t : Fin 2) (G : (⟨2, ![16384, 128]⟩ : Shape).Idx → Val e) (hH : ∀ r l, H (ix3 t r l) = G (ix2 r l))
    (g : Nat) (hg : g ≤ 127) {off : Fin 3 → Nat} (hoff : off = ![t.val, g * 128, 0])
    (inb : ∀ a, off a + (⟨3, ![1, 128, 128]⟩ : Shape).size a ≤ (⟨3, ![2, 16384, 128]⟩ : Shape).size a) :
    View.readAt Val m.view (Rect.unit (s := ⟨3, ![2, 16384, 128]⟩) off (⟨3, ![1, 128, 128]⟩ : Shape).size inb).toLoadRect (h.unread H)
      = block G g := by
  rw [View.readAt_eq_ld, h.read_unread]
  subst hoff
  funext x
  unfold block
  refine Eq.trans ?_ (hH _ _)
  show H _ = H _
  congr 1
  funext a
  apply Fin.ext
  have hx0 : (x 0).val < 1 := (x 0).isLt
  have hx1 : (x 1).val < 128 := (x 1).isLt
  match a with
  | ⟨0, _⟩ => show t.val + 1 * (x 0).val = t.val; omega
  | ⟨1, _⟩ => show g * 128 + 1 * (x 1).val = (g * 128 + (x 1).val) % 16384; omega
  | ⟨2, _⟩ => show 0 + 1 * (x 2).val = (x 2).val; omega

/-- Slab `t` of two. -/
def slab {α : Type} (H : (⟨3, ![2, 16384, 128]⟩ : Shape).Idx → α) (t : Fin 2) : (⟨2, ![16384, 128]⟩ : Shape).Idx → α :=
  fun x => H (ix3 t (x 0) (x 1))

/-- Slab `t` replaced by `G`. -/
def setSlab {α : Type} (H : (⟨3, ![2, 16384, 128]⟩ : Shape).Idx → α) (t : Fin 2) (G : (⟨2, ![16384, 128]⟩ : Shape).Idx → α) :
    (⟨3, ![2, 16384, 128]⟩ : Shape).Idx → α := fun x => if (x 0).val = t.val then G (ix2 (x 1) (x 2)) else H x

theorem slab_setSlab {α : Type} (H : (⟨3, ![2, 16384, 128]⟩ : Shape).Idx → α) (t : Fin 2) (G : (⟨2, ![16384, 128]⟩ : Shape).Idx → α) :
    slab (setSlab H t G) t = G := by
  funext x
  unfold slab setSlab
  rw [if_pos rfl]
  exact congrArg G (eq_ix2 x).symm

theorem slab_setSlab_of_ne {α : Type} (H : (⟨3, ![2, 16384, 128]⟩ : Shape).Idx → α) {t u : Fin 2} (h : u ≠ t) (G : (⟨2, ![16384, 128]⟩ : Shape).Idx → α) :
    slab (setSlab H t G) u = slab H u := by
  funext x
  unfold slab setSlab
  rw [if_neg (fun e => h (Fin.ext e))]

/-- A store over slab `t`. -/
theorem writes_slab {m : Memref sig κ sp ⟨3, ![2, 16384, 128]⟩ e} (h : m.IsWhole) (H : (⟨3, ![2, 16384, 128]⟩ : Shape).Idx → Val e)
    (t : Fin 2) (G : (⟨2, ![16384, 128]⟩ : Shape).Idx → Val e) {off : Fin 3 → Nat} (hoff : off = ![t.val, 0, 0])
    (inb : ∀ a, off a + (⟨3, ![1, 16384, 128]⟩ : Shape).size a ≤ (⟨3, ![2, 16384, 128]⟩ : Shape).size a)
    (w : (⟨3, ![1, 16384, 128]⟩ : Shape).Idx → Val e) (hw : ∀ r l, w (ix3 0 r l) = G (ix2 r l)) :
    m.view.writes Val (h.unread H) [⟨Rect.unit (s := ⟨3, ![2, 16384, 128]⟩) off (⟨3, ![1, 16384, 128]⟩ : Shape).size inb, w⟩]
      = h.unread (setSlab H t G) := by
  refine h.eq_unread ?_
  subst hoff
  funext y
  unfold setSlab
  by_cases hy : (y 0).val = t.val
  · rw [if_pos hy]
    refine (View.read_writes_cons_unit_of_mem m.view (h.unread H) inb w [] y (ix3 0 (y 1) (y 2)) rfl fun a => ?_).trans (hw _ _)
    match a with
    | ⟨0, _⟩ => exact hy
    | ⟨1, _⟩ => exact (Nat.zero_add _).symm
    | ⟨2, _⟩ => exact (Nat.zero_add _).symm
  · rw [if_neg hy]
    refine (View.read_writes_cons_unit_of_not_mem m.view (h.unread H) inb w [] y rfl 0 ?_).trans (congrFun (h.read_unread H) y)
    show (y 0).val < t.val ∨ t.val + 1 ≤ (y 0).val
    omega

/-- A load of slab `t`. -/
theorem readAt_slab {m : Memref sig κ sp ⟨3, ![2, 16384, 128]⟩ e} (h : m.IsWhole) (H : (⟨3, ![2, 16384, 128]⟩ : Shape).Idx → Val e)
    (t : Fin 2) {off : Fin 3 → Nat} (hoff : off = ![t.val, 0, 0])
    (inb : ∀ a, off a + (⟨3, ![1, 16384, 128]⟩ : Shape).size a ≤ (⟨3, ![2, 16384, 128]⟩ : Shape).size a) :
    View.readAt Val m.view (Rect.unit (s := ⟨3, ![2, 16384, 128]⟩) off (⟨3, ![1, 16384, 128]⟩ : Shape).size inb).toLoadRect (h.unread H)
      = fun x => slab H t (ix2 (x 1) (x 2)) := by
  rw [View.readAt_eq_ld, h.read_unread]
  subst hoff
  funext x
  unfold slab
  show H _ = H _
  congr 1
  funext a
  apply Fin.ext
  have hx0 : (x 0).val < 1 := (x 0).isLt
  match a with
  | ⟨0, _⟩ => show t.val + 1 * (x 0).val = t.val; omega
  | ⟨1, _⟩ => show 0 + 1 * (x 1).val = (x 1).val; omega
  | ⟨2, _⟩ => show 0 + 1 * (x 2).val = (x 2).val; omega

end SegReads
-- ==== Proof.Checks_KernelIdeal.lean ====
/-
  The side conditions the body assumes hold for every word the table can hold.
-/
module

public import proofs.«01_k».proof.Proof.Words
public import proofs.«01_k».proof.Proof.Gen.KernelIdeal.Skeleton

@[expose] public section

namespace Cert.KernelIdeal.Checks

open Idealize.ShloMosaic Cert.KernelIdeal SegWords

/-- The first row of the tile, as a word. -/
@[reducible] def tw (i : grid0.Coords) : BitVec 32 := Scalar.muli (BitVec.ofNat 32 (i 1).val) 16384#32
/-- The last row of the tile, as a word. -/
@[reducible] def tl (i : grid0.Coords) : BitVec 32 := Scalar.subi (Scalar.addi (tw i) 16384#32) 1#32

section
variable (i : grid0.Coords) (w0 w1 w2 w3 w4 w5 w6 w7 w8 w9 wa wb wc wd we wf : BitVec 32)

/-- The first segment of the tile. -/
@[reducible] def lo : BitVec 32 := cntLe (tw i) w0 w1 w2 w3 w4 w5 w6 w7 w8 w9 wa wb wc wd we wf
/-- The last segment of the tile. -/
@[reducible] def hi : BitVec 32 := cntLe (tl i) w0 w1 w2 w3 w4 w5 w6 w7 w8 w9 wa wb wc wd we wf

theorem i1_lt : (i 1).val < 2 := (i 1).isLt

theorem lo_le_hi : (lo i w0 w1 w2 w3 w4 w5 w6 w7 w8 w9 wa wb wc wd we wf).toNat
    ≤ (hi i w0 w1 w2 w3 w4 w5 w6 w7 w8 w9 wa wb wc wd we wf).toNat := cntLe_mono (tile_le _ (i1_lt i)) ..

theorem hi_le : (hi i w0 w1 w2 w3 w4 w5 w6 w7 w8 w9 wa wb wc wd we wf).toNat ≤ 16 := cntLe_le ..

theorem t1_loop_eq : k0_t1_loop i w0 w1 w2 w3 w4 w5 w6 w7 w8 w9 wa wb wc wd we wf
    = segLoop (lo i w0 w1 w2 w3 w4 w5 w6 w7 w8 w9 wa wb wc wd we wf) (hi i w0 w1 w2 w3 w4 w5 w6 w7 w8 w9 wa wb wc wd we wf) := rfl

theorem iv_le (k : Fin (k0_t1_loop i w0 w1 w2 w3 w4 w5 w6 w7 w8 w9 wa wb wc wd we wf).trips) :
    (Scf.iv (lo i w0 w1 w2 w3 w4 w5 w6 w7 w8 w9 wa wb wc wd we wf) 1#32 k).toNat ≤ 16 :=
  (segLoop_iv_le _ _ (lo_le_hi ..) (hi_le ..) k).trans (hi_le ..)

theorem chk1 : k0_chk1 i w0 w1 w2 w3 w4 w5 w6 w7 w8 w9 wa wb wc wd we wf := by
  refine ⟨fun _ _ => segLoop_ok _ _ (lo_le_hi ..) (hi_le ..), fun k _ _ a => ?_, fun k _ _ a => ?_,
    fun _ _ => Scf.rem_ok _ _, fun k => (Scf.rem_no_trip _ _ k).elim, fun k => (Scf.rem_no_trip _ _ k).elim⟩
  · have h := pred_clamp (iv_le i w0 w1 w2 w3 w4 w5 w6 w7 w8 w9 wa wb wc wd we wf k)
    have h' := iv_le i w0 w1 w2 w3 w4 w5 w6 w7 w8 w9 wa wb wc wd we wf k
    match a with
    | 0 => show (Scalar.maxsi (Scalar.subi (Scf.iv (lo i w0 w1 w2 w3 w4 w5 w6 w7 w8 w9 wa wb wc wd we wf) 1#32 k) 1#32) 0#32).toNat + 1 ≤ 16
           omega
  · have h := min_clamp (iv_le i w0 w1 w2 w3 w4 w5 w6 w7 w8 w9 wa wb wc wd we wf k)
    match a with
    | 0 => show (Scalar.minsi (Scf.iv (lo i w0 w1 w2 w3 w4 w5 w6 w7 w8 w9 wa wb wc wd we wf) 1#32 k) 15#32).toNat + 1 ≤ 16
           omega

theorem slab_le {g : BitVec 32} (h : g.toNat ≤ 127) (a : Fin 3) :
    (![(BitVec.ofNat 32 (i 1).val).toNat, (Scalar.muli g 128#32).toNat, 0] : Fin 3 → Nat) a + S1x128x128.size a
      ≤ S2x16384x128.size a := by
  have h1 := i1_lt i
  match a with
  | 0 => show (BitVec.ofNat 32 (i 1).val).toNat + 1 ≤ 2
         rw [BitVec.toNat_ofNat]; omega
  | 1 => show (Scalar.muli g 128#32).toNat + 128 ≤ 16384
         rw [blockRow h]; omega
  | 2 => exact Nat.le_refl 128

theorem chk2 (k : Fin (k0_t1_loop i w0 w1 w2 w3 w4 w5 w6 w7 w8 w9 wa wb wc wd we wf).trips) (v : BitVec 32) :
    k0_chk2 i w0 w1 w2 w3 w4 w5 w6 w7 w8 w9 wa wb wc wd we wf k v := by
  refine ⟨fun _ _ => ?_, fun _ _ a => slab_le i (clamp127_le _) a⟩
  show 128 ∣ (Scalar.muli (Scalar.minsi 127#32 (Scalar.maxsi 0#32 _)) 128#32).toNat
  rw [blockRow (clamp127_le _)]; exact ⟨_, Nat.mul_comm _ _⟩

theorem chk3 (k : Fin (k0_t1_loop i w0 w1 w2 w3 w4 w5 w6 w7 w8 w9 wa wb wc wd we wf).trips) (v : BitVec 32) :
    k0_chk3 i w0 w1 w2 w3 w4 w5 w6 w7 w8 w9 wa wb wc wd we wf k v := by
  refine ⟨fun _ _ => ?_, fun _ _ a => slab_le i (clamp127_le _) a⟩
  show 128 ∣ (Scalar.muli (Scalar.minsi 127#32 (Scalar.maxsi 0#32 _)) 128#32).toNat
  rw [blockRow (clamp127_le _)]; exact ⟨_, Nat.mul_comm _ _⟩

end

end Cert.KernelIdeal.Checks
-- ==== Proof.Trip_KernelIdeal.lean ====
/-
  One trip of the loop over the segments of a tile.
-/
module

public import proofs.«01_k».proof.Proof.Checks_KernelIdeal
public import proofs.«01_k».proof.Proof.Reads
public import proofs.«01_k».proof.Proof.Gen.KernelIdeal.Launch
public import proofs.«01_k».proof.Proof.Gen.KernelIdeal.Loops
public import Idealize.ShloMosaic.Lib.Tactic
public import Idealize.ShloMosaic.Lib.LoopRemainder
public import Idealize.ShloMosaic.Lib.Pipeline.Kit
public import Idealize.ShloMosaic.Lib.Pipeline.Value

@[expose] public section

noncomputable section

namespace Cert.KernelIdeal.Body

open Cert.KernelIdeal Cert.KernelIdeal.Gen Cert.KernelIdeal.Checks SegWords SegReads Idealize.ShloMosaic.ValueIdx

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU (nD : Nat) (τ : Topo) : Type := UR sig nD τ

local notation "𝕄" => MT nD τ sig Unit (Elt F) ℕ (UU nD τ) ℕ

/-- A memref's buffer held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f
/-- The same at a share `q`. -/
abbrev ptq (c : Dev nD) (q : PosShare TreeShare) {sp : Space} {S : Shape} {e : EltTy} (M : Memref sig .tc sp S e) (f : Buf (Elt F) (M.view.loc (c : Thread nD τ))) : sProp 𝕄 :=
  M.view.loc (c : Thread nD τ) ↦{q} f

theorem hz2 : (![0, 0] : Fin 2 → Nat) = fun _ => 0 := funext fun a => by fin_cases a <;> rfl

/-- The first row of segment `a`, from the table. -/
@[reducible] def segStart (T : Vec F S16 .i32) (a : BitVec 32) : BitVec 32 :=
  Scalar.select (Scalar.cmpi .eq a 0#32) 0#32 (word T (Scalar.maxsi (Scalar.subi a 1#32) 0#32).toNat)

/-- The row after the last of segment `a`, from the table. -/
@[reducible] def segEnd (T : Vec F S16 .i32) (a : BitVec 32) : BitVec 32 :=
  Scalar.select (Scalar.cmpi .eq a 16#32) 32768#32 (word T (Scalar.minsi a 15#32).toNat)

/-- The running maxima after segment `a`, from row `st` to row `en`, has been taken in: `v14` the tile's rows, `G` the
    rows of the slab the blocks at the two ends are read from. -/
def segStep (i : grid0.Coords) (v14 : FVec F S16384x128 .f32) (G : Vec F S16384x128 .f32) (a st en : BitVec 32) (X : Vec F S32x128 .f32) :
    Vec F S32x128 .f32 :=
  k0_pay3 i a st en (blkHi (tw i) en)
    (k0_pay7 (k0_pay1 v14) (iota .tc S128x1 32 [0] iota_S128x1_d0_w32) (blkLo (tw i) st) (lastRow (tw i) en) 128#32
      (Scalar.divsi (lastRow (tw i) en) 128#32) 0#32)
    (k0_pay8 (block G (blkLo (tw i) st).toNat))
    (k0_pay9 (tw i) (iota .tc S128x1 32 [0] iota_S128x1_d0_w32) st en (blkLo (tw i) st))
    k0_pay10 (block G (blkHi (tw i) en).toNat) X X

/-- The running maxima after the first `n` segments from `lo` on. -/
def segAcc (i : grid0.Coords) (v14 : FVec F S16384x128 .f32) (G : Vec F S16384x128 .f32) (T : Vec F S16 .i32) (lo : BitVec 32)
    (X : Vec F S32x128 .f32) : Nat → Vec F S32x128 .f32
  | 0 => X
  | n + 1 => segStep i v14 G (Scf.iv lo 1#32 n) (segStart T (Scf.iv lo 1#32 n)) (segEnd T (Scf.iv lo 1#32 n))
      (segAcc i v14 G T lo X n)

set_option maxHeartbeats 4000000 in
/-- One trip of the loop takes segment `lo + k` in. -/
theorem trip (c : Dev nD) (i : grid0.Coords)
  (arg2 : Memref sig .tc .smem S16 .i32) (harg2 : arg2.IsWhole)
  (arg3 : Memref sig .tc .vmem S16384x128 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S1x128 .f32) (harg9 : arg9.IsWhole)
  (arg10 : Memref sig .tc .vmem S32x128 .f32) (harg10 : arg10.IsWhole)
  (arg11 : Memref sig .tc .vmem S2x16384x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S32x128 .f32) (harg16 : arg16.IsWhole)
  (arg17 : Memref sig .tc .vmem S32x128 .f32) (harg17 : arg17.IsWhole)
   (k0_h1 : k0_cond1 i = 1#1) (v14 : FVec F S16384x128 .f32) (v100 v109 v118 v127 v136 v145 v154 v163 v172 v181 v190 v199 v208 v217 v226 v235 : Elt F .i32) (k0_hw1 : k0_chk1 i v100 v109 v118 v127 v136 v145 v154 v163 v172 v181 v190 v199 v208 v217 v226 v235) (k0_h4 : k0_cond4 i v100 v109 v118 v127 v136 v145 v154 v163 v172 v181 v190 v199 v208 v217 v226 v235 = 1#1)
   (k : Fin (k0_t1_loop i v100 v109 v118 v127 v136 v145 v154 v163 v172 v181 v190 v199 v208 v217 v226 v235).trips) (q : PosShare TreeShare) (T : Vec F S16 .i32) (H : Vec F S2x16384x128 .f32) (X : Vec F S32x128 .f32) :
   iprop(ptq c q arg2 (harg2.unread T) ∗ pt c arg11 (harg11.unread H) ∗ pt c arg16 (harg16.unread X))
   ⊢ wp frame (wpE (defs₀ (F := F)) Variants.none c none) Set.univ
      (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (tw i) k0_h1 v14 v100 v109 v118 v127 v136 v145 v154 v163 v172 v181 v190 v199 v208 v217 v226 v235 k0_hw1
        (lo i v100 v109 v118 v127 v136 v145 v154 v163 v172 v181 v190 v199 v208 v217 v226 v235) k0_h4 (iota .tc S128x1 32 [0] iota_S128x1_d0_w32) (iota .tc S128x1 32 [0] iota_S128x1_d0_w32) k ())
      (fun _ => iprop(ptq c q arg2 (harg2.unread T) ∗ pt c arg11 (harg11.unread H) ∗
        pt c arg16 (harg16.unread (segStep i v14 (slab H (i 1)) (Scf.iv (lo i v100 v109 v118 v127 v136 v145 v154 v163 v172 v181 v190 v199 v208 v217 v226 v235) 1#32 k)
          (segStart T (Scf.iv (lo i v100 v109 v118 v127 v136 v145 v154 v163 v172 v181 v190 v199 v208 v217 v226 v235) 1#32 k)) (segEnd T (Scf.iv (lo i v100 v109 v118 v127 v136 v145 v154 v163 v172 v181 v190 v199 v208 v217 v226 v235) 1#32 k)) X)))) := by
  have hc2 : ∀ v, k0_chk2 i v100 v109 v118 v127 v136 v145 v154 v163 v172 v181 v190 v199 v208 v217 v226 v235 k v := Checks.chk2 _ _ _ _ _ _ _ _ _ _ _ _ _ _ _ _ _ _
  have hc3 : ∀ v, k0_chk3 i v100 v109 v118 v127 v136 v145 v154 v163 v172 v181 v190 v199 v208 v217 v226 v235 k v := Checks.chk3 _ _ _ _ _ _ _ _ _ _ _ _ _ _ _ _ _ _
  iintro ⟨HT, HH, HX⟩
  unfold k0_t1_body
  sl_exec (disch := first | exact hc2 _ | exact hc3 _)
  sl_step
  rw [writes_whole harg16 _ _ hz2]
  isplitl [HT]; · iexact HT
  isplitl [HH]; · iexact HH
  refine (Eq.ndrec (motive := fun Y => _ ⊢ pt c arg16 (harg16.unread Y)) .rfl ?_)
  sl_unfold_run_names
  simp only [readAt_whole harg16 X hz2]
  unfold segStep segStart segEnd
  have e1 : ∀ inb x, View.readAt (Elt F) arg2.view (Rect.unit (s := S16) (k0_off2 i v100 v109 v118 v127 v136 v145 v154 v163 v172 v181 v190 v199 v208 v217 v226 v235 k) S1.size inb).toLoadRect (harg2.unread T) x
      = word T (Scalar.maxsi (Scalar.subi (Scf.iv (lo i v100 v109 v118 v127 v136 v145 v154 v163 v172 v181 v190 v199 v208 v217 v226 v235) 1#32 k) 1#32) 0#32).toNat := fun inb x => readAt_word harg2 T inb x
  have e2 : ∀ inb x, View.readAt (Elt F) arg2.view (Rect.unit (s := S16) (k0_off3 i v100 v109 v118 v127 v136 v145 v154 v163 v172 v181 v190 v199 v208 v217 v226 v235 k) S1.size inb).toLoadRect (harg2.unread T) x
      = word T (Scalar.minsi (Scf.iv (lo i v100 v109 v118 v127 v136 v145 v154 v163 v172 v181 v190 v199 v208 v217 v226 v235) 1#32 k) 15#32).toNat := fun inb x => readAt_word harg2 T inb x
  simp only [e1, e2]
  have hi1 : (i 1).val < 2 := (i 1).isLt
  have hi : (BitVec.ofNat 32 (i 1).val).toNat = (i 1).val := by rw [BitVec.toNat_ofNat]; omega
  have o4 : ∀ v, k0_off4 i v100 v109 v118 v127 v136 v145 v154 v163 v172 v181 v190 v199 v208 v217 v226 v235 k v = ![(i 1).val, (blkLo (tw i) (Scalar.select (Scalar.cmpi .eq (Scf.iv (lo i v100 v109 v118 v127 v136 v145 v154 v163 v172 v181 v190 v199 v208 v217 v226 v235) 1#32 k) 0#32) 0#32 v)).toNat * 128, 0] := by
    intro v
    rw [← blockRow (clamp127_le _), ← hi]; rfl
  have o5 : ∀ v, k0_off5 i v100 v109 v118 v127 v136 v145 v154 v163 v172 v181 v190 v199 v208 v217 v226 v235 k v = ![(i 1).val, (blkHi (tw i) (Scalar.select (Scalar.cmpi .eq (Scf.iv (lo i v100 v109 v118 v127 v136 v145 v154 v163 v172 v181 v190 v199 v208 v217 v226 v235) 1#32 k) 16#32) 32768#32 v)).toNat * 128, 0] := by
    intro v
    rw [← blockRow (clamp127_le _), ← hi]; rfl
  rw [readAt_block harg11 H (i 1) (slab H (i 1)) (fun _ _ => rfl) (blkLo (tw i) (segStart T (Scf.iv (lo i v100 v109 v118 v127 v136 v145 v154 v163 v172 v181 v190 v199 v208 v217 v226 v235) 1#32 k))).toNat (clamp127_le _),
    readAt_block harg11 H (i 1) (slab H (i 1)) (fun _ _ => rfl) (blkHi (tw i) (segEnd T (Scf.iv (lo i v100 v109 v118 v127 v136 v145 v154 v163 v172 v181 v190 v199 v208 v217 v226 v235) 1#32 k))).toNat (clamp127_le _)]
  · exact (o5 _).trans (by rw [readAt_word harg2 T]; rfl)
  · exact (o4 _).trans (by rw [readAt_word harg2 T]; rfl)

end Cert.KernelIdeal.Body
-- ==== Proof.First_KernelIdeal.lean ====
/-
  The first phase of the kernel at one tile.
-/
module

public import proofs.«01_k».proof.Proof.Trip_KernelIdeal
public import proofs.«01_k».proof.Proof.Gen.KernelIdeal.Launch
public import proofs.«01_k».proof.Proof.Gen.KernelIdeal.Loops
public import Idealize.ShloMosaic.Lib.ValueLayout
public import Idealize.ShloMosaic.Lib.Tactic
public import Idealize.ShloMosaic.Lib.LoopRemainder
public import Idealize.ShloMosaic.Lib.Pipeline.Kit
public import Idealize.ShloMosaic.Lib.Pipeline.Value

@[expose] public section

noncomputable section

namespace Cert.KernelIdeal.Body

open Cert.KernelIdeal Cert.KernelIdeal.Gen Cert.KernelIdeal.Checks SegWords SegReads Idealize.ShloMosaic.ValueIdx

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The running maxima's buffer after `n` trips. -/
def accBuf {arg16 : Memref sig .tc .vmem S32x128 .f32} (harg16 : arg16.IsWhole) (c : Dev nD) (i : grid0.Coords) (v14 : FVec F S16384x128 .f32)
    (G : Vec F S16384x128 .f32) (T : Vec F S16 .i32) (lo : BitVec 32) (f : Buf (Elt F) (arg16.view.loc (c : Thread nD τ))) :
    Nat → Buf (Elt F) (arg16.view.loc (c : Thread nD τ))
  | 0 => f
  | n + 1 => harg16.unread (segAcc i v14 G T lo (arg16.view.read (Elt F) f) (n + 1))

theorem accBuf_eq {arg16 : Memref sig .tc .vmem S32x128 .f32} (harg16 : arg16.IsWhole) (c : Dev nD) (i : grid0.Coords) (v14 : FVec F S16384x128 .f32)
    (G : Vec F S16384x128 .f32) (T : Vec F S16 .i32) (lo : BitVec 32) (f : Buf (Elt F) (arg16.view.loc (c : Thread nD τ))) (n : Nat) :
    accBuf harg16 c i v14 G T lo f n = harg16.unread (segAcc i v14 G T lo (arg16.view.read (Elt F) f) n) := by
  cases n with
  | zero => exact (harg16.unread_read f).symm
  | succ n => rfl

theorem accBuf_unread {arg16 : Memref sig .tc .vmem S32x128 .f32} (harg16 : arg16.IsWhole) (c : Dev nD) (i : grid0.Coords) (v14 : FVec F S16384x128 .f32)
    (G : Vec F S16384x128 .f32) (T : Vec F S16 .i32) (lo : BitVec 32) (Y : Vec F S32x128 .f32) (n : Nat) :
    accBuf harg16 c i v14 G T lo (harg16.unread Y) n = harg16.unread (segAcc i v14 G T lo Y n) := by
  rw [accBuf_eq, harg16.read_unread]

set_option warn.classDefReducibility false in
/-- What the loop over the tile's segments keeps: the table and the rows as they are, the maxima after the trips so far. -/
@[sl_loop] def loopInv (c : Dev nD) (i : grid0.Coords)
  (arg2 : Memref sig .tc .smem S16 .i32) (harg2 : arg2.IsWhole)
  (arg3 : Memref sig .tc .vmem S16384x128 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S1x128 .f32) (harg9 : arg9.IsWhole)
  (arg10 : Memref sig .tc .vmem S32x128 .f32) (harg10 : arg10.IsWhole)
  (arg11 : Memref sig .tc .vmem S2x16384x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S32x128 .f32) (harg16 : arg16.IsWhole)
  (arg17 : Memref sig .tc .vmem S32x128 .f32) (harg17 : arg17.IsWhole)
   (k0_h1 : k0_cond1 i = 1#1) (v14 : FVec F S16384x128 .f32) (v100 v109 v118 v127 v136 v145 v154 v163 v172 v181 v190 v199 v208 v217 v226 v235 : Elt F .i32) (k0_hw1 : k0_chk1 i v100 v109 v118 v127 v136 v145 v154 v163 v172 v181 v190 v199 v208 v217 v226 v235) (k0_h4 : k0_cond4 i v100 v109 v118 v127 v136 v145 v154 v163 v172 v181 v190 v199 v208 v217 v226 v235 = 1#1)
   (q : PosShare TreeShare) (f2 : Buf (Elt F) (arg2.view.loc (c : Thread nD τ))) (f11 : Buf (Elt F) (arg11.view.loc (c : Thread nD τ)))
   (f16 : Buf (Elt F) (arg16.view.loc (c : Thread nD τ))) :
   LoopInvTy_k0_t1 (F := F) Unit ℕ (UU nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 1).val) (tw i) k0_h1 v14 v100 v109 v118 v127 v136 v145 v154 v163 v172 v181 v190 v199 v208 v217 v226 v235 k0_hw1
        (lo i v100 v109 v118 v127 v136 v145 v154 v163 v172 v181 v190 v199 v208 v217 v226 v235) k0_h4 (iota .tc S128x1 32 [0] iota_S128x1_d0_w32) (iota .tc S128x1 32 [0] iota_S128x1_d0_w32) where
  inv k _ := iprop(ptq c q arg2 f2 ∗ pt c arg11 f11 ∗ pt c arg16 (accBuf harg16 c i v14 (slab (arg11.view.read (Elt F) f11) (i 1))
    (arg2.view.read (Elt F) f2) (lo i v100 v109 v118 v127 v136 v145 v154 v163 v172 v181 v190 v199 v208 v217 v226 v235) f16 k))
  step k _ := by
    rw [accBuf_eq, accBuf_eq]
    have e2 : f2 = harg2.unread (arg2.view.read (Elt F) f2) := (harg2.unread_read f2).symm
    have e11 : f11 = harg11.unread (arg11.view.read (Elt F) f11) := (harg11.unread_read f11).symm
    have h := trip c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 v14 v100 v109 v118 v127 v136 v145 v154 v163 v172 v181 v190 v199 v208 v217 v226 v235 k0_hw1 k0_h4 k q (arg2.view.read (Elt F) f2) (arg11.view.read (Elt F) f11)
      (segAcc i v14 (slab (arg11.view.read (Elt F) f11) (i 1)) (arg2.view.read (Elt F) f2) (lo i v100 v109 v118 v127 v136 v145 v154 v163 v172 v181 v190 v199 v208 v217 v226 v235) (arg16.view.read (Elt F) f16) k)
    rw [← e2, ← e11] at h
    exact h

/-- The first segment of the tile, from the table. -/
@[reducible] def loT (i : grid0.Coords) (T : Vec F S16 .i32) : BitVec 32 := lo i (word T 0) (word T 1) (word T 2) (word T 3) (word T 4) (word T 5) (word T 6) (word T 7) (word T 8) (word T 9) (word T 10) (word T 11) (word T 12) (word T 13) (word T 14) (word T 15)
/-- The last segment of the tile, from the table. -/
@[reducible] def hiT (i : grid0.Coords) (T : Vec F S16 .i32) : BitVec 32 := hi i (word T 0) (word T 1) (word T 2) (word T 3) (word T 4) (word T 5) (word T 6) (word T 7) (word T 8) (word T 9) (word T 10) (word T 11) (word T 12) (word T 13) (word T 14) (word T 15)
/-- The number of segments that meet the tile, as the loop counts them. -/
@[reducible] def nTrips (i : grid0.Coords) (T : Vec F S16 .i32) : Nat := (k0_t1_loop i (word T 0) (word T 1) (word T 2) (word T 3) (word T 4) (word T 5) (word T 6) (word T 7) (word T 8) (word T 9) (word T 10) (word T 11) (word T 12) (word T 13) (word T 14) (word T 15)).trips
/-- The count behind the first segment but for its last comparison. -/
@[reducible] def loInit (i : grid0.Coords) (T : Vec F S16 .i32) : BitVec 32 :=
  bump (bump (bump (bump (bump (bump (bump (bump (bump (bump (bump (bump (bump (bump (bump 0#32
    (word T 0) (tw i)) (word T 1) (tw i)) (word T 2) (tw i)) (word T 3) (tw i)) (word T 4) (tw i)) (word T 5) (tw i)) (word T 6) (tw i))
    (word T 7) (tw i)) (word T 8) (tw i)) (word T 9) (tw i)) (word T 10) (tw i)) (word T 11) (tw i)) (word T 12) (tw i)) (word T 13) (tw i))
    (word T 14) (tw i)
/-- The last comparison of that count. -/
@[reducible] def loLast (i : grid0.Coords) (T : Vec F S16 .i32) : BitVec 32 := Scalar.extui (Scalar.cmpi .sle (word T 15) (tw i))
/-- The word that says the tile lies in one segment. -/
@[reducible] def single (i : grid0.Coords) (T : Vec F S16 .i32) : BitVec 1 :=
  Scalar.cmpi .ne (Scalar.extui (Scalar.cmpi .eq (loT i T) (hiT i T)) : BitVec 32) 0#32
/-- The word that says the tile is the first. -/
@[reducible] def first (i : grid0.Coords) : BitVec 1 :=
  Scalar.cmpi .ne (Scalar.extui (Scalar.cmpi .eq (BitVec.ofNat 32 (i 1).val) 0#32) : BitVec 32) 0#32

/-- The running maxima once a tile that lies in one segment has been taken in. -/
def maxBase (i : grid0.Coords) (T : Vec F S16 .i32) (v14 : FVec F S16384x128 .f32) (X : Vec F S32x128 .f32) : Vec F S32x128 .f32 :=
  if single i T = 1#1 then k0_pay2 v14 (loInit i T) (loLast i T) X X else X

/-- The running maxima after a tile with rows `v14`, from the maxima `X` before it. -/
def maxNext (i : grid0.Coords) (T : Vec F S16 .i32) (v14 : FVec F S16384x128 .f32) (X : Vec F S32x128 .f32) : Vec F S32x128 .f32 :=
  if k0_cond4 i (word T 0) (word T 1) (word T 2) (word T 3) (word T 4) (word T 5) (word T 6) (word T 7) (word T 8) (word T 9) (word T 10) (word T 11) (word T 12) (word T 13) (word T 14) (word T 15) = 1#1 then segAcc i v14 v14 T (loT i T) (maxBase i T v14 X) (nTrips i T) else maxBase i T v14 X

theorem dite_unread {sp : Space} {S : Shape} {e : EltTy} {m : Memref sig .tc sp S e} (h : m.IsWhole) (c : Prop) [Decidable c] (a b : S.Idx → Elt F e) :
    (if _ : c then h.unread (Val := Elt F) a else h.unread b) = h.unread (if c then a else b) := by
  by_cases hc : c <;> simp [hc]

theorem pt_eq (c : Dev nD) {sp : Space} {S : Shape} {e : EltTy} (M : Memref sig .tc sp S e) {f g : Buf (Elt F) (M.view.loc (c : Thread nD τ))}
    (h : f = g) : pt c M f ⊢ pt c M g := h ▸ .rfl

theorem off1 (i : grid0.Coords) : k0_off1 i = ![(i 1).val, 0, 0] := by
  have hi1 : (i 1).val < 2 := (i 1).isLt
  have hi : (BitVec.ofNat 32 (i 1).val).toNat = (i 1).val := by rw [BitVec.toNat_ofNat]; omega
  rw [← hi]; rfl

theorem pay19_apply (X : Vec F S16384x128 .f32) (W : Vec F S128x128 .f32) (r : Fin 16384) (l : Fin 128) :
    k0_pay19 X W (ix3 0 r l) = k0_pay18 X W (ix2 r l) := by
  exact shapeCast_ab_1ab_apply (k0_pay18 X W) _ _ _ _

set_option maxHeartbeats 40000000 in
set_option pp.maxSteps 600 in
/-- The first phase at one tile. The rows of the tile are kept, the sums and the sums of squares go on, and so do the
    segments' maxima; at the first tile they start from the constants. -/
theorem phase0 (c : Dev nD) (i : grid0.Coords)
  (arg2 : Memref sig .tc .smem S16 .i32) (harg2 : arg2.IsWhole)
  (arg3 : Memref sig .tc .vmem S16384x128 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S1x128 .f32) (harg9 : arg9.IsWhole)
  (arg10 : Memref sig .tc .vmem S32x128 .f32) (harg10 : arg10.IsWhole)
  (arg11 : Memref sig .tc .vmem S2x16384x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S32x128 .f32) (harg16 : arg16.IsWhole)
  (arg17 : Memref sig .tc .vmem S32x128 .f32) (harg17 : arg17.IsWhole)
   (h1 : k0_cond1 i = 1#1) (h5 : ¬ k0_cond5 i = 1#1) (q : PosShare TreeShare)
   (T : Vec F S16 .i32) (X : Vec F S16384x128 .f32) (W : Vec F S128x128 .f32) (H : Vec F S2x16384x128 .f32)
   (S Q : Vec F S8x128 .f32) (M : Vec F S32x128 .f32) :
   iprop(ptq c q arg2 (harg2.unread T) ∗ pt c arg3 (harg3.unread X) ∗ pt c arg4 (harg4.unread W) ∗ pt c arg11 (harg11.unread H)
     ∗ pt c arg12 (harg12.unread S) ∗ pt c arg13 (harg13.unread Q) ∗ pt c arg16 (harg16.unread M))
   ⊢ wp frame (wpE (defs₀ (F := F)) Variants.none c none) Set.univ
      (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(ptq c q arg2 (harg2.unread T) ∗ pt c arg3 (harg3.unread X) ∗ pt c arg4 (harg4.unread W)
     ∗ pt c arg11 (harg11.unread (setSlab H (i 1) (k0_pay18 X W))) ∗ pt c arg12 (harg12.unread (k0_pay21 (if first i = 1#1 then k0_pay15 else S) (k0_pay20 X W)))
     ∗ pt c arg13 (harg13.unread (k0_pay22 (k0_pay18 X W) (if first i = 1#1 then k0_pay16 else Q))) ∗ pt c arg16 (harg16.unread (maxNext i T (k0_pay18 X W) (if first i = 1#1 then k0_pay17 else M))))) := by
  have hc1 : ∀ v100 v109 v118 v127 v136 v145 v154 v163 v172 v181 v190 v199 v208 v217 v226 v235, k0_chk1 i v100 v109 v118 v127 v136 v145 v154 v163 v172 v181 v190 v199 v208 v217 v226 v235 := Checks.chk1 i
  iintro ⟨HT, H3, H4, H11, H12, H13, H16⟩
  sl_exec! (disch := first | exact hc1 _ _ _ _ _ _ _ _ _ _ _ _ _ _ _ _)
  simp only [writes_whole harg16 _ _ hz2, dite_unread harg16]
  have er : phase0.sl.r arg3 harg3 arg4 harg4 X W = k0_pay18 X W := by
    sl_unfold_run_names
    rw [readAt_whole harg3 X hz2, readAt_whole harg4 W hz2]
  have e11 : arg11.view.writes (Elt F) (harg11.unread H) (phase0.sl.H11_1 i arg3 harg3 arg4 harg4 h1 X W)
      = harg11.unread (setSlab H (i 1) (k0_pay18 X W)) := by
    sl_unfold_run_names
    rw [readAt_whole harg3 X hz2, readAt_whole harg4 W hz2]
    exact writes_slab harg11 H (i 1) _ (off1 i) _ _ (pay19_apply X W)
  have e12 : arg12.view.writes (Elt F) arg12.view.junk (phase0.sl.H12_1 i arg3 harg3 arg4 harg4 arg12 harg12 X W S)
      = harg12.unread (k0_pay21 (if first i = 1#1 then k0_pay15 else S) (k0_pay20 X W)) := by
    sl_unfold_run_names
    rw [writes_whole harg12 _ _ hz2, readAt_whole harg3 X hz2, readAt_whole harg4 W hz2, writes_whole harg12 _ _ hz2,
      dite_unread harg12, readAt_whole harg12 _ hz2]
  have e13 : arg13.view.writes (Elt F) arg13.view.junk (phase0.sl.H13_1 i arg3 harg3 arg4 harg4 arg13 harg13 X W Q)
      = harg13.unread (k0_pay22 (k0_pay18 X W) (if first i = 1#1 then k0_pay16 else Q)) := by
    sl_unfold_run_names
    rw [writes_whole harg13 _ _ hz2, readAt_whole harg3 X hz2, readAt_whole harg4 W hz2, writes_whole harg13 _ _ hz2,
      dite_unread harg13, readAt_whole harg13 _ hz2]
  have ew : ∀ n inb x, View.readAt (Elt F) arg2.view (Rect.unit (s := S16) ![n] S1.size inb).toLoadRect (harg2.unread T) x = word T n :=
    fun n inb x => readAt_word harg2 T inb x
  have eM : (if phase0.sl.v261 i arg2 harg2 T = 1#1 then k0_pay2 (phase0.sl.r arg3 harg3 arg4 harg4 X W) (phase0.sl.v229 i arg2 harg2 T)
      (phase0.sl.v237 i arg2 harg2 T) (phase0.sl.v269 i arg16 harg16 M) (phase0.sl.v269 i arg16 harg16 M)
      else if phase0.sl.v10 i = 1#1 then k0_pay17 else M) = maxBase i T (k0_pay18 X W) (if first i = 1#1 then k0_pay17 else M) := by
    rw [er]
    sl_unfold_run_names
    simp only [ew, writes_whole harg16 _ _ hz2, dite_unread harg16, readAt_whole harg16 _ hz2]
    rfl
  rw [eM]
  by_cases h4 : k0_cond4 i (phase0.sl.r_2 arg2 harg2 T) (phase0.sl.r_3 arg2 harg2 T)
              (phase0.sl.r_4 arg2 harg2 T) (phase0.sl.r_5 arg2 harg2 T) (phase0.sl.r_6 arg2 harg2 T)
              (phase0.sl.r_7 arg2 harg2 T) (phase0.sl.r_8 arg2 harg2 T) (phase0.sl.r_9 arg2 harg2 T)
              (phase0.sl.r_10 arg2 harg2 T) (phase0.sl.r_11 arg2 harg2 T) (phase0.sl.r_12 arg2 harg2 T)
              (phase0.sl.r_13 arg2 harg2 T) (phase0.sl.r_14 arg2 harg2 T) (phase0.sl.r_15 arg2 harg2 T)
              (phase0.sl.r_16 arg2 harg2 T) (phase0.sl.r_17 arg2 harg2 T) = 1#1
  · sl_exec! (disch := first | exact hc1 _ _ _ _ _ _ _ _ _ _ _ _ _ _ _ _)
    sl_step
    isplitl [HT]; · iexact HT
    isplitl [H3]; · iexact H3
    isplitl [H4]; · iexact H4
    isplitl [H11]
    · refine pt_eq c arg11 ?_
      exact e11
    isplitl [H12]
    · refine pt_eq c arg12 ?_
      exact e12
    isplitl [H13]
    · refine pt_eq c arg13 ?_
      exact e13
    · refine pt_eq c arg16 ?_
      refine (accBuf_unread harg16 c i _ _ _ _ (maxBase i T (k0_pay18 X W) (if first i = 1#1 then k0_pay17 else M)) _).trans ?_
      refine congrArg harg16.unread ?_
      have e2 := harg2.read_unread T
      have es : slab (setSlab H (i 1) (k0_pay18 X W)) (i 1) = k0_pay18 X W := slab_setSlab H (i 1) _
      rw [e11, harg11.read_unread, es, e2, er]
      revert h4
      sl_unfold_run_names
      simp only [ew]
      intro h4
      unfold maxNext
      rw [if_pos h4]
  · sl_exec! (disch := first | exact hc1 _ _ _ _ _ _ _ _ _ _ _ _ _ _ _ _)
    sl_step
    isplitl [HT]; · iexact HT
    isplitl [H3]; · iexact H3
    isplitl [H4]; · iexact H4
    isplitl [H11]; · exact pt_eq c arg11 e11
    isplitl [H12]; · exact pt_eq c arg12 e12
    isplitl [H13]; · exact pt_eq c arg13 e13
    refine pt_eq c arg16 (congrArg harg16.unread ?_)
    revert h4
    sl_unfold_run_names
    simp only [ew]
    intro h4
    unfold maxNext
    rw [if_neg h4]

end Cert.KernelIdeal.Body
-- ==== Proof.Second_KernelIdeal.lean ====
/-
  The second phase of the kernel at one tile.
-/
module

public import proofs.«01_k».proof.Proof.First_KernelIdeal
public import proofs.«01_k».proof.Proof.Gen.KernelIdeal.Launch
public import proofs.«01_k».proof.Proof.Gen.KernelIdeal.Loops
public import Idealize.ShloMosaic.Lib.ValueLayout
public import Idealize.ShloMosaic.Lib.Tactic
public import Idealize.ShloMosaic.Lib.LoopRemainder
public import Idealize.ShloMosaic.Lib.Pipeline.Kit
public import Idealize.ShloMosaic.Lib.Pipeline.Value

@[expose] public section

noncomputable section

namespace Cert.KernelIdeal.Body

open Cert.KernelIdeal Cert.KernelIdeal.Gen Cert.KernelIdeal.Checks SegWords SegReads Idealize.ShloMosaic.ValueIdx

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The row of each segment, as words. -/
abbrev rowIota : IVec S32x1 32 := iota .tc S32x1 32 [0] iota_S32x1_d0_w32

/-- The rows after the last of the segments but for the last table entry, from the table. -/
def endsPart (T : Vec F S16 .i32) : IVec S32x1 32 :=
  k0_pay76 rowIota (k0_pay72 rowIota (k0_pay70 rowIota (k0_pay66 rowIota (k0_pay62 rowIota (word T 0) (word T 1)) (word T 2) (word T 3) (word T 4))
    (word T 5) k0_pay68 (word T 6) (word T 7) (word T 8)) (word T 9) (word T 10) (word T 11)) (word T 12) (word T 13) (word T 14)

/-- The first rows of the segments but for the last table entry, from the table. -/
def startsPart (T : Vec F S16 .i32) : IVec S32x1 32 :=
  k0_pay77 rowIota (k0_pay71 rowIota (k0_pay69 rowIota (k0_pay67 rowIota (k0_pay61 rowIota (word T 0)) (k0_pay63 rowIota) (k0_pay64 (word T 1)) k0_pay65
    (word T 2) (word T 3) (word T 4)) (word T 5) (word T 6) (word T 7)) (word T 8) (word T 9) (word T 10)) (k0_pay73 rowIota) (k0_pay74 (word T 11)) k0_pay75
    (word T 12) (word T 13) (word T 14)

/-- The segments' sums after a tile with rows `v12`, from the sums `X` before it. -/
def sumNext (i : grid0.Coords) (T : Vec F S16 .i32) (v12 : Vec F S1x16384x128 .f32) (SH : Vec F S1x128 .f32) (X : Vec F S32x128 .f32) : Vec F S32x128 .f32 :=
  k0_pay5 i (k0_pay60 v12 SH) (endsPart T) (startsPart T) (word T 15) k0_pay78 X

/-- The rows after the last of the segments, as floats, but for the last table entry. -/
def endsF (T : Vec F S16 .i32) : FVec F S32x1 .f32 :=
  k0_pay48 rowIota (k0_pay43 rowIota (k0_pay38 rowIota (k0_pay32 rowIota (k0_pay27 rowIota (word T 0) (word T 1) (word T 2)) (word T 3) (word T 4) (word T 5))
    (word T 6) (word T 7) (word T 8)) (word T 9) (word T 10) (word T 11)) (word T 12) (word T 13) (word T 14)

/-- The first rows of the segments, as floats, but for the last table entry. -/
def startsF (T : Vec F S16 .i32) : FVec F S32x1 .f32 :=
  k0_pay49 rowIota (k0_pay44 rowIota (k0_pay36 rowIota (k0_pay30 rowIota (k0_pay25 rowIota (word T 0) (word T 1)) (k0_pay26 (word T 2)) 3#32 (word T 3) (word T 4))
    (k0_pay31 (word T 5)) (k0_pay33 rowIota) (Scalar.ofBits .f32 0x00000000#32) (word T 6) (word T 7)) (k0_pay39 rowIota (word T 8))
    (word T 9) (word T 10) (word T 11)) (word T 12) (word T 13) (word T 14)

/-- The kernel's result, from the table, the segments' maxima and sums, the scale and the shift, and the linear map. -/
def outVec (T : Vec F S16 .i32) (M SU : Vec F S32x128 .f32) (SC SH : Vec F S1x128 .f32) (WX WN : Vec F S128x128 .f32) (BO : Vec F S1x128 .f32) :
    Vec F S32x128 .f32 :=
  k0_pay6 (k0_pay53 rowIota (endsF T) (startsF T) (k0_pay50 (word T 15)) k0_pay51 SU SH SC)
    (k0_pay54 rowIota (endsF T) (startsF T) (k0_pay50 (word T 15)) k0_pay51 SC M SH) WX WN BO

theorem off10 (i : grid0.Coords) : k0_off10 i = ![(i 1).val, 0, 0] := off1 i

set_option maxHeartbeats 40000000 in
/-- The second phase at a tile that is not the last: at the first tile the scale and the shift are set from the sums;
    the segments' sums go on. -/
theorem phase1 (c : Dev nD) (i : grid0.Coords)
  (arg2 : Memref sig .tc .smem S16 .i32) (harg2 : arg2.IsWhole)
  (arg3 : Memref sig .tc .vmem S16384x128 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S1x128 .f32) (harg9 : arg9.IsWhole)
  (arg10 : Memref sig .tc .vmem S32x128 .f32) (harg10 : arg10.IsWhole)
  (arg11 : Memref sig .tc .vmem S2x16384x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S32x128 .f32) (harg16 : arg16.IsWhole)
  (arg17 : Memref sig .tc .vmem S32x128 .f32) (harg17 : arg17.IsWhole)
   (h1 : ¬ k0_cond1 i = 1#1) (h5 : k0_cond5 i = 1#1) (h7 : ¬ k0_cond7 i = 1#1) (q : PosShare TreeShare)
   (T : Vec F S16 .i32) (GA BE : Vec F S1x128 .f32) (H : Vec F S2x16384x128 .f32)
   (S Q : Vec F S8x128 .f32) (SC SH : Vec F S1x128 .f32) (SU : Vec F S32x128 .f32) :
   iprop(ptq c q arg2 (harg2.unread T) ∗ pt c arg5 (harg5.unread GA) ∗ pt c arg6 (harg6.unread BE) ∗ pt c arg11 (harg11.unread H)
     ∗ pt c arg12 (harg12.unread S) ∗ pt c arg13 (harg13.unread Q) ∗ pt c arg14 (harg14.unread SC) ∗ pt c arg15 (harg15.unread SH)
     ∗ pt c arg17 (harg17.unread SU))
   ⊢ wp frame (wpE (defs₀ (F := F)) Variants.none c none) Set.univ
      (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(ptq c q arg2 (harg2.unread T) ∗ pt c arg5 (harg5.unread GA) ∗ pt c arg6 (harg6.unread BE) ∗ pt c arg11 (harg11.unread H)
     ∗ pt c arg12 (harg12.unread S) ∗ pt c arg13 (harg13.unread Q) ∗ pt c arg14 (harg14.unread (if first i = 1#1 then k0_pay57 S Q GA else SC))
     ∗ pt c arg15 (harg15.unread (if first i = 1#1 then k0_pay58 S Q GA BE else SH))
     ∗ pt c arg17 (harg17.unread (sumNext i T (fun x => slab H (i 1) (ix2 (x 1) (x 2))) (if first i = 1#1 then k0_pay58 S Q GA BE else SH)
          (if first i = 1#1 then k0_pay59 else SU))))) := by
  iintro ⟨HT, H5, H6, H11, H12, H13, H14, H15, H17⟩
  sl_exec!
  sl_step
  have ew : ∀ n inb x, View.readAt (Elt F) arg2.view (Rect.unit (s := S16) ![n] S1.size inb).toLoadRect (harg2.unread T) x = word T n :=
    fun n inb x => readAt_word harg2 T inb x
  isplitl [HT]; · iexact HT
  isplitl [H5]; · iexact H5
  isplitl [H6]; · iexact H6
  isplitl [H11]; · iexact H11
  isplitl [H12]; · iexact H12
  isplitl [H13]; · iexact H13
  have e14 := dite_unread (F := F) harg14 (first i = 1#1) (k0_pay57 S Q GA) SC
  have e15 := dite_unread (F := F) harg15 (first i = 1#1) (k0_pay58 S Q GA BE) SH
  isplitl [H14]
  · refine pt_eq c arg14 ?_
    rw [writes_whole harg14 _ _ hz2, readAt_whole harg12 S hz2, readAt_whole harg13 Q hz2, readAt_whole harg5 GA hz2]
    exact e14
  isplitl [H15]
  · refine pt_eq c arg15 ?_
    rw [writes_whole harg15 _ _ hz2, readAt_whole harg12 S hz2, readAt_whole harg13 Q hz2, readAt_whole harg5 GA hz2,
      readAt_whole harg6 BE hz2]
    exact e15
  refine pt_eq c arg17 ?_
  sl_unfold_run_names
  rw [writes_whole harg17 _ _ hz2]
  simp only [ew, writes_whole harg15 _ _ hz2, writes_whole harg17 _ _ hz2, readAt_whole harg12 S hz2, readAt_whole harg13 Q hz2,
    readAt_whole harg5 GA hz2, readAt_whole harg6 BE hz2, dite_unread harg15, dite_unread harg17, readAt_whole harg15 _ hz2,
    readAt_whole harg17 _ hz2, readAt_slab harg11 H (i 1) (off10 i)]
  rfl

set_option maxHeartbeats 40000000 in
/-- The second phase at the last tile: the segments' sums go on, and the result is written. -/
theorem phase1_last (c : Dev nD) (i : grid0.Coords)
  (arg2 : Memref sig .tc .smem S16 .i32) (harg2 : arg2.IsWhole)
  (arg3 : Memref sig .tc .vmem S16384x128 .f32) (harg3 : arg3.IsWhole)
  (arg4 : Memref sig .tc .vmem S128x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S1x128 .f32) (harg9 : arg9.IsWhole)
  (arg10 : Memref sig .tc .vmem S32x128 .f32) (harg10 : arg10.IsWhole)
  (arg11 : Memref sig .tc .vmem S2x16384x128 .f32) (harg11 : arg11.IsWhole)
  (arg12 : Memref sig .tc .vmem S8x128 .f32) (harg12 : arg12.IsWhole)
  (arg13 : Memref sig .tc .vmem S8x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S32x128 .f32) (harg16 : arg16.IsWhole)
  (arg17 : Memref sig .tc .vmem S32x128 .f32) (harg17 : arg17.IsWhole)
   (h1 : ¬ k0_cond1 i = 1#1) (h5 : k0_cond5 i = 1#1) (h7 : k0_cond7 i = 1#1) (h2 : ¬ first i = 1#1) (q : PosShare TreeShare)
   (T : Vec F S16 .i32) (WX WN : Vec F S128x128 .f32) (BO : Vec F S1x128 .f32) (H : Vec F S2x16384x128 .f32)
   (SC SH : Vec F S1x128 .f32) (M SU : Vec F S32x128 .f32) (f10 : Buf (Elt F) (arg10.view.loc (c : Thread nD τ))) :
   iprop(ptq c q arg2 (harg2.unread T) ∗ pt c arg7 (harg7.unread WX) ∗ pt c arg8 (harg8.unread WN) ∗ pt c arg9 (harg9.unread BO)
     ∗ pt c arg10 f10 ∗ pt c arg11 (harg11.unread H)
     ∗ pt c arg14 (harg14.unread SC) ∗ pt c arg15 (harg15.unread SH) ∗ pt c arg16 (harg16.unread M) ∗ pt c arg17 (harg17.unread SU))
   ⊢ wp frame (wpE (defs₀ (F := F)) Variants.none c none) Set.univ
      (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
      (fun _ => iprop(ptq c q arg2 (harg2.unread T) ∗ pt c arg7 (harg7.unread WX) ∗ pt c arg8 (harg8.unread WN) ∗ pt c arg9 (harg9.unread BO)
     ∗ pt c arg10 (harg10.unread (outVec T M (sumNext i T (fun x => slab H (i 1) (ix2 (x 1) (x 2))) SH SU) SC SH WX WN BO))
     ∗ pt c arg11 (harg11.unread H)
     ∗ pt c arg14 (harg14.unread SC) ∗ pt c arg15 (harg15.unread SH) ∗ pt c arg16 (harg16.unread M)
     ∗ pt c arg17 (harg17.unread (sumNext i T (fun x => slab H (i 1) (ix2 (x 1) (x 2))) SH SU)))) := by
  iintro ⟨HT, H7, H8, H9, H10, H11, H14, H15, H16, H17⟩
  sl_exec!
  sl_step
  have ew : ∀ n inb x, View.readAt (Elt F) arg2.view (Rect.unit (s := S16) ![n] S1.size inb).toLoadRect (harg2.unread T) x = word T n :=
    fun n inb x => readAt_word harg2 T inb x
  isplitl [HT]; · iexact HT
  isplitl [H7]; · iexact H7
  isplitl [H8]; · iexact H8
  isplitl [H9]; · iexact H9
  isplitl [H10]
  · refine pt_eq c arg10 ?_
    sl_unfold_run_names
    rw [writes_whole harg10 _ _ hz2]
    simp only [ew, readAt_whole harg7 WX hz2, readAt_whole harg8 WN hz2, readAt_whole harg9 BO hz2, readAt_whole harg14 SC hz2,
      readAt_whole harg15 SH hz2, readAt_whole harg16 M hz2, View.readCov_unit_zero arg17.view hz2, readAt_whole harg17 _ hz2,
      readAt_slab harg11 H (i 1) (off10 i)]
    rfl
  isplitl [H11]; · iexact H11
  isplitl [H14]; · iexact H14
  isplitl [H15]; · iexact H15
  isplitl [H16]; · iexact H16
  refine pt_eq c arg17 ?_
  sl_unfold_run_names
  rw [writes_whole harg17 _ _ hz2]
  simp only [ew, readAt_whole harg15 SH hz2, readAt_whole harg17 _ hz2, readAt_slab harg11 H (i 1) (off10 i)]
  rfl

end Cert.KernelIdeal.Body
-- ==== Proof.Points_KernelIdeal.lean ====
/-
  What the buffers hold between the points of the grid.
-/
module

public import proofs.«01_k».proof.Proof.Second_KernelIdeal
public import Idealize.ShloMosaic.Lib.Pipeline.FrameSuffix

@[expose] public section

noncomputable section

namespace Cert.KernelIdeal.Body

open Cert.KernelIdeal Cert.KernelIdeal.Gen Cert.KernelIdeal.Checks SegWords SegReads Idealize.ShloMosaic.ValueIdx

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UU nD τ) ℕ

/-! ## Owning a whole buffer -/

/-- A whole memref owned at `X` is its buffer held at the contents that read `X`. -/
theorem owns_pt (c : Dev nD) {sp : Space} {S : Shape} {e : EltTy} {M : Memref sig .tc sp S e} (h : M.IsWhole) (X : S.Idx → Elt F e) :
    (owns (c : Thread nD τ) M fullShare X : sProp 𝕄) ⊢ pt c M (h.unread X) := by
  unfold owns
  iintro ⟨%f, %hf, H⟩
  obtain rfl := h.eq_unread hf
  unfold pt
  rw [h.set_eq_univ]
  iexact H

/-- The converse. -/
theorem pt_owns (c : Dev nD) {sp : Space} {S : Shape} {e : EltTy} {M : Memref sig .tc sp S e} (h : M.IsWhole) (X : S.Idx → Elt F e) :
    pt c M (h.unread X) ⊢ (owns (c : Thread nD τ) M fullShare X : sProp 𝕄) := by
  unfold owns pt
  rw [h.set_eq_univ]
  iintro H
  iexists _; isplitr; swap; · iexact H
  ipureintro; exact h.read_unread X

/-- The contents that read `f` through a whole buffer are `f`. -/
theorem unread_whole (b : Ref sig .tc) (f : b.ty.Contents (Elt F)) : (Memref.isWhole_whole b).unread f = f :=
  ((Memref.isWhole_whole b).eq_unread (by simp only [Memref.view_whole, View.read_whole])).symm

/-- A run handed its continuation. -/
theorem run_then {α : Type} {E : Set ℕ} {c : Dev nD} {p : Prog (TpuEff nD τ sig (Elt F) Λ₀ .tc) α} {P : sProp 𝕄} {Q : α → sProp 𝕄} (K : α → sProp 𝕄)
    (h : P ⊢ wp frame (wpE (defs₀ (F := F)) Variants.none (c : Thread nD τ) none) E p Q) :
    iprop(P ∗ (∀ a, Q a -∗ K a)) ⊢ wp frame (wpE (defs₀ (F := F)) Variants.none (c : Thread nD τ) none) E p K :=
  (sep_mono h .rfl).trans (wp_wand_r _ _ _)

variable (m : (ℓ : Loc nD τ sig) → Buf (Elt F) ℓ)

/-! ## What the kernel computes, point by point -/

/-- What the buffers of core `c` hold when the kernel is called. -/
abbrev V₀ (c : Dev nD) : Valuation τ sig (Elt F) := StableHlo.after [hostOps0].flatten (fun b => m (c, b))

/-- The table the kernel is called with. -/
def tab : (pcfg0 (F := F)).Adm := ⟨fun k => V₀ m 0 (Proc.devRef .tc (pre0.ref k)), trivial⟩
/-- The table, as a vector. -/
abbrev Tb : Vec F S16 .i32 := (tab m).1 0

abbrev cfgT : Pipeline.Cfg sig Λ₀ := cfg0 (tab m)

/-- The block of window `w` at point `t`. -/
abbrev blkAt (c : Dev nD) (w : Fin 8) (t : Fin grid0.N) := (((cfgT m).win w).blk t).view.read (Elt F) (V₀ m c (Proc.devRef .tc (Pipeline.arrRef spec0 w)))

/-- The tile of features, and the small operands, at a point. -/
def bX (c : Dev nD) (t : Fin grid0.N) : Vec F S16384x128 .f32 := blkAt m c 0 t
def bW (c : Dev nD) (t : Fin grid0.N) : Vec F S128x128 .f32 := blkAt m c 1 t
def bGA (c : Dev nD) (t : Fin grid0.N) : Vec F S1x128 .f32 := blkAt m c 2 t
def bBE (c : Dev nD) (t : Fin grid0.N) : Vec F S1x128 .f32 := blkAt m c 3 t
def bWX (c : Dev nD) (t : Fin grid0.N) : Vec F S128x128 .f32 := blkAt m c 4 t
def bWN (c : Dev nD) (t : Fin grid0.N) : Vec F S128x128 .f32 := blkAt m c 5 t
def bBO (c : Dev nD) (t : Fin grid0.N) : Vec F S1x128 .f32 := blkAt m c 6 t

/-- The coordinates of the four points. -/
abbrev p0 : grid0.Coords := grid0.coords t0_0
abbrev p1 : grid0.Coords := grid0.coords t0_1
abbrev p2 : grid0.Coords := grid0.coords t0_2
abbrev p3 : grid0.Coords := grid0.coords t0_3

/-- The rows of the two tiles after the first linear map. -/
def rows0 (c : Dev nD) : FVec F S16384x128 .f32 := k0_pay18 (bX m c t0_0) (bW m c t0_0)
def rows1 (c : Dev nD) : FVec F S16384x128 .f32 := k0_pay18 (bX m c t0_1) (bW m c t0_1)
/-- The sums after each tile. -/
def sum0 (c : Dev nD) : Vec F S8x128 .f32 := k0_pay21 k0_pay15 (k0_pay20 (bX m c t0_0) (bW m c t0_0))
def sum1 (c : Dev nD) : Vec F S8x128 .f32 := k0_pay21 (sum0 m c) (k0_pay20 (bX m c t0_1) (bW m c t0_1))
/-- The sums of squares after each tile. -/
def sq0 (c : Dev nD) : Vec F S8x128 .f32 := k0_pay22 (rows0 m c) k0_pay16
def sq1 (c : Dev nD) : Vec F S8x128 .f32 := k0_pay22 (rows1 m c) (sq0 m c)
/-- The segments' maxima after each tile. -/
def max0 (c : Dev nD) : Vec F S32x128 .f32 := maxNext p0 (Tb m) (rows0 m c) k0_pay17
def max1 (c : Dev nD) : Vec F S32x128 .f32 := maxNext p1 (Tb m) (rows1 m c) (max0 m c)
/-- The scale and the shift. -/
def scl (c : Dev nD) : Vec F S1x128 .f32 := k0_pay57 (sum1 m c) (sq1 m c) (bGA m c t0_2)
def shf (c : Dev nD) : Vec F S1x128 .f32 := k0_pay58 (sum1 m c) (sq1 m c) (bGA m c t0_2) (bBE m c t0_2)
/-- The segments' sums after each tile. -/
def seg0 (c : Dev nD) : Vec F S32x128 .f32 := sumNext p2 (Tb m) (fun x => rows0 m c (ix2 (x 1) (x 2))) (shf m c) k0_pay59
def seg1 (c : Dev nD) : Vec F S32x128 .f32 := sumNext p3 (Tb m) (fun x => rows1 m c (ix2 (x 1) (x 2))) (shf m c) (seg0 m c)
/-- The kernel's result. -/
def outK (c : Dev nD) : Vec F S32x128 .f32 :=
  outVec (Tb m) (max1 m c) (seg1 m c) (scl m c) (shf m c) (bWX m c t0_3) (bWN m c t0_3) (bBO m c t0_3)

/-! ## Between the points -/

/-- The scratch buffers, each at given contents. -/
abbrev hH (c : Dev nD) (H : Vec F S2x16384x128 .f32) : sProp 𝕄 := pt c (Memref.whole cc0_scratch0) ((Memref.isWhole_whole cc0_scratch0).unread H)
abbrev hS (c : Dev nD) (S : Vec F S8x128 .f32) : sProp 𝕄 := pt c (Memref.whole cc0_scratch1) ((Memref.isWhole_whole cc0_scratch1).unread S)
abbrev hQ (c : Dev nD) (Q : Vec F S8x128 .f32) : sProp 𝕄 := pt c (Memref.whole cc0_scratch2) ((Memref.isWhole_whole cc0_scratch2).unread Q)
abbrev hSC (c : Dev nD) (X : Vec F S1x128 .f32) : sProp 𝕄 := pt c (Memref.whole cc0_scratch3) ((Memref.isWhole_whole cc0_scratch3).unread X)
abbrev hSH (c : Dev nD) (X : Vec F S1x128 .f32) : sProp 𝕄 := pt c (Memref.whole cc0_scratch4) ((Memref.isWhole_whole cc0_scratch4).unread X)
abbrev hM (c : Dev nD) (X : Vec F S32x128 .f32) : sProp 𝕄 := pt c (Memref.whole cc0_scratch5) ((Memref.isWhole_whole cc0_scratch5).unread X)
abbrev hSU (c : Dev nD) (X : Vec F S32x128 .f32) : sProp 𝕄 := pt c (Memref.whole cc0_scratch6) ((Memref.isWhole_whole cc0_scratch6).unread X)

/-- The conditions the contents of the scratch buffers meet before point `n`. -/
def Inv (c : Dev nD) (n : ℕ) (H : Vec F S2x16384x128 .f32) (S Q : Vec F S8x128 .f32) (SC SH : Vec F S1x128 .f32) (M SU : Vec F S32x128 .f32) : Prop :=
  match n with
  | 0 => True
  | 1 => slab H (0 : Fin 2) = rows0 m c ∧ S = sum0 m c ∧ Q = sq0 m c ∧ M = max0 m c
  | 2 => slab H (0 : Fin 2) = rows0 m c ∧ slab H (1 : Fin 2) = rows1 m c ∧ S = sum1 m c ∧ Q = sq1 m c ∧ M = max1 m c
  | 3 => slab H (0 : Fin 2) = rows0 m c ∧ slab H (1 : Fin 2) = rows1 m c ∧ M = max1 m c ∧ SC = scl m c ∧ SH = shf m c ∧ SU = seg0 m c
  | _ => True

/-- What the core holds before point `n`: the table, the scratch buffers at contents meeting the conditions, the generator register. -/
def Phi (c : Dev nD) (n : ℕ) : sProp 𝕄 :=
  iprop(∃ H S Q SC SH M SU, ⌜Inv m c n H S Q SC SH M SU⌝
    ∗ ptq c fullShare.right (Memref.whole main_arg1) ((Memref.isWhole_whole main_arg1).unread (Tb m))
    ∗ hH c H ∗ hS c S ∗ hQ c Q ∗ hSC c SC ∗ hSH c SH ∗ hM c M ∗ hSU c SU ∗ ∃ r, prngReg c r)

/-- The proof data: the arrays at their contents at the call; every input left as found; the output at the result. -/
def dats (_ : Fin 1) (c : Dev nD) : Dat τ (Elt F) Unit ℕ (UU nD τ) ℕ (cfgT m) c where
  A w := V₀ m c (Proc.devRef .tc (Pipeline.arrRef spec0 w))
  after := fun
    | 0, t => bX m c t | 1, t => bW m c t | 2, t => bGA m c t | 3, t => bBE m c t | 4, t => bWX m c t | 5, t => bWN m c t | 6, t => bBO m c t
    | 7, _ => outK m c | ⟨_ + 8, h⟩, _ => absurd h (Nat.not_lt.2 (Nat.le_add_left _ _))
  Φ n := Phi m c n.val
  q _ := fullShare
  owed _ := 0

theorem A_eq (c : Dev nD) (w : Fin 8) : (dats m 0 c).A w = V₀ m c (Proc.devRef .tc (Pipeline.arrRef spec0 w)) := by dsimp only [dats]

theorem before0 (c : Dev nD) (t : Fin grid0.N) (d) : (dats m 0 c).before 0 t d = bX m c t :=
  ((dats m 0 c).before_in_eq_fetched 0 rfl (fun _ => rfl) (fun _ _ _ => rfl) (fun _ => rfl) t d).trans rfl
theorem before1 (c : Dev nD) (t : Fin grid0.N) (d) : (dats m 0 c).before 1 t d = bW m c t :=
  ((dats m 0 c).before_in_eq_fetched 1 rfl (fun _ => rfl) (fun _ _ _ => rfl) (fun _ => rfl) t d).trans rfl
theorem before2 (c : Dev nD) (t : Fin grid0.N) (d) : (dats m 0 c).before 2 t d = bGA m c t :=
  ((dats m 0 c).before_in_eq_fetched 2 rfl (fun _ => rfl) (fun _ _ _ => rfl) (fun _ => rfl) t d).trans rfl
theorem before3 (c : Dev nD) (t : Fin grid0.N) (d) : (dats m 0 c).before 3 t d = bBE m c t :=
  ((dats m 0 c).before_in_eq_fetched 3 rfl (fun _ => rfl) (fun _ _ _ => rfl) (fun _ => rfl) t d).trans rfl
theorem before4 (c : Dev nD) (t : Fin grid0.N) (d) : (dats m 0 c).before 4 t d = bWX m c t :=
  ((dats m 0 c).before_in_eq_fetched 4 rfl (fun _ => rfl) (fun _ _ _ => rfl) (fun _ => rfl) t d).trans rfl
theorem before5 (c : Dev nD) (t : Fin grid0.N) (d) : (dats m 0 c).before 5 t d = bWN m c t :=
  ((dats m 0 c).before_in_eq_fetched 5 rfl (fun _ => rfl) (fun _ _ _ => rfl) (fun _ => rfl) t d).trans rfl
theorem before6 (c : Dev nD) (t : Fin grid0.N) (d) : (dats m 0 c).before 6 t d = bBO m c t :=
  ((dats m 0 c).before_in_eq_fetched 6 rfl (fun _ => rfl) (fun _ _ _ => rfl) (fun _ => rfl) t d).trans rfl

/-- The staging buffer of window `w` at point `t`. -/
abbrev st (w : Fin 8) (t : Fin grid0.N) := ((cfgT m).win w).stage ((cfgT m).slots t w)

/-- The body as the launch runs it at point `t`. -/
abbrev bodyAt (t : Fin grid0.N) : Prog (TpuEff nD τ sig (Elt F) Λ₀ .tc) PUnit :=
  cc0__body (grid0.coords t) (Memref.whole main_arg1) (Memref.isWhole_whole _) (st m 0 t) (stage_whole0 0 _) (st m 1 t) (stage_whole0 1 _)
    (st m 2 t) (stage_whole0 2 _) (st m 3 t) (stage_whole0 3 _) (st m 4 t) (stage_whole0 4 _) (st m 5 t) (stage_whole0 5 _)
    (st m 6 t) (stage_whole0 6 _) (st m 7 t) (stage_whole0 7 _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)

/-- The input windows, each holding its block. -/
def ins (c : Dev nD) (t : Fin grid0.N) : sProp 𝕄 :=
  iprop(owns (c : Thread nD τ) (st m 0 t) fullShare (bX m c t) ∗ owns (c : Thread nD τ) (st m 1 t) fullShare (bW m c t)
    ∗ owns (c : Thread nD τ) (st m 2 t) fullShare (bGA m c t) ∗ owns (c : Thread nD τ) (st m 3 t) fullShare (bBE m c t)
    ∗ owns (c : Thread nD τ) (st m 4 t) fullShare (bWX m c t) ∗ owns (c : Thread nD τ) (st m 5 t) fullShare (bWN m c t)
    ∗ owns (c : Thread nD τ) (st m 6 t) fullShare (bBO m c t))

/-- A point of the first phase. -/
theorem point_first (c : Dev nD) (t : Fin grid0.N) (n : ℕ) (h1 : k0_cond1 (grid0.coords t) = 1#1) (h5 : ¬ k0_cond5 (grid0.coords t) = 1#1)
    (hstep : ∀ H S Q SC SH M SU, Inv m c n H S Q SC SH M SU →
      Inv m c (n + 1) (setSlab H (grid0.coords t 1) (k0_pay18 (bX m c t) (bW m c t)))
        (k0_pay21 (if first (grid0.coords t) = 1#1 then k0_pay15 else S) (k0_pay20 (bX m c t) (bW m c t)))
        (k0_pay22 (k0_pay18 (bX m c t) (bW m c t)) (if first (grid0.coords t) = 1#1 then k0_pay16 else Q)) SC SH
        (maxNext (grid0.coords t) (Tb m) (k0_pay18 (bX m c t) (bW m c t)) (if first (grid0.coords t) = 1#1 then k0_pay17 else M)) SU) :
    iprop(Phi m c n ∗ ins m c t)
      ⊢ wp frame (wpE (defs₀ (F := F)) Variants.none (c : Thread nD τ) none) Set.univ (bodyAt m t) (fun _ => iprop(Phi m c (n + 1) ∗ ins m c t)) := by
  unfold Phi ins
  iintro ⟨⟨%H, %S, %Q, %SC, %SH, %M, %SU, %hI, HT, HH, HS, HQ, HSC, HSH, HM, HSU, Hr⟩, I0, I1, Is⟩
  ihave I0 := (owns_pt c (stage_whole0 0 _) (bX m c t)) $$ I0
  ihave I1 := (owns_pt c (stage_whole0 1 _) (bW m c t)) $$ I1
  iapply (run_then _ (phase0 c (grid0.coords t) (Memref.whole main_arg1) (Memref.isWhole_whole _) (st m 0 t) (stage_whole0 0 _) (st m 1 t) (stage_whole0 1 _)
    (st m 2 t) (stage_whole0 2 _) (st m 3 t) (stage_whole0 3 _) (st m 4 t) (stage_whole0 4 _) (st m 5 t) (stage_whole0 5 _)
    (st m 6 t) (stage_whole0 6 _) (st m 7 t) (stage_whole0 7 _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    h1 h5 fullShare.right (Tb m) (bX m c t) (bW m c t) H S Q M))
  isplitl [HT I0 I1 HH HS HQ HM]
  · isplitl [HT]; · iexact HT
    isplitl [I0]; · iexact I0
    isplitl [I1]; · iexact I1
    isplitl [HH]; · iexact HH
    isplitl [HS]; · iexact HS
    isplitl [HQ]; · iexact HQ
    iexact HM
  iintro %_ ⟨HT, I0, I1, HH, HS, HQ, HM⟩
  ihave I0 := (pt_owns c (stage_whole0 0 _) (bX m c t)) $$ I0
  ihave I1 := (pt_owns c (stage_whole0 1 _) (bW m c t)) $$ I1
  isplitr [I0 I1 Is]
  · iexists _, _, _, _, _, _, _
    isplitr; · ipureintro; exact hstep H S Q SC SH M SU hI
    isplitl [HT]; · iexact HT
    isplitl [HH]; · iexact HH
    isplitl [HS]; · iexact HS
    isplitl [HQ]; · iexact HQ
    isplitl [HSC]; · iexact HSC
    isplitl [HSH]; · iexact HSH
    isplitl [HM]; · iexact HM
    isplitl [HSU]; · iexact HSU
    iexact Hr
  isplitl [I0]; · iexact I0
  isplitl [I1]; · iexact I1
  iexact Is

end Cert.KernelIdeal.Body
-- ==== Proof.Launch_KernelIdeal.lean ====
/-
  The launch of the kernel: what the buffers hold between the grid's points, and the run of the whole program.
-/
module

public import proofs.«01_k».proof.Proof.Points_KernelIdeal
public import Idealize.ShloMosaic.Lib.Pipeline.FrameSuffix

@[expose] public section

noncomputable section

namespace Cert.KernelIdeal.Body

open Cert.KernelIdeal Cert.KernelIdeal.Gen Cert.KernelIdeal.Checks SegWords SegReads Idealize.ShloMosaic.ValueIdx

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UU nD τ) ℕ
variable (m : (ℓ : Loc nD τ sig) → Buf (Elt F) ℓ)

/-- A point of the second phase but the last. -/
theorem point_second (c : Dev nD) (t : Fin grid0.N) (n : ℕ) (h1 : ¬ k0_cond1 (grid0.coords t) = 1#1) (h5 : k0_cond5 (grid0.coords t) = 1#1)
    (h7 : ¬ k0_cond7 (grid0.coords t) = 1#1)
    (hstep : ∀ H S Q SC SH M SU, Inv m c n H S Q SC SH M SU →
      Inv m c (n + 1) H S Q (if first (grid0.coords t) = 1#1 then k0_pay57 S Q (bGA m c t) else SC)
        (if first (grid0.coords t) = 1#1 then k0_pay58 S Q (bGA m c t) (bBE m c t) else SH) M
        (sumNext (grid0.coords t) (Tb m) (fun x => slab H (grid0.coords t 1) (ix2 (x 1) (x 2)))
          (if first (grid0.coords t) = 1#1 then k0_pay58 S Q (bGA m c t) (bBE m c t) else SH)
          (if first (grid0.coords t) = 1#1 then k0_pay59 else SU))) :
    iprop(Phi m c n ∗ ins m c t)
      ⊢ wp frame (wpE (defs₀ (F := F)) Variants.none (c : Thread nD τ) none) Set.univ (bodyAt m t) (fun _ => iprop(Phi m c (n + 1) ∗ ins m c t)) := by
  unfold Phi ins
  iintro ⟨⟨%H, %S, %Q, %SC, %SH, %M, %SU, %hI, HT, HH, HS, HQ, HSC, HSH, HM, HSU, Hr⟩, I0, I1, I2, I3, Is⟩
  ihave I2 := (owns_pt c (stage_whole0 2 _) (bGA m c t)) $$ I2
  ihave I3 := (owns_pt c (stage_whole0 3 _) (bBE m c t)) $$ I3
  iapply (run_then _ (phase1 c (grid0.coords t) (Memref.whole main_arg1) (Memref.isWhole_whole _) (st m 0 t) (stage_whole0 0 _) (st m 1 t) (stage_whole0 1 _)
    (st m 2 t) (stage_whole0 2 _) (st m 3 t) (stage_whole0 3 _) (st m 4 t) (stage_whole0 4 _) (st m 5 t) (stage_whole0 5 _)
    (st m 6 t) (stage_whole0 6 _) (st m 7 t) (stage_whole0 7 _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    h1 h5 h7 fullShare.right (Tb m) (bGA m c t) (bBE m c t) H S Q SC SH SU))
  isplitl [HT I2 I3 HH HS HQ HSC HSH HSU]
  · isplitl [HT]; · iexact HT
    isplitl [I2]; · iexact I2
    isplitl [I3]; · iexact I3
    isplitl [HH]; · iexact HH
    isplitl [HS]; · iexact HS
    isplitl [HQ]; · iexact HQ
    isplitl [HSC]; · iexact HSC
    isplitl [HSH]; · iexact HSH
    iexact HSU
  iintro %_ ⟨HT, I2, I3, HH, HS, HQ, HSC, HSH, HSU⟩
  ihave I2 := (pt_owns c (stage_whole0 2 _) (bGA m c t)) $$ I2
  ihave I3 := (pt_owns c (stage_whole0 3 _) (bBE m c t)) $$ I3
  isplitr [I0 I1 I2 I3 Is]
  · iexists _, _, _, _, _, _, _
    isplitr; · ipureintro; exact hstep H S Q SC SH M SU hI
    isplitl [HT]; · iexact HT
    isplitl [HH]; · iexact HH
    isplitl [HS]; · iexact HS
    isplitl [HQ]; · iexact HQ
    isplitl [HSC]; · iexact HSC
    isplitl [HSH]; · iexact HSH
    isplitl [HM]; · iexact HM
    isplitl [HSU]; · iexact HSU
    iexact Hr
  isplitl [I0]; · iexact I0
  isplitl [I1]; · iexact I1
  isplitl [I2]; · iexact I2
  isplitl [I3]; · iexact I3
  iexact Is

/-- The last point. -/
theorem point_last (c : Dev nD) (d : Vec F S32x128 .f32) :
    iprop(Phi m c 3 ∗ ins m c t0_3 ∗ owns (c : Thread nD τ) (st m 7 t0_3) fullShare d)
      ⊢ wp frame (wpE (defs₀ (F := F)) Variants.none (c : Thread nD τ) none) Set.univ (bodyAt m t0_3)
          (fun _ => iprop(Phi m c 4 ∗ ins m c t0_3 ∗ owns (c : Thread nD τ) (st m 7 t0_3) fullShare (outK m c))) := by
  unfold Phi ins
  iintro ⟨⟨%H, %S, %Q, %SC, %SH, %M, %SU, %hI, HT, HH, HS, HQ, HSC, HSH, HM, HSU, Hr⟩, ⟨I0, I1, I2, I3, I4, I5, I6⟩, I7⟩
  have hI' : slab H (0 : Fin 2) = rows0 m c ∧ slab H (1 : Fin 2) = rows1 m c ∧ M = max1 m c ∧ SC = scl m c ∧ SH = shf m c ∧ SU = seg0 m c := hI
  obtain ⟨-, hH1, hM', hSC', hSH', hSU'⟩ := hI'
  rw [hM', hSC', hSH', hSU']
  ihave I4 := (owns_pt c (stage_whole0 4 _) (bWX m c t0_3)) $$ I4
  ihave I5 := (owns_pt c (stage_whole0 5 _) (bWN m c t0_3)) $$ I5
  ihave I6 := (owns_pt c (stage_whole0 6 _) (bBO m c t0_3)) $$ I6
  ihave I7 := (owns_pt c (stage_whole0 7 _) d) $$ I7
  iapply (run_then _ (phase1_last c (grid0.coords t0_3) (Memref.whole main_arg1) (Memref.isWhole_whole _) (st m 0 t0_3) (stage_whole0 0 _) (st m 1 t0_3) (stage_whole0 1 _)
    (st m 2 t0_3) (stage_whole0 2 _) (st m 3 t0_3) (stage_whole0 3 _) (st m 4 t0_3) (stage_whole0 4 _) (st m 5 t0_3) (stage_whole0 5 _)
    (st m 6 t0_3) (stage_whole0 6 _) (st m 7 t0_3) (stage_whole0 7 _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) (Memref.whole cc0_scratch5) (Memref.isWhole_whole _) (Memref.whole cc0_scratch6) (Memref.isWhole_whole _)
    (by decide) (by decide) (by decide) (by decide) fullShare.right (Tb m) (bWX m c t0_3) (bWN m c t0_3) (bBO m c t0_3) H (scl m c) (shf m c) (max1 m c) (seg0 m c) _))
  isplitl [HT I4 I5 I6 I7 HH HSC HSH HM HSU]
  · isplitl [HT]; · iexact HT
    isplitl [I4]; · iexact I4
    isplitl [I5]; · iexact I5
    isplitl [I6]; · iexact I6
    isplitl [I7]; · iexact I7
    isplitl [HH]; · iexact HH
    isplitl [HSC]; · iexact HSC
    isplitl [HSH]; · iexact HSH
    isplitl [HM]; · iexact HM
    iexact HSU
  iintro %_ ⟨HT, I4, I5, I6, I7, HH, HSC, HSH, HM, HSU⟩
  ihave I4 := (pt_owns c (stage_whole0 4 _) (bWX m c t0_3)) $$ I4
  ihave I5 := (pt_owns c (stage_whole0 5 _) (bWN m c t0_3)) $$ I5
  ihave I6 := (pt_owns c (stage_whole0 6 _) (bBO m c t0_3)) $$ I6
  ihave I7 := (pt_owns c (stage_whole0 7 _) _) $$ I7
  isplitr [I0 I1 I2 I3 I4 I5 I6 I7]
  · iexists H, S, Q, scl m c, shf m c, max1 m c, sumNext p3 (Tb m) (fun x => slab H (p3 1) (ix2 (x 1) (x 2))) (shf m c) (seg0 m c)
    isplitr; · ipureintro; exact True.intro
    isplitl [HT]; · iexact HT
    isplitl [HH]; · iexact HH
    isplitl [HS]; · iexact HS
    isplitl [HQ]; · iexact HQ
    isplitl [HSC]; · iexact HSC
    isplitl [HSH]; · iexact HSH
    isplitl [HM]; · iexact HM
    isplitl [HSU]; · iexact HSU
    iexact Hr
  isplitr [I7]
  · isplitl [I0]; · iexact I0
    isplitl [I1]; · iexact I1
    isplitl [I2]; · iexact I2
    isplitl [I3]; · iexact I3
    isplitl [I4]; · iexact I4
    isplitl [I5]; · iexact I5
    iexact I6
  rw [show outK m c = outVec (Tb m) (max1 m c) (sumNext p3 (Tb m) (fun x => slab H (p3 1) (ix2 (x 1) (x 2))) (shf m c) (seg0 m c)) (scl m c) (shf m c)
      (bWX m c t0_3) (bWN m c t0_3) (bBO m c t0_3) from by
    rw [show slab H (p3 1) = rows1 m c from hH1]; rfl]
  iexact I7

/-- The first point starts the running values. -/
theorem step0 (c : Dev nD) H S Q SC SH M SU (h : Inv m c 0 H S Q SC SH M SU) :
    Inv m c 1 (setSlab H (p0 1) (k0_pay18 (bX m c t0_0) (bW m c t0_0)))
        (k0_pay21 (if first p0 = 1#1 then k0_pay15 else S) (k0_pay20 (bX m c t0_0) (bW m c t0_0)))
        (k0_pay22 (k0_pay18 (bX m c t0_0) (bW m c t0_0)) (if first p0 = 1#1 then k0_pay16 else Q)) SC SH
        (maxNext p0 (Tb m) (k0_pay18 (bX m c t0_0) (bW m c t0_0)) (if first p0 = 1#1 then k0_pay17 else M)) SU := by
  rw [if_pos (by decide), if_pos (by decide), if_pos (by decide)]
  exact ⟨slab_setSlab H (0 : Fin 2) _, rfl, rfl, rfl⟩

/-- The second takes them on. -/
theorem step1 (c : Dev nD) H S Q SC SH M SU (h : Inv m c 1 H S Q SC SH M SU) :
    Inv m c 2 (setSlab H (p1 1) (k0_pay18 (bX m c t0_1) (bW m c t0_1)))
        (k0_pay21 (if first p1 = 1#1 then k0_pay15 else S) (k0_pay20 (bX m c t0_1) (bW m c t0_1)))
        (k0_pay22 (k0_pay18 (bX m c t0_1) (bW m c t0_1)) (if first p1 = 1#1 then k0_pay16 else Q)) SC SH
        (maxNext p1 (Tb m) (k0_pay18 (bX m c t0_1) (bW m c t0_1)) (if first p1 = 1#1 then k0_pay17 else M)) SU := by
  have h' : slab H (0 : Fin 2) = rows0 m c ∧ S = sum0 m c ∧ Q = sq0 m c ∧ M = max0 m c := h
  have e : ¬ first p1 = 1#1 := by decide
  rw [if_neg e, if_neg e, if_neg e, h'.2.1, h'.2.2.1, h'.2.2.2]
  exact ⟨(slab_setSlab_of_ne H (u := (0 : Fin 2)) (t := (1 : Fin 2)) (by decide) _).trans h'.1, slab_setSlab H (1 : Fin 2) _, rfl, rfl, rfl⟩

/-- The third sets the scale and the shift. -/
theorem step2 (c : Dev nD) H S Q SC SH M SU (h : Inv m c 2 H S Q SC SH M SU) :
      Inv m c 3 H S Q (if first p2 = 1#1 then k0_pay57 S Q (bGA m c t0_2) else SC)
        (if first p2 = 1#1 then k0_pay58 S Q (bGA m c t0_2) (bBE m c t0_2) else SH) M
        (sumNext p2 (Tb m) (fun x => slab H (p2 1) (ix2 (x 1) (x 2)))
          (if first p2 = 1#1 then k0_pay58 S Q (bGA m c t0_2) (bBE m c t0_2) else SH)
          (if first p2 = 1#1 then k0_pay59 else SU)) := by
  have h' : slab H (0 : Fin 2) = rows0 m c ∧ slab H (1 : Fin 2) = rows1 m c ∧ S = sum1 m c ∧ Q = sq1 m c ∧ M = max1 m c := h
  have e : first p2 = 1#1 := by decide
  rw [if_pos e, if_pos e, if_pos e, h'.2.2.1, h'.2.2.2.1, h'.2.2.2.2, show slab H (p2 1) = rows0 m c from h'.1]
  exact ⟨h'.1, h'.2.1, rfl, rfl, rfl, rfl⟩

/-- The output window is idle at every point but the last, and written back at the last alone. -/
theorem idle_at0 : idle0 7 (grid0.coords t0_0) = true := by decide
theorem idle_at1 : idle0 7 (grid0.coords t0_1) = true := by decide
theorem idle_at2 : idle0 7 (grid0.coords t0_2) = true := by decide
theorem idle_at3 : idle0 7 (grid0.coords t0_3) = false := by decide

/-- The output window's staging buffer after point `t`: the result at the last point, as it was at the others. -/
def out (c : Dev nD) (t : Fin grid0.N) : sProp 𝕄 :=
  match idle0 7 (grid0.coords t) with
  | true => iprop(∃ d, owns (c : Thread nD τ) (st m 7 t) fullShare ((dats m 0 c).before 7 t d))
  | false => owns (c : Thread nD τ) (st m 7 t) fullShare (outK m c)
theorem out_idle (c : Dev nD) (t : Fin grid0.N) (h : idle0 7 (grid0.coords t) = true) :
    out m c t = iprop(∃ d, owns (c : Thread nD τ) (st m 7 t) fullShare ((dats m 0 c).before 7 t d)) := by
  unfold out; rw [h]
theorem out_live (c : Dev nD) (t : Fin grid0.N) (h : idle0 7 (grid0.coords t) = false) :
    out m c t = owns (c : Thread nD τ) (st m 7 t) fullShare (outK m c) := by
  unfold out; rw [h]

set_option backward.isDefEq.respectTransparency.types false in
/-- The body meets its obligation at every point. -/
theorem body_obligation (c : Dev nD) : BodyObligationLoose (dats m 0 c) (defs₀ (F := F)) Variants.none () Set.univ := fun t => by
  rw [bigSep_W0, bigSep_W0]
  refine triple_restated (P := iprop(Phi m c t.val ∗ (dats m 0 c).owesAt () t.castSucc
      ∗ (∃ d, owns (c : Thread nD τ) (st m 0 t) fullShare ((dats m 0 c).before 0 t d)) ∗ (∃ d, owns (c : Thread nD τ) (st m 1 t) fullShare ((dats m 0 c).before 1 t d))
      ∗ (∃ d, owns (c : Thread nD τ) (st m 2 t) fullShare ((dats m 0 c).before 2 t d)) ∗ (∃ d, owns (c : Thread nD τ) (st m 3 t) fullShare ((dats m 0 c).before 3 t d))
      ∗ (∃ d, owns (c : Thread nD τ) (st m 4 t) fullShare ((dats m 0 c).before 4 t d)) ∗ (∃ d, owns (c : Thread nD τ) (st m 5 t) fullShare ((dats m 0 c).before 5 t d))
      ∗ (∃ d, owns (c : Thread nD τ) (st m 6 t) fullShare ((dats m 0 c).before 6 t d)) ∗ (∃ d, owns (c : Thread nD τ) (st m 7 t) fullShare ((dats m 0 c).before 7 t d))))
    (W := wp frame (wpE (defs₀ (F := F)) Variants.none (c : Thread nD τ) none) Set.univ (bodyAt m t))
    (Q := fun _ => iprop((Phi m c (t.val + 1) ∗ ins m c t) ∗ (dats m 0 c).owesAt () t.castSucc
      ∗ out m c t)) ?_ rfl .rfl fun _ => ?_
  · simp only [before0, before1, before2, before3, before4, before5, before6]
    iintro ⟨HP, HO, ⟨%_, I0⟩, ⟨%_, I1⟩, ⟨%_, I2⟩, ⟨%_, I3⟩, ⟨%_, I4⟩, ⟨%_, I5⟩, ⟨%_, I6⟩, ⟨%d, I7⟩⟩
    ihave I : ins m c t $$ [I0 I1 I2 I3 I4 I5 I6]
    · unfold ins
      isplitl [I0]; · iexact I0
      isplitl [I1]; · iexact I1
      isplitl [I2]; · iexact I2
      isplitl [I3]; · iexact I3
      isplitl [I4]; · iexact I4
      isplitl [I5]; · iexact I5
      iexact I6
    rcases fin_N0 t with rfl | rfl | rfl | rfl
    · iapply (run_then _ (point_first m c t0_0 0 (by decide) (by decide) (step0 m c)))
      isplitl [HP I]
      · isplitl [HP]; · iexact HP
        iexact I
      iintro %_ HPI
      isplitl [HPI]; · iexact HPI
      isplitl [HO]; · iexact HO
      rw [out_idle m c _ idle_at0]
      iexists d; iexact I7
    · iapply (run_then _ (point_first m c t0_1 1 (by decide) (by decide) (step1 m c)))
      isplitl [HP I]
      · isplitl [HP]; · iexact HP
        iexact I
      iintro %_ HPI
      isplitl [HPI]; · iexact HPI
      isplitl [HO]; · iexact HO
      rw [out_idle m c _ idle_at1]
      iexists d; iexact I7
    · iapply (run_then _ (point_second m c t0_2 2 (by decide) (by decide) (by decide) (step2 m c)))
      isplitl [HP I]
      · isplitl [HP]; · iexact HP
        iexact I
      iintro %_ HPI
      isplitl [HPI]; · iexact HPI
      isplitl [HO]; · iexact HO
      rw [out_idle m c _ idle_at2]
      iexists d; iexact I7
    · iapply (run_then _ (point_last m c _))
      isplitl [HP I I7]
      · isplitl [HP]; · iexact HP
        isplitl [I]; · iexact I
        iexact I7
      iintro %_ ⟨HP, I, I7⟩
      isplitl [HP I]
      · isplitl [HP]; · iexact HP
        iexact I
      isplitl [HO]; · iexact HO
      rw [out_live m c _ idle_at3]
      iexact I7
  · unfold ins
    iintro ⟨⟨HP, I0, I1, I2, I3, I4, I5, I6⟩, HO, I7⟩
    rw [show (dats m 0 c).Φ t.succ = Phi m c (t.val + 1) from rfl]
    isplitl [HP]; · iexact HP
    isplitl [HO]; · iexact HO
    isplitl [I0]; · iexact I0
    isplitl [I1]; · iexact I1
    isplitl [I2]; · iexact I2
    isplitl [I3]; · iexact I3
    isplitl [I4]; · iexact I4
    isplitl [I5]; · iexact I5
    isplitl [I6]; · iexact I6
    dsimp only
    rcases fin_N0 t with rfl | rfl | rfl | rfl
    · rw [show idle0 7 ((pcfg0.gridAt (tab m).1).coords t0_0) = true from idle_at0, out_idle m c _ idle_at0]
      exact .rfl
    · rw [show idle0 7 ((pcfg0.gridAt (tab m).1).coords t0_1) = true from idle_at1, out_idle m c _ idle_at1]
      exact .rfl
    · rw [show idle0 7 ((pcfg0.gridAt (tab m).1).coords t0_2) = true from idle_at2, out_idle m c _ idle_at2]
      exact .rfl
    · rw [show idle0 7 ((pcfg0.gridAt (tab m).1).coords t0_3) = false from idle_at3, out_live m c _ idle_at3]
      exact .rfl

end Cert.KernelIdeal.Body
-- ==== Proof.Run_KernelIdeal.lean ====
/-
  The run of the whole program.
-/
module

public import proofs.«01_k».proof.Proof.Launch_KernelIdeal
public import Idealize.ShloMosaic.Lib.Pipeline.ValueKit.Geometry
public import Idealize.ShloMosaic.Lib.Pipeline.FrameSuffix

@[expose] public section

noncomputable section

namespace Cert.KernelIdeal.Body

open Cert.KernelIdeal Cert.KernelIdeal.Gen Cert.KernelIdeal.Checks SegWords SegReads Idealize.ShloMosaic.ValueIdx

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UU nD τ) ℕ
variable (m : (ℓ : Loc nD τ sig) → Buf (Elt F) ℓ) (g : Dev nD → PrngReg)

/-- A buffer held at `f` is the whole of it held at the contents that read `f`. -/
theorem loc_pt (c : Dev nD) (q : PosShare TreeShare) (b : Ref sig .tc) (f : b.ty.Contents (Elt F)) :
    ((((c : Thread nD τ).loc b) ↦{q} f) : sProp 𝕄) ⊢ ptq c q (Memref.whole b) ((Memref.isWhole_whole b).unread f) := by
  rw [unread_whole]

/-- What the launch hands over is what the first point needs. -/
theorem start (c : Dev nD) :
    iprop(Pipeline.ΦA spec0 c ∗ Pipeline.ΦT pre0 (tab m).1 c) ⊢ Phi m c 0 := by
  unfold Pipeline.ΦA Pipeline.ΦT Pipeline.prefHeld Phi
  rw [scopedRest0_eq, show (Finset.univ : Finset (Fin pre0.K)) = {(0 : Fin 1)} from rfl, BI.bigSep_singleton]
  iintro ⟨⟨⟨⟨%H, HH⟩, ⟨%S, HS⟩, ⟨%Q, HQ⟩, ⟨%SC, HSC⟩, ⟨%SH, HSH⟩, ⟨%M, HM⟩, ⟨%SU, HSU⟩⟩, Hr⟩, HT⟩
  iexists H, S, Q, SC, SH, M, SU
  isplitr; · ipureintro; exact True.intro
  isplitl [HT]; · iapply (loc_pt c fullShare.right main_arg1 (Tb m)); iexact HT
  isplitl [HH]; · iapply (loc_pt c fullShare cc0_scratch0 H); iexact HH
  isplitl [HS]; · iapply (loc_pt c fullShare cc0_scratch1 S); iexact HS
  isplitl [HQ]; · iapply (loc_pt c fullShare cc0_scratch2 Q); iexact HQ
  isplitl [HSC]; · iapply (loc_pt c fullShare cc0_scratch3 SC); iexact HSC
  isplitl [HSH]; · iapply (loc_pt c fullShare cc0_scratch4 SH); iexact HSH
  isplitl [HM]; · iapply (loc_pt c fullShare cc0_scratch5 M); iexact HM
  isplitl [HSU]; · iapply (loc_pt c fullShare cc0_scratch6 SU); iexact HSU
  iexact Hr

/-- What the last point leaves is what the launch takes back. -/
theorem finish (c : Dev nD) : Phi m c 4 ⊢ Pipeline.ΦA spec0 c := by
  unfold Pipeline.ΦA Phi
  rw [scopedRest0_eq]
  iintro ⟨%H, %S, %Q, %SC, %SH, %M, %SU, -, -, HH, HS, HQ, HSC, HSH, HM, HSU, Hr⟩
  isplitr [Hr]
  · isplitl [HH]; · iexists _; iexact HH
    isplitl [HS]; · iexists _; iexact HS
    isplitl [HQ]; · iexists _; iexact HQ
    isplitl [HSC]; · iexists _; iexact HSC
    isplitl [HSH]; · iexists _; iexact HSH
    isplitl [HM]; · iexists _; iexact HM
    iexists _; iexact HSU
  iexact Hr

/-- The last host line reads and writes no table. -/
theorem tail_sub : ∀ ops ∈ [hostOps1 (F := F)], ∀ op ∈ ops, op.bufs ⊆ Pipeline.tailRefs sig pre0 spec0 := by
  intro ops ho op hp
  obtain rfl := List.mem_singleton.1 ho
  obtain rfl := List.mem_singleton.1 hp
  have h : ∀ k, (Proc.devRef .tc (pre0.ref k) : DevRef τ sig) ∉ ({Proc.devRef .tc main_v8, Proc.devRef .tc main_v9} : Finset (DevRef τ sig)) := by decide
  exact Pipeline.sub_tailRefs pre0 spec0 _ hostOps1_sub h

/-- It writes no window's array. -/
theorem tail_keep : ∀ ops ∈ [hostOps1 (F := F)], ∀ op ∈ ops, ∀ w, Proc.devRef .tc (Pipeline.arrRef spec0 w) ∉ op.writes := by
  intro ops ho op hp
  obtain rfl := List.mem_singleton.1 ho
  obtain rfl := List.mem_singleton.1 hp
  have h : ∀ w, (Proc.devRef .tc (Pipeline.arrRef spec0 w) : DevRef τ sig) ∉ ({Proc.devRef .tc main_v9} : Finset (DevRef τ sig)) := by decide
  exact h

theorem tail_fresh : ∀ ops ∈ [hostOps1 (F := F)], ∀ op ∈ ops, op.fresh = ∅ := by
  intro ops ho op hp
  obtain rfl := List.mem_singleton.1 ho
  obtain rfl := List.mem_singleton.1 hp
  rfl

/-- The host lines before the call leave the table as it was. -/
theorem V₀_table (c : Dev nD) : V₀ m c (Proc.devRef .tc main_arg1) = m ((c : Thread nD τ).loc main_arg1) := by
  simp only [V₀, List.flatten_cons, List.flatten_nil, List.append_nil]
  rw [StableHlo.after_of_forall_not_mem]
  intro op ho
  simp only [hostOps0, List.mem_cons, List.not_mem_nil, or_false] at ho
  rcases ho with rfl | rfl | rfl | rfl | rfl | rfl | rfl | rfl <;> exact fun hw => absurd (Finset.mem_singleton.1 hw) (by decide)

set_option backward.isDefEq.respectTransparency.types false in
/-- From any memory with zero counters every run ends, with the arrays at their final contents, every other buffer as the last host line leaves it, and zero counters. -/
theorem run_main :
    θ_run defs (onTc (τ := τ) (main (F := F))) ⟨m, fun _ => 0, g⟩
      (fun r => Pipeline.FramePost (Pipeline.pin pcfgs fun _ => tab m) (dats m) 0 (Pipeline.afterTail pcfgs (fun _ => tab m) (dats m) 0 (V₀ m) [hostOps1]) r
        ∧ r.2.sem = fun _ => 0) :=
  Pipeline.θ_run_frameP_around_track (Q' := _) pcfgs (fun _ => tab m) (dats m) (0 : Fin 1) launch0 defs₀ Variants.none m g main
    (hbody := body_obligation m) (hshare := fun c => (dats m 0 c).share_full fun _ => rfl)
    (howed := fun _ _ => rfl) (V₀ := V₀ m) (opss := [hostOps1])
    (hsub := tail_sub) (hfresh := tail_fresh) (hkeep := tail_keep)
    (hmain := Pipeline.hmainP_around pcfgs 0 defs₀ Variants.none m main [hostOps0] [hostOps1] hostOps0_sub ⟨rfl, rfl, rfl, rfl, rfl, rfl, rfl, rfl⟩ main_chain)
    (hA := A_eq m) (hpf := fun c k => by rw [Subsingleton.elim c 0]; rfl)
    (hin := start m) (hout := finish m)

variable {m}

/-- A buffer the host lines before the call do not write holds at the call what it held at the start. -/
theorem V₀_kept (m : (ℓ : Loc nD τ sig) → Buf (Elt F) ℓ) (c : Dev nD) (b : Ref sig .tc)
    (h : b ∉ ({main_v0, main_v1, main_v2, main_v3, main_v4, main_v5, main_v6, main_v7} : Finset (Ref sig .tc))) :
    V₀ m c (Proc.devRef .tc b) = m ((c : Thread nD τ).loc b) := by
  simp only [V₀, List.flatten_cons, List.flatten_nil, List.append_nil]
  rw [StableHlo.after_of_forall_not_mem]
  intro op ho
  simp only [Finset.mem_insert, Finset.mem_singleton, not_or] at h
  obtain ⟨h0, h1, h2, h3, h4, h5, h6, h7⟩ := h
  simp only [hostOps0, List.mem_cons, List.not_mem_nil, or_false] at ho
  rcases ho with rfl | rfl | rfl | rfl | rfl | rfl | rfl | rfl <;> exact fun hw => absurd (Proc.devRef_injective _ (Finset.mem_singleton.1 hw)) (by assumption)

/-- A buffer that is no window's array and no host line writes ends as it began. -/
theorem end_kept (m : (ℓ : Loc nD τ sig) → Buf (Elt F) ℓ) {r : PUnit × MemSt nD τ sig (Elt F)}
    (h : Pipeline.FramePost (Pipeline.pin pcfgs fun _ => tab m) (dats m) 0 (Pipeline.afterTail pcfgs (fun _ => tab m) (dats m) 0 (V₀ m) [hostOps1]) r) (c : Dev nD)
    (b : Ref sig .tc) (hb : b ∉ ({main_v0, main_v1, main_v2, main_v3, main_v4, main_v5, main_v6, main_v7} : Finset (Ref sig .tc))) (h9 : b ≠ main_v9)
    (ha : ∀ w, Pipeline.arrRef spec0 w ≠ b) (hr : b ∈ Pipeline.restRefs sig spec0) :
    r.2.mem ((c : Thread nD τ).loc b) = m ((c : Thread nD τ).loc b) := by
  rw [(h c).2 b hr]
  unfold Pipeline.afterTail
  rw [StableHlo.after_of_forall_not_mem _ _ (fun op ho hw => ?_), Pipeline.withArrays_of_ne _ c (V₀ m c) _ _ ha, V₀_kept m c b hb]
  obtain rfl := List.mem_singleton.1 ho
  exact h9 (Proc.devRef_injective _ (Finset.mem_singleton.1 hw))

/-- The arguments end as they began. -/
theorem end_args (m : (ℓ : Loc nD τ sig) → Buf (Elt F) ℓ) {r : PUnit × MemSt nD τ sig (Elt F)}
    (h : Pipeline.FramePost (Pipeline.pin pcfgs fun _ => tab m) (dats m) 0 (Pipeline.afterTail pcfgs (fun _ => tab m) (dats m) 0 (V₀ m) [hostOps1]) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) := by
  refine ⟨?_, end_kept m h c _ (by decide) (by decide) (by decide) (Pipeline.mem_restRefs_of _ (by decide) (by decide)),
    end_kept m h c _ (by decide) (by decide) (by decide) (Pipeline.mem_restRefs_of _ (by decide) (by decide)),
    end_kept m h c _ (by decide) (by decide) (by decide) (Pipeline.mem_restRefs_of _ (by decide) (by decide)),
    end_kept m h c _ (by decide) (by decide) (by decide) (Pipeline.mem_restRefs_of _ (by decide) (by decide)),
    end_kept m h c _ (by decide) (by decide) (by decide) (Pipeline.mem_restRefs_of _ (by decide) (by decide)),
    end_kept m h c _ (by decide) (by decide) (by decide) (Pipeline.mem_restRefs_of _ (by decide) (by decide)),
    end_kept m h c _ (by decide) (by decide) (by decide) (Pipeline.mem_restRefs_of _ (by decide) (by decide))⟩
  exact ((h c).1 0).trans (((dats m 0 c).arrAt_in 0 rfl _).trans ((A_eq m c 0).trans (V₀_kept m c main_arg0 (by decide))))

/-- The output array is written back once, whole, at the last point. -/
theorem whole_at (m : (ℓ : Loc nD τ sig) → Buf (Elt F) ℓ) : ((cfgT m).win 7).WholeAt t0_3 := by
  refine ⟨rfl, fun t h => ?_, fun a => ?_⟩
  · rcases fin_N0 t with rfl | rfl | rfl | rfl
    · exact absurd ((show ((cfgT m).win 7).flush t0_0 = false from rfl).symm.trans h) (by decide)
    · exact absurd ((show ((cfgT m).win 7).flush t0_1 = false from rfl).symm.trans h) (by decide)
    · exact absurd ((show ((cfgT m).win 7).flush t0_2 = false from rfl).symm.trans h) (by decide)
    · rfl
  · have h : ∀ a : Fin 2, a = 0 ∨ a = 1 := by decide
    rcases h a with rfl | rfl <;> exact ⟨rfl, rfl⟩

/-- The output array ends at the kernel's result. -/
theorem arr_out (m : (ℓ : Loc nD τ sig) → Buf (Elt F) ℓ) (c : Dev nD) : (dats m 0 c).arrAt 7 4 = outK m c :=
  (dats m 0 c).arrAt_eq_of_after_last 7 t0_3 (whole_at m) (outK m c) (fun j => rfl) (Memref.isWhole_whole _)

set_option backward.isDefEq.respectTransparency.types false in
/-- The result of the whole program: the first 17 rows of the kernel's result. -/
theorem end_out (m : (ℓ : Loc nD τ sig) → Buf (Elt F) ℓ) {r : PUnit × MemSt nD τ sig (Elt F)}
    (h : Pipeline.FramePost (Pipeline.pin pcfgs fun _ => tab m) (dats m) 0 (Pipeline.afterTail pcfgs (fun _ => tab m) (dats m) 0 (V₀ m) [hostOps1]) r) (c : Dev nD) :
    r.2.mem ((c : Thread nD τ).loc main_v9) = extractStridedSlice S17x128 ![0, 0] (outK m c) slices_S32x128_S17x128_0_0 := by
  have hr : main_v9 ∈ Pipeline.restRefs sig spec0 := Pipeline.mem_restRefs_of _ (by decide) (by decide)
  rw [(h c).2 main_v9 hr]
  have h8 : Pipeline.withArrays spec0 c (V₀ m c) (fun w => (dats m 0 c).arrAt w 4) (Proc.devRef .tc main_v8) = outK m c :=
    (Pipeline.withArrays_arr spec0 (launch0 (F := F)).win.arr_inj c (V₀ m c) (fun w => (dats m 0 c).arrAt w 4) 7).trans (arr_out m c)
  rw [← h8]
  unfold Pipeline.afterTail
  simp only [List.flatten_cons, List.flatten_nil, List.append_nil, hostOps1, StableHlo.after_cons, StableHlo.after_nil]
  exact StableHlo.unary_result main_v8 main_v9 ((extractStridedSlice S17x128 ![0, 0] · slices_S32x128_S17x128_0_0) : (⟨S32x128, .f32⟩ : BufTy).Contents (Elt F) → (⟨S17x128, .f32⟩ : BufTy).Contents (Elt F))
    _ _ (Pipeline.withArrays spec0 c (V₀ m c) (fun w => (dats m 0 c).arrAt w 4))

end Cert.KernelIdeal.Body
-- ==== Proof.Column.lean ====
/-
  One column of the normalised layer over the extended reals: the kernel's scale and shift, the
  reference's normalised and rectified values, and that a segment's maximum and mean agree.
-/
module

public import Idealize.ShloMosaic.PureOps.Ideal.Laws
public import Idealize.ShloMosaic.Lib.IdealHost

@[expose] public section

noncomputable section

namespace Column

open Idealize.ShloMosaic
open scoped BigOperators

/-- The kernel's word for `1 / 32768`. -/
abbrev cInv : EReal := Ideal.ofBits .f32 0x38000000#32
/-- The reference's word for `32768`. -/
abbrev cN : EReal := Ideal.ofBits .f32 0x47000000#32
/-- The word added to the variance. -/
abbrev cEps : EReal := Ideal.ofBits .f32 0x3727C5AC#32

theorem cInv_eq : cInv = ((1 / 32768 : ℝ) : EReal) := by
  simp [cInv, Ideal.ofBits, Ideal.ieee, -EReal.coe_mul]; norm_num

theorem cN_eq : cN = ((32768 : ℝ) : EReal) := by
  simp [cN, Ideal.ofBits, Ideal.ieee, -EReal.coe_mul]; norm_num

theorem cEps_eq : ∃ e : ℝ, 0 < e ∧ cEps = (e : EReal) := by
  refine ⟨_, ?_, by simp only [cEps, Ideal.ofBits, Ideal.ieee]; simp [-EReal.coe_mul]; rfl⟩
  positivity

theorem top_word : Ideal.ofBits .f32 0x7F800000#32 = ⊤ := by simp [Ideal.ofBits, Ideal.ieee]
theorem bot_word : Ideal.ofBits .f32 0xFF800000#32 = ⊥ := by simp [Ideal.ofBits, Ideal.ieee]

variable {ι : Type} [Fintype ι]

/-- The kernel's mean of a column. -/
def kMu (H : ι → EReal) : EReal := (∑ n, H n) * cInv
/-- The kernel's scale. -/
def kSc (H : ι → EReal) (g : EReal) : EReal := g * Ideal.rsqrt ((∑ n, H n * H n) * cInv - kMu H * kMu H + cEps)
/-- The kernel's shift. -/
def kSh (H : ι → EReal) (g be : EReal) : EReal := 0 - (Ideal.div be (kSc H g) - kMu H)

/-- The reference's mean of a column. -/
def rMu (Z : ι → EReal) : EReal := Ideal.div (0 + ∑ n, Z n) cN
/-- The reference's variance of a column. -/
def rVar (Z : ι → EReal) : EReal :=
  Scalar.select (Ideal.cmp .ogt (cN - (((0#32 : BitVec 32).toInt : ℝ) : EReal)) 0)
    (Ideal.div (0 + ∑ n, (Z n - rMu Z) * (Z n - rMu Z)) (cN - (((0#32 : BitVec 32).toInt : ℝ) : EReal)))
    (Ideal.ofBits .f32 0x7FC00000#32)
/-- The reference's normalised, scaled and rectified value. -/
def rY (Z : ι → EReal) (g be : EReal) (n : ι) : EReal :=
  max (Ideal.div (Z n - rMu Z) (Ideal.sqrt (rVar Z + cEps)) * g + be) 0

theorem coe_sum (s : Finset ι) (f : ι → ℝ) : (∑ n ∈ s, (f n : EReal)) = ((∑ n ∈ s, f n : ℝ) : EReal) := by
  classical
  induction s using Finset.induction_on with
  | empty => simp
  | insert a s ha ih => rw [Finset.sum_insert ha, Finset.sum_insert ha, ih, EReal.coe_add]

theorem sub_coe (a b : ℝ) : ((a : EReal) - (b : EReal)) = ((a - b : ℝ) : EReal) := rfl

theorem max_coe (a b : ℝ) : ((max a b : ℝ) : EReal) = max (a : EReal) b :=
  EReal.coe_strictMono.monotone.map_max

/-- The sum of squared deviations. -/
theorem dev_sum (h : ι → ℝ) (M K : ℝ) (hK : K ≠ 0) (hc : (Fintype.card ι : ℝ) = K) (hM : M = (∑ n, h n) * (1 / K)) :
    (∑ n, (h n - M) * (h n - M)) * (1 / K) = (∑ n, h n * h n) * (1 / K) - M * M := by
  have e : (∑ n, (h n - M) * (h n - M)) = (∑ n, h n * h n) - 2 * M * (∑ n, h n) + K * (M * M) := by
    rw [show (fun n => (h n - M) * (h n - M)) = fun n => h n * h n - 2 * M * h n + M * M from funext fun n => by ring]
    rw [Finset.sum_add_distrib, Finset.sum_sub_distrib, ← Finset.mul_sum, Finset.sum_const, Finset.card_univ, nsmul_eq_mul, hc]
  have s : (∑ n, h n) = M * K := by rw [hM]; field_simp
  rw [e, s]; field_simp; ring

/-- A column with real entries, real bias, positive real gain and real offset: the kernel's scale and shift are
    real, the scale positive, and the reference's values are the scale times how far the column is above the
    shift. -/
theorem column (h : ι → ℝ) (b g be : ℝ) (hg : 0 < g) (hc : (Fintype.card ι : ℝ) = 32768) :
    ∃ sc sh : ℝ, 0 < sc ∧ kSc (fun n => (h n : EReal)) g = sc ∧ kSh (fun n => (h n : EReal)) g be = sh
      ∧ ∀ n, rY (fun n => (h n : EReal) + b) g be n = ((sc * (max (h n) sh - sh) : ℝ) : EReal) := by
  obtain ⟨e, he, hE⟩ := cEps_eq
  set M : ℝ := (∑ n, h n) * (1 / 32768) with hM
  set v : ℝ := (∑ n, h n * h n) * (1 / 32768) - M * M with hv
  have hv0 : 0 ≤ v := by
    rw [hv, ← dev_sum h M 32768 (by norm_num) hc hM]
    exact mul_nonneg (Finset.sum_nonneg fun n _ => mul_self_nonneg _) (by norm_num)
  have hve : 0 < v + e := by linarith
  have hr : 0 < Real.sqrt (v + e) := Real.sqrt_pos.2 hve
  have kmu : kMu (fun n => (h n : EReal)) = (M : EReal) := by
    rw [kMu, cInv_eq, coe_sum, ← EReal.coe_mul]
  have ksc : kSc (fun n => (h n : EReal)) g = ((g * (Real.sqrt (v + e))⁻¹ : ℝ) : EReal) := by
    rw [kSc, kmu, cInv_eq, hE]
    rw [show (∑ n, (h n : EReal) * (h n : EReal)) = ((∑ n, h n * h n : ℝ) : EReal) from by
      rw [← coe_sum]; exact Finset.sum_congr rfl fun n _ => (EReal.coe_mul _ _).symm]
    rw [← EReal.coe_mul, ← EReal.coe_mul, sub_coe, ← EReal.coe_add, ← hv, Ideal.rsqrt_coe, if_neg (not_lt.2 hve.le), if_neg hve.ne',
      ← EReal.coe_mul]
  set sc : ℝ := g * (Real.sqrt (v + e))⁻¹ with hsc
  have hsc0 : 0 < sc := mul_pos hg (inv_pos.2 hr)
  refine ⟨sc, 0 - (be * (1 / sc) - M), hsc0, ksc, ?_, fun n => ?_⟩
  · rw [kSh, ksc, kmu, Ideal.div_coe hsc0.ne', ← EReal.coe_mul, sub_coe, ← EReal.coe_zero, sub_coe]
  · have sumz : (∑ n, ((h n : EReal) + b)) = ((∑ n, (h n + b) : ℝ) : EReal) := by
      rw [← coe_sum]; exact Finset.sum_congr rfl fun n _ => (EReal.coe_add _ _).symm
    have rmu : rMu (fun n => (h n : EReal) + b) = ((M + b : ℝ) : EReal) := by
      rw [rMu, cN_eq, Ideal.div_coe (by norm_num), zero_add, sumz, ← EReal.coe_mul]
      congr 1
      rw [Finset.sum_add_distrib, Finset.sum_const, Finset.card_univ, nsmul_eq_mul, hc, hM]; ring
    have dif : ∀ n, ((h n : EReal) + b) - ((M + b : ℝ) : EReal) = ((h n - M : ℝ) : EReal) := fun n => by
      rw [← EReal.coe_add, sub_coe]; congr 1; ring
    have rvar : rVar (fun n => (h n : EReal) + b) = (v : EReal) := by
      have z : (((0#32 : BitVec 32).toInt : ℝ) : EReal) = ((0 : ℝ) : EReal) := by simp
      rw [rVar, rmu, z, cN_eq, sub_coe, sub_zero]
      rw [show Ideal.cmp .ogt ((32768 : ℝ) : EReal) 0 = 1#1 from by
        unfold Ideal.cmp
        rw [show decide ((0 : EReal) < ((32768 : ℝ) : EReal)) = true from decide_eq_true (by norm_num)]; rfl]
      show Ideal.div _ _ = _
      rw [Ideal.div_coe (by norm_num), zero_add]
      rw [show (∑ n, (((h n : EReal) + b) - ((M + b : ℝ) : EReal)) * (((h n : EReal) + b) - ((M + b : ℝ) : EReal)))
          = ((∑ n, (h n - M) * (h n - M) : ℝ) : EReal) from by
        rw [← coe_sum]; exact Finset.sum_congr rfl fun n _ => by rw [dif n, ← EReal.coe_mul]]
      rw [← EReal.coe_mul, dev_sum h M 32768 (by norm_num) hc hM]
    rw [rY, rmu, rvar, dif n, hE, ← EReal.coe_add, Ideal.sqrt_coe, if_neg (not_lt.2 hve.le), Ideal.div_coe hr.ne', ← EReal.coe_mul, ← EReal.coe_mul,
      ← EReal.coe_add, ← EReal.coe_zero, ← max_coe]
    congr 1
    have e1 : (h n - M) * (1 / Real.sqrt (v + e)) * g + be = sc * (h n - (0 - (be * (1 / sc) - M))) := by
      have : sc * (be * (1 / sc)) = be := by field_simp
      have e2 : sc * (h n - (0 - (be * (1 / sc) - M))) = sc * (h n - M) + sc * (be * (1 / sc)) := by ring
      rw [e2, this, hsc]; ring
    rw [e1, max_sub_sub_right' sc _ _ hsc0]
where
  max_sub_sub_right' (sc x y : ℝ) (h : 0 < sc) : max (sc * (x - y)) 0 = sc * (max x y - y) := by
    rcases le_total x y with hxy | hxy
    · rw [max_eq_right hxy, sub_self, mul_zero, max_eq_right]
      exact mul_nonpos_of_nonneg_of_nonpos h.le (by linarith)
    · rw [max_eq_left hxy, max_eq_left]
      exact mul_nonneg h.le (by linarith)

/-- What the kernel makes of a segment's maximum. -/
def kMax (cnt sc sh m : EReal) : EReal := Scalar.select (Ideal.cmp .ogt cnt 0) (sc * max (m - sh) 0) 0
/-- What the reference makes of it: zero if it is not finite. -/
def rMax (m : EReal) : EReal := Scalar.select (Ideal.cmp .olt (max m (-m)) ⊤) m 0
/-- What the kernel makes of a segment's sum. -/
def kMean (cnt sc sh s : EReal) : EReal := Ideal.div ((s - cnt * sh) * sc) (max cnt 1)

/-- A segment's maximum. -/
theorem seg_max (S : Finset ι) (h : ι → ℝ) (sc sh : ℝ) (hsc : 0 < sc) :
    kMax ((S.card : ℝ) : EReal) sc sh (S.sup fun n => (h n : EReal))
      = rMax (S.sup fun n => ((sc * (max (h n) sh - sh) : ℝ) : EReal)) := by
  unfold kMax rMax Ideal.cmp
  rcases S.eq_empty_or_nonempty with rfl | hS
  · simp [Scalar.select]
  · obtain ⟨k, hk, hmax⟩ := S.exists_max_image h hS
    have e1 : (S.sup fun n => (h n : EReal)) = (h k : EReal) :=
      le_antisymm (Finset.sup_le fun n hn => EReal.coe_le_coe_iff.2 (hmax n hn)) (Finset.le_sup (f := fun n => (h n : EReal)) hk)
    have e2 : (S.sup fun n => ((sc * (max (h n) sh - sh) : ℝ) : EReal)) = ((sc * (max (h k) sh - sh) : ℝ) : EReal) :=
      le_antisymm (Finset.sup_le fun n hn => EReal.coe_le_coe_iff.2
        (mul_le_mul_of_nonneg_left (sub_le_sub_right (max_le_max_right _ (hmax n hn)) _) hsc.le))
        (Finset.le_sup (f := fun n => ((sc * (max (h n) sh - sh) : ℝ) : EReal)) hk)
    rw [e1, e2]
    have c0 : (0 : EReal) < ((S.card : ℝ) : EReal) := by
      rw [← EReal.coe_zero]; exact EReal.coe_lt_coe_iff.2 (by exact_mod_cast hS.card_pos)
    have c1 : max ((sc * (max (h k) sh - sh) : ℝ) : EReal) (-((sc * (max (h k) sh - sh) : ℝ) : EReal)) < ⊤ := by
      rw [← EReal.coe_neg, ← max_coe]; exact EReal.coe_lt_top _
    simp only [c0, c1, decide_true]
    show _ = _
    simp only [Scalar.select, BitVec.ofBool_true, if_true]
    rw [sub_coe, ← EReal.coe_zero, ← max_coe, ← EReal.coe_mul]
    congr 1
    rcases le_total (h k) sh with hxy | hxy
    · rw [max_eq_right hxy, max_eq_right (by linarith)]; ring
    · rw [max_eq_left hxy, max_eq_left (by linarith)]

/-- A segment's mean. -/
theorem seg_mean (S : Finset ι) (h : ι → ℝ) (sc sh : ℝ) :
    kMean ((S.card : ℝ) : EReal) sc sh (∑ n ∈ S, max (h n : EReal) sh)
      = Ideal.div (0 + ∑ n ∈ S, ((sc * (max (h n) sh - sh) : ℝ) : EReal)) (max ((S.card : ℝ) : EReal) 1) := by
  unfold kMean
  congr 1
  rw [zero_add, coe_sum, show (∑ n ∈ S, max (h n : EReal) sh) = ((∑ n ∈ S, max (h n) sh : ℝ) : EReal) from by
    rw [← coe_sum]; exact Finset.sum_congr rfl fun n _ => (max_coe _ _).symm]
  rw [← EReal.coe_mul, sub_coe, ← EReal.coe_mul]
  congr 1
  rw [← Finset.mul_sum, Finset.sum_sub_distrib, Finset.sum_const, nsmul_eq_mul]; ring

end Column

end
-- ==== Proof.Layout.lean ====
/-
  Reading the layout operations the kernel uses at an index: halves added or compared, columns
  summed or compared, a column repeated along the rows.
-/
module

public import proofs.«01_k».proof.Proof.Column
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace SegLayout

open Idealize.ShloMosaic Idealize.ShloMosaic.ValueIdx
open scoped BigOperators

/-- The two halves of the leading axis, added, have the whole array's sum along it. -/
theorem halve_add {m b c : ℕ} (M : ℕ) (hM : M = m + m) (X : FVec Ideal ⟨3, ![M, b, c]⟩ .f32)
    (h0 : (⟨3, ![M, b, c]⟩ : Shape).Slices ![0, 0, 0] ⟨3, ![m, b, c]⟩) (h1 : (⟨3, ![M, b, c]⟩ : Shape).Slices ![m, 0, 0] ⟨3, ![m, b, c]⟩)
    (r : Fin b) (j : Fin c) :
    (∑ q : Fin m, addf (extractStridedSlice ⟨3, ![m, b, c]⟩ ![0, 0, 0] X h0) (extractStridedSlice ⟨3, ![m, b, c]⟩ ![m, 0, 0] X h1) (ix3 q r j))
      = ∑ q : Fin M, X (ix3 q r j) := by
  subst hM
  rw [Fin.sum_univ_add, ← Finset.sum_add_distrib]
  refine Finset.sum_congr rfl fun q _ => ?_
  rw [addf_apply]
  congr 1
  · exact extractStridedSlice_apply _ _ _ _ (ix3 (Fin.castAdd m q) r j) fun ax => by
      match ax with | ⟨0, _⟩ => exact (Nat.zero_add _).symm | ⟨1, _⟩ => exact (Nat.zero_add _).symm | ⟨2, _⟩ => exact (Nat.zero_add _).symm
  · exact extractStridedSlice_apply _ _ _ _ (ix3 (Fin.natAdd m q) r j) fun ax => by
      match ax with | ⟨0, _⟩ => rfl | ⟨1, _⟩ => exact (Nat.zero_add _).symm | ⟨2, _⟩ => exact (Nat.zero_add _).symm

/-- The two halves of the second axis, compared: bounded by `x` exactly where the whole array is. -/
theorem halve_max {m a b c : ℕ} (M : ℕ) (hM : M = m + m) (X : FVec Ideal ⟨4, ![a, M, b, c]⟩ .f32)
    (h0 : (⟨4, ![a, M, b, c]⟩ : Shape).Slices ![0, 0, 0, 0] ⟨4, ![a, m, b, c]⟩)
    (h1 : (⟨4, ![a, M, b, c]⟩ : Shape).Slices ![0, m, 0, 0] ⟨4, ![a, m, b, c]⟩)
    (g : Fin a) (r : Fin b) (j : Fin c) (x : EReal) :
    (∀ q : Fin m, maximumf (extractStridedSlice ⟨4, ![a, m, b, c]⟩ ![0, 0, 0, 0] X h0) (extractStridedSlice ⟨4, ![a, m, b, c]⟩ ![0, m, 0, 0] X h1) (ix4 g q r j) ≤ x)
      ↔ ∀ q : Fin M, X (ix4 g q r j) ≤ x := by
  subst hM
  have e0 : ∀ q : Fin m, extractStridedSlice ⟨4, ![a, m, b, c]⟩ ![0, 0, 0, 0] X h0 (ix4 g q r j) = X (ix4 g (Fin.castAdd m q) r j) := fun q =>
    slice4_axis1_apply 0 X h0 g q r j _ (Nat.zero_add _).symm
  have e1 : ∀ q : Fin m, extractStridedSlice ⟨4, ![a, m, b, c]⟩ ![0, m, 0, 0] X h1 (ix4 g q r j) = X (ix4 g (Fin.natAdd m q) r j) := fun q =>
    slice4_axis1_apply m X h1 g q r j _ rfl
  simp only [maximumf_apply, e0, e1]
  constructor
  · intro h q
    refine Fin.addCases (fun q => ?_) (fun q => ?_) q
    · exact (max_le_iff.1 (h q)).1
    · exact (max_le_iff.1 (h q)).2
  · exact fun h q => max_le (h _) (h _)

/-- A fold of maxima from the least value is bounded exactly where all its terms are. -/
theorem fold_max_le {ι : Type} (s : Finset ι) (f : ι → EReal) (x : EReal) : s.fold max ⊥ f ≤ x ↔ ∀ i ∈ s, f i ≤ x := by
  rw [Finset.fold_max_le]; exact ⟨fun h => h.2, fun h => ⟨bot_le, h⟩⟩

/-- A column's maximum. -/
theorem colMax_le {a b : ℕ} (X : FVec Ideal ⟨2, ![a, b]⟩ .f32) (h : (⟨2, ![a, b]⟩ : Shape).Reduces [0] ⟨1, ![b]⟩)
    (hφ) (hacc) (j : Fin b) (x : EReal) :
    multiReduction .maximumf [0] ⟨1, ![b]⟩ X 0xFF800000#32 h hφ hacc (ix1 j) ≤ x ↔ ∀ r : Fin a, X (ix2 r j) ≤ x := by
  rw [Ideal.multiReduction_maximumf_single]
  show Finset.fold max (Ideal.ofBits .f32 0xFF800000#32) _ _ ≤ x ↔ _
  rw [Column.bot_word, fold_max_le]
  have e : ∀ r : Fin a, h.lift (ix1 j) r = ix2 r j := fun r => by
    funext d; match d with | ⟨0, _⟩ => rfl | ⟨1, _⟩ => rfl
  exact ⟨fun H r => (congrArg X (e r)).symm.le.trans (H r (Finset.mem_univ _)), fun H r _ => (congrArg X (e r)).le.trans (H r)⟩

/-- The maximum along the middle axis of three. -/
theorem midMax_le {a m b : ℕ} (X : FVec Ideal ⟨3, ![a, m, b]⟩ .f32) (h : (⟨3, ![a, m, b]⟩ : Shape).Reduces [1] ⟨2, ![a, b]⟩)
    (hφ) (hacc) (g : Fin a) (j : Fin b) (x : EReal) :
    multiReduction .maximumf [1] ⟨2, ![a, b]⟩ X 0xFF800000#32 h hφ hacc (ix2 g j) ≤ x ↔ ∀ r : Fin m, X (ix3 g r j) ≤ x := by
  rw [Ideal.multiReduction_maximumf_single]
  show Finset.fold max (Ideal.ofBits .f32 0xFF800000#32) _ _ ≤ x ↔ _
  rw [Column.bot_word, fold_max_le]
  have e : ∀ r : Fin m, h.lift (ix2 g j) r = ix3 g r j := fun r => by
    funext d; match d with | ⟨0, _⟩ => rfl | ⟨1, _⟩ => rfl | ⟨2, _⟩ => rfl
  exact ⟨fun H r => (congrArg X (e r)).symm.le.trans (H r (Finset.mem_univ _)), fun H r _ => (congrArg X (e r)).le.trans (H r)⟩

/-- A column's sum. -/
theorem colSum {a b : ℕ} (X : FVec Ideal ⟨2, ![a, b]⟩ .f32) (h : (⟨2, ![a, b]⟩ : Shape).Reduces [0] ⟨1, ![b]⟩)
    (hφ) (hacc) (j : Fin b) :
    multiReduction .add [0] ⟨1, ![b]⟩ X 0x00000000#32 h hφ hacc (ix1 j) = ∑ r : Fin a, X (ix2 r j) := by
  rw [Ideal.multiReduction_add_single]
  refine Finset.sum_congr rfl fun r _ => congrArg X ?_
  funext d; match d with | ⟨0, _⟩ => rfl | ⟨1, _⟩ => rfl

/-- A column repeated along the rows. -/
theorem bcastCol {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Rows regrouped: `K` groups of `R` rows are all the rows. -/
theorem sum_groups {K R N : ℕ} (hN : N = K * R) (f : Fin N → EReal) :
    (∑ r : Fin R, ∑ q : Fin K, f ⟨q.val * R + r.val, by
        subst hN; have := q.isLt; have := r.isLt
        calc q.val * R + r.val < q.val * R + R := by omega
          _ = (q.val + 1) * R := by ring
          _ ≤ K * R := Nat.mul_le_mul_right _ (by omega)⟩) = ∑ n, f n := by
  subst hN
  rw [Finset.sum_comm, ← Fintype.sum_prod_type' (f := fun q r => f _), ← Equiv.sum_comp finProdFinEquiv f]
  refine Finset.sum_congr rfl fun p _ => congrArg f (Fin.ext ?_)
  show p.1.val * R + p.2.val = p.2.val + R * p.1.val
  ring

/-- A matrix product with nothing added. -/
theorem plain_zero {M K N : ℕ} (lhs : FVec Ideal ⟨2, ![M, K]⟩ .f32) (rhs : FVec Ideal ⟨2, ![K, N]⟩ .f32) (r : Fin M) (c : Fin N) :
    FloatOps.matmul (F := Ideal) (DotDims.plain M K N) none lhs rhs (constant ⟨2, ![M, N]⟩ .f32 0x00000000#32) (ix2 r c)
      = ∑ k : Fin K, lhs (ix2 r k) * rhs (ix2 k c) :=
  (Ideal.matmul_plain_apply none lhs rhs _ r c).trans ((congrArg (· + _) Ideal.ofBits_zero_f32).trans (zero_add _))

/-- A choice made by a decided condition. -/
theorem sel_dec {α : Type} (p : Prop) [Decidable p] (a b : α) : Scalar.select (BitVec.ofBool (decide p)) a b = if p then a else b := by
  by_cases h : p <;> simp [h, Scalar.select]

end SegLayout

end
-- ==== Proof.Sums.lean ====
/-
  The rows, their sums, and the scale and the shift, read at an index.
-/
module

public import proofs.«01_k».proof.Proof.Layout
public import proofs.«01_k».proof.Proof.Points_KernelIdeal

@[expose] public section

noncomputable section

namespace Cert.KernelIdeal.Body

open Cert.KernelIdeal Cert.KernelIdeal.Gen SegReads SegLayout Idealize.ShloMosaic.ValueIdx
open Idealize.ShloMosaic
open scoped BigOperators

/-- A tile's rows after the first linear map. -/
theorem pay18_apply (X : Vec Ideal S16384x128 .f32) (W : Vec Ideal S128x128 .f32) (r : Fin 16384) (j : Fin 128) :
    k0_pay18 (F := Ideal) X W (ix2 r j) = ∑ k : Fin 128, X (ix2 r k) * W (ix2 k j) := by
  unfold k0_pay18
  rw [shapeCast_self]
  exact plain_zero X W r j

/-- The two halves of the leading axis added. -/
def half (M m : ℕ) (X : FVec Ideal ⟨3, ![M, 8, 128]⟩ .f32) (h0 : (⟨3, ![M, 8, 128]⟩ : Shape).Slices ![0, 0, 0] ⟨3, ![m, 8, 128]⟩)
    (h1 : (⟨3, ![M, 8, 128]⟩ : Shape).Slices ![m, 0, 0] ⟨3, ![m, 8, 128]⟩) : FVec Ideal ⟨3, ![m, 8, 128]⟩ .f32 :=
  addf (extractStridedSlice ⟨3, ![m, 8, 128]⟩ ![0, 0, 0] X h0) (extractStridedSlice ⟨3, ![m, 8, 128]⟩ ![m, 0, 0] X h1)

/-- The rows of a tile added in groups of eight. -/
def halves (Y : FVec Ideal S16384x128 .f32) : FVec Ideal S8x128 .f32 :=
  shapeCast S8x128 (half 2 1 (half 4 2 (half 8 4 (half 16 8 (half 32 16 (half 64 32 (half 128 64 (half 256 128 (half 512 256 (half 1024 512
    (half 2048 1024 (shapeCast S2048x8x128 Y shapeCasts_S16384x128_S2048x8x128) (by decide) (by decide)) (by decide) (by decide)) (by decide) (by decide))
    (by decide) (by decide)) (by decide) (by decide)) (by decide) (by decide)) (by decide) (by decide)) (by decide) (by decide)) (by decide) (by decide))
    (by decide) (by decide)) (by decide) (by decide)) shapeCasts_S1x8x128_S8x128

theorem halves_apply (Y : FVec Ideal S16384x128 .f32) (r : Fin 8) (j : Fin 128) :
    halves Y (ix2 r j) = ∑ q : Fin 2048, Y (ix2 ⟨q.val * 8 + r.val, by omega⟩ j) := by
  have cast1 : ∀ (X : FVec Ideal S1x8x128 .f32), shapeCast S8x128 X shapeCasts_S1x8x128_S8x128 (ix2 r j) = ∑ q : Fin 1, X (ix3 q r j) := fun X => by
    rw [Fin.sum_univ_one]; exact shapeCast_1ab_ab_apply X _ r j
  have hv : ∀ (M m : ℕ) (hM : M = m + m) (X : FVec Ideal ⟨3, ![M, 8, 128]⟩ .f32) h0 h1, (∑ q : Fin m, half M m X h0 h1 (ix3 q r j)) = ∑ q : Fin M, X (ix3 q r j) :=
    fun M m hM X h0 h1 => halve_add M hM X h0 h1 r j
  unfold halves
  rw [cast1, hv 2 1 rfl, hv 4 2 rfl, hv 8 4 rfl, hv 16 8 rfl, hv 32 16 rfl, hv 64 32 rfl, hv 128 64 rfl, hv 256 128 rfl, hv 512 256 rfl,
    hv 1024 512 rfl, hv 2048 1024 rfl]
  refine Finset.sum_congr rfl fun q _ => ?_
  refine shapeCast_apply _ _ _ _ ?_
  rw [Shape.rowMajor_val_three, Shape.rowMajor_val_two]
  rfl

theorem pay20_eq (X : Vec Ideal S16384x128 .f32) (W : Vec Ideal S128x128 .f32) : k0_pay20 (F := Ideal) X W = halves (k0_pay18 X W) := rfl
theorem pay21_eq (A B : Vec Ideal S8x128 .f32) : k0_pay21 (F := Ideal) A B = addf A B := shapeCast_self _ _
theorem pay22_eq (Y : FVec Ideal S16384x128 .f32) (A : Vec Ideal S8x128 .f32) :
    k0_pay22 (F := Ideal) Y A = addf A (halves (mulf Y Y)) := (shapeCast_self _ _).trans rfl

theorem pay15_apply (i : S8x128.Idx) : k0_pay15 (F := Ideal) i = 0 := Ideal.ofBits_zero_f32
theorem pay16_apply (i : S8x128.Idx) : k0_pay16 (F := Ideal) i = 0 := Ideal.ofBits_zero_f32
theorem pay17_apply (i : S32x128.Idx) : k0_pay17 (F := Ideal) i = ⊥ := Column.bot_word
theorem pay59_apply (i : S32x128.Idx) : k0_pay59 (F := Ideal) i = 0 := Ideal.ofBits_zero_f32

/-- The mean, the scale and the shift of column `j`, from the groups' sums. -/
theorem pay55_apply (S : Vec Ideal S8x128 .f32) (j : Fin 128) :
    k0_pay55 (F := Ideal) S (ix2 0 j) = (∑ r : Fin 8, S (ix2 r j)) * Column.cInv := by
  unfold k0_pay55
  exact congrArg (· * Column.cInv) ((shapeCast_a_1a_apply _ _ 0 j).trans (colSum S _ _ _ j))

theorem pay57_apply (S Q : Vec Ideal S8x128 .f32) (G : Vec Ideal S1x128 .f32) (j : Fin 128) :
    k0_pay57 (F := Ideal) S Q G (ix2 0 j) = G (ix2 0 j) * Ideal.rsqrt ((∑ r : Fin 8, Q (ix2 r j)) * Column.cInv
      - ((∑ r : Fin 8, S (ix2 r j)) * Column.cInv) * ((∑ r : Fin 8, S (ix2 r j)) * Column.cInv) + Column.cEps) := by
  unfold k0_pay57 k0_pay56
  rw [shapeCast_self, shapeCast_self]
  show G (ix2 0 j) * Ideal.rsqrt (k0_pay55 (F := Ideal) Q (ix2 0 j) - k0_pay55 (F := Ideal) S (ix2 0 j) * k0_pay55 (F := Ideal) S (ix2 0 j) + Column.cEps) = _
  rw [pay55_apply, pay55_apply]

theorem pay58_apply (S Q : Vec Ideal S8x128 .f32) (G B : Vec Ideal S1x128 .f32) (j : Fin 128) :
    k0_pay58 (F := Ideal) S Q G B (ix2 0 j) = 0 - (Ideal.div (B (ix2 0 j)) (k0_pay57 (F := Ideal) S Q G (ix2 0 j))
      - (∑ r : Fin 8, S (ix2 r j)) * Column.cInv) := by
  rw [← pay55_apply]
  unfold k0_pay58 k0_pay57
  simp only [shapeCast_self]
  exact congrArg (· - _) Ideal.ofBits_zero_f32

/-! ## All the rows -/

/-- The two tiles' rows, as one array. -/
def allRows (A B : FVec Ideal S16384x128 .f32) (n : Fin 32768) (j : Fin 128) : EReal :=
  if h : n.val < 16384 then A (ix2 ⟨n.val, h⟩ j) else B (ix2 ⟨n.val - 16384, by omega⟩ j)

theorem sum_tiles (f : Fin 32768 → EReal) :
    (∑ n, f n) = (∑ r : Fin 16384, f ⟨r.val, by omega⟩) + ∑ r : Fin 16384, f ⟨16384 + r.val, by omega⟩ :=
  Fin.sum_univ_add (a := 16384) (b := 16384) f

theorem sum_halves (Y : FVec Ideal S16384x128 .f32) (j : Fin 128) : (∑ r : Fin 8, halves Y (ix2 r j)) = ∑ r : Fin 16384, Y (ix2 r j) := by
  simp only [halves_apply]
  exact sum_groups (K := 2048) (R := 8) (N := 16384) rfl (fun n => Y (ix2 n j))

theorem allRows_lo (A B : FVec Ideal S16384x128 .f32) (r : Fin 16384) (j : Fin 128) : allRows A B ⟨r.val, by omega⟩ j = A (ix2 r j) := by
  unfold allRows; rw [dif_pos r.isLt]

theorem allRows_hi (A B : FVec Ideal S16384x128 .f32) (r : Fin 16384) (j : Fin 128) : allRows A B ⟨16384 + r.val, by omega⟩ j = B (ix2 r j) := by
  unfold allRows
  rw [dif_neg (by show ¬ 16384 + r.val < 16384; omega)]
  exact congrArg (fun r => B (ix2 r j)) (Fin.ext (by show 16384 + r.val - 16384 = r.val; omega))

variable (m : (ℓ : Loc nD τ sig) → Buf (Elt Ideal) ℓ)

/-- The rows of both tiles. -/
abbrev hh (c : Dev nD) : Fin 32768 → Fin 128 → EReal := allRows (rows0 m c) (rows1 m c)

theorem sum1_sum (c : Dev nD) (j : Fin 128) : (∑ r : Fin 8, sum1 m c (ix2 r j)) = ∑ n, hh m c n j := by
  unfold sum1 sum0
  rw [pay21_eq, pay21_eq, pay20_eq, pay20_eq]
  simp only [addf_apply, pay15_apply, zero_add]
  rw [Finset.sum_add_distrib, sum_halves, sum_halves, sum_tiles]
  simp only [allRows_lo, allRows_hi]
  rfl

theorem sq1_sum (c : Dev nD) (j : Fin 128) : (∑ r : Fin 8, sq1 m c (ix2 r j)) = ∑ n, hh m c n j * hh m c n j := by
  unfold sq1 sq0
  rw [pay22_eq, pay22_eq]
  simp only [addf_apply, pay16_apply, zero_add]
  rw [Finset.sum_add_distrib, sum_halves, sum_halves, sum_tiles]
  simp only [allRows_lo, allRows_hi]
  rfl

/-- The scale, -/
theorem scl_apply (c : Dev nD) (j : Fin 128) :
    scl m c (ix2 0 j) = Column.kSc (fun n => hh m c n j) (bGA m c t0_2 (ix2 0 j)) := by
  unfold scl Column.kSc Column.kMu
  rw [pay57_apply, sum1_sum, sq1_sum]

/-- and the shift. -/
theorem shf_apply (c : Dev nD) (j : Fin 128) :
    shf m c (ix2 0 j) = Column.kSh (fun n => hh m c n j) (bGA m c t0_2 (ix2 0 j)) (bBE m c t0_2 (ix2 0 j)) := by
  have e := scl_apply m c j
  unfold scl at e
  unfold shf Column.kSh
  rw [pay58_apply, e, sum1_sum]; rfl

end Cert.KernelIdeal.Body

end
-- ==== Proof.Segments.lean ====
/-
  The segments a sorted table of offsets cuts the rows into, as numbers, and the words the kernel
  computes from them.
-/
module

public import proofs.«01_k».proof.Proof.Words
public import proofs.«01_k».proof.Proof.Reads
public import Idealize.ShloMosaic.Lib.Affine

@[expose] public section

noncomputable section

namespace SegTable

open Idealize.ShloMosaic SegWords SegReads
open scoped BigOperators

variable (T : (⟨1, ![16]⟩ : Shape).Idx → BitVec 32)

/-- The table is sorted and its entries are row numbers. -/
structure Sorted : Prop where
  lt : ∀ k, k < 16 → (word T k).toNat < 32768
  mono : ∀ j k, j ≤ k → k < 16 → (word T j).toNat ≤ (word T k).toNat

/-- The first row of segment `s`. -/
def st (s : ℕ) : ℕ := if s = 0 then 0 else (word T (s - 1)).toNat
/-- The row after the last of segment `s`. -/
def en (s : ℕ) : ℕ := if s = 16 then 32768 else (word T s).toNat
/-- How many table entries are at most `v`: the segment of row `v`. -/
def cnt (v : ℕ) : ℕ := ((Finset.range 16).filter fun k => (word T k).toNat ≤ v).card

variable {T}

theorem cnt_le (v : ℕ) : cnt T v ≤ 16 := (Finset.card_filter_le _ _).trans (by simp)

theorem lt_cnt_iff (h : Sorted T) {s : ℕ} (hs : s < 16) (v : ℕ) : s < cnt T v ↔ (word T s).toNat ≤ v := by
  constructor
  · intro hc
    by_contra hv
    have sub : ((Finset.range 16).filter fun k => (word T k).toNat ≤ v) ⊆ Finset.range s := by
      intro k hk
      obtain ⟨hk, hkv⟩ := Finset.mem_filter.1 hk
      rw [Finset.mem_range] at hk ⊢
      by_contra hsk
      have := h.mono s k (by omega) hk
      omega
    have := Finset.card_le_card sub
    rw [Finset.card_range] at this
    unfold cnt at hc
    omega
  · intro hv
    have sub : Finset.range (s + 1) ⊆ ((Finset.range 16).filter fun k => (word T k).toNat ≤ v) := by
      intro k hk
      rw [Finset.mem_range] at hk
      refine Finset.mem_filter.2 ⟨Finset.mem_range.2 (by omega), ?_⟩
      exact (h.mono k s (by omega) hs).trans hv
    have := Finset.card_le_card sub
    rw [Finset.card_range] at this
    unfold cnt
    omega

/-- Row `v` is in segment `s` exactly where `s` entries are at most `v`. -/
theorem cnt_eq_iff (h : Sorted T) {s : ℕ} (hs : s ≤ 16) {v : ℕ} (hv : v < 32768) : cnt T v = s ↔ st T s ≤ v ∧ v < en T s := by
  have hc := cnt_le (T := T) v
  have a1 : st T s ≤ v ↔ s ≤ cnt T v := by
    unfold st
    split
    · omega
    · have := lt_cnt_iff h (s := s - 1) (by omega) v; omega
  have a2 : v < en T s ↔ cnt T v ≤ s := by
    unfold en
    split
    · omega
    · have := lt_cnt_iff h (s := s) (by omega) v; omega
  omega

theorem st_le_en (h : Sorted T) {s : ℕ} (hs : s ≤ 16) : st T s ≤ en T s := by
  unfold st en
  split <;> split
  · omega
  · omega
  · have := h.lt (s - 1) (by omega); omega
  · exact h.mono _ _ (by omega) (by omega)

theorem en_le (h : Sorted T) {s : ℕ} (hs : s ≤ 16) : en T s ≤ 32768 := by
  unfold en
  split
  · omega
  · have := h.lt s (by omega); omega

/-- A segment that does not come before the segment of row `v` ends after it. -/
theorem lt_en (h : Sorted T) {s v : ℕ} (hs : s ≤ 16) (hv : v < 32768) (hc : cnt T v ≤ s) : v < en T s := by
  unfold en
  split
  · exact hv
  · have := lt_cnt_iff h (s := s) (by omega) v; omega

/-- A segment that does not come after the segment of row `v` starts by it. -/
theorem st_le (h : Sorted T) {s v : ℕ} (hs : s ≤ 16) (hc : s ≤ cnt T v) : st T s ≤ v := by
  unfold st
  split
  · omega
  · have := lt_cnt_iff h (s := s - 1) (by omega) v; omega

theorem cnt_sum (v : ℕ) : cnt T v = ∑ k ∈ Finset.range 16, if (word T k).toNat ≤ v then 1 else 0 :=
  (Finset.card_filter _ _)

/-! ## The words -/

/-- The count the kernel makes of the entries at most `v`. -/
theorem cntLe_cnt (h : Sorted T) {v : BitVec 32} (hv : v.toNat < 32768) :
    (cntLe v (word T 0) (word T 1) (word T 2) (word T 3) (word T 4) (word T 5) (word T 6) (word T 7) (word T 8) (word T 9) (word T 10) (word T 11)
      (word T 12) (word T 13) (word T 14) (word T 15)).toNat = cnt T v.toNat := by
  have e : ∀ k, k < 16 → ind (word T k) v = if (word T k).toNat ≤ v.toNat then 1 else 0 := fun k hk => by
    unfold ind
    have := h.lt k hk
    rw [toInt_small (by omega), toInt_small (by omega)]
    simp only [Nat.cast_le]
  rw [cntLe_toNat, cnt_sum]
  simp only [Finset.sum_range_succ, Finset.sum_range_zero, zero_add]
  rw [e 0 (by omega), e 1 (by omega), e 2 (by omega), e 3 (by omega), e 4 (by omega), e 5 (by omega), e 6 (by omega), e 7 (by omega),
    e 8 (by omega), e 9 (by omega), e 10 (by omega), e 11 (by omega), e 12 (by omega), e 13 (by omega), e 14 (by omega), e 15 (by omega)]

/-- Equality of small words, as numbers. -/
theorem beq_ofNat {a : BitVec 32} {n : ℕ} (hn : n < 2 ^ 32) : (a == BitVec.ofNat 32 n) = decide (a.toNat = n) := by
  rw [Bool.eq_iff_iff]
  simp only [beq_iff_eq, decide_eq_true_eq]
  constructor
  · rintro rfl; rw [BitVec.toNat_ofNat, Nat.mod_eq_of_lt hn]
  · intro h; exact BitVec.eq_of_toNat_eq (by rw [BitVec.toNat_ofNat, Nat.mod_eq_of_lt hn, h])

theorem slt_nat {x y : BitVec 32} (hx : x.toNat < 2 ^ 31) (hy : y.toNat < 2 ^ 31) : x.slt y = decide (x.toNat < y.toNat) := by
  simp only [BitVec.slt]; rw [toInt_small hx, toInt_small hy]; simp

theorem sle_nat {x y : BitVec 32} (hx : x.toNat < 2 ^ 31) (hy : y.toNat < 2 ^ 31) : x.sle y = decide (x.toNat ≤ y.toNat) := by
  simp only [BitVec.sle]; rw [toInt_small hx, toInt_small hy]; simp

/-- A row and a number whose sum is small, added as words. -/
theorem add_nat {x y : BitVec 32} (h : x.toNat + y.toNat < 2 ^ 32) : (x + y).toNat = x.toNat + y.toNat := by
  rw [BitVec.toNat_add, Nat.mod_eq_of_lt h]

theorem sub_nat {x y : BitVec 32} (h : y.toNat ≤ x.toNat) : (x - y).toNat = x.toNat - y.toNat := by
  rw [BitVec.toNat_sub]; omega

/-- The quotient by 128, rounded down, of a word that is not negative. -/
theorem fdiv_nat {x : BitVec 32} (hx : x.toNat < 2 ^ 31) : (fdiv x).toNat = x.toNat / 128 := by
  have hd : (Scalar.divsi x 128#32).toNat = x.toNat / 128 := by
    show (if IntOp.SDivCorner x 128#32 then _ else x.sdiv 128#32).toNat = _
    have hm : x.msb = false := by rw [BitVec.msb_eq_false_iff_two_mul_lt]; omega
    rw [if_neg (IntOp.not_corner_of_pos (by decide)), BitVec.sdiv_eq, hm, show (128#32 : BitVec 32).msb = false from by decide]
    show (x / 128#32).toNat = _
    rw [BitVec.toNat_udiv]; rfl
  by_cases h0 : x = 0#32
  · subst h0; decide
  · have hp : 0 < x.toNat := by
      rcases Nat.eq_zero_or_pos x.toNat with h | h
      · exact absurd (BitVec.eq_of_toNat_eq (by simpa using h)) h0
      · exact h
    have e1 : Scalar.cmpi .sgt x 0#32 = 1#1 := by
      show BitVec.ofBool ((0#32).slt x) = _
      rw [slt_nat (by decide) hx]; simp [hp]
    have e2 : Scalar.cmpi .slt x 0#32 = 0#1 := by
      show BitVec.ofBool (x.slt 0#32) = _
      rw [slt_nat hx (by decide)]; simp
    have e3 : Scalar.cmpi .ne (Scalar.subi (Scalar.extui (1#1) : BitVec 32) (Scalar.extui (0#1))) 1#32 = 0#1 := by decide
    unfold fdiv
    rw [e1, e2, e3]
    have e4 : ∀ y : BitVec 1, Scalar.andi 0#1 y = 0#1 := by decide
    rw [e4]
    exact hd

/-- The first block of a segment in a tile. -/
theorem blkLo_nat {v0 s : BitVec 32} (hv : v0.toNat ≤ 16384) (hs : s.toNat < 2 ^ 31) :
    (blkLo v0 s).toNat = min 127 ((max s.toNat v0.toNat - v0.toNat) / 128) := by
  have hm : (Scalar.maxsi s v0).toNat = max s.toNat v0.toNat := by
    show (if v0.slt s then s else v0).toNat = _
    rw [slt_nat (by omega) hs]
    by_cases h : v0.toNat < s.toNat <;> simp [h] <;> omega
  have hd : (Scalar.subi (Scalar.maxsi s v0) v0).toNat = max s.toNat v0.toNat - v0.toNat := by
    show (Scalar.maxsi s v0 - v0).toNat = _
    rw [sub_nat (by omega), hm]
  have hf := fdiv_nat (x := Scalar.subi (Scalar.maxsi s v0) v0) (by omega)
  show (clampBlk _).toNat = _
  rw [clamp127, toInt_small (by omega), Int.toNat_natCast, hf, hd]

theorem lastRow_nat {v0 e : BitVec 32} (hv : v0.toNat ≤ 16384) (he : e.toNat < 2 ^ 31) (h : v0.toNat < e.toNat) :
    (lastRow v0 e).toNat = min e.toNat (v0.toNat + 16384) - 1 - v0.toNat := by
  have ha : (Scalar.addi v0 16384#32).toNat = v0.toNat + 16384 := by
    show (v0 + 16384#32).toNat = _
    rw [add_nat (by simp; omega)]; simp
  have hm : (Scalar.minsi e (Scalar.addi v0 16384#32)).toNat = min e.toNat (v0.toNat + 16384) := by
    show (if e.slt (Scalar.addi v0 16384#32) then e else Scalar.addi v0 16384#32).toNat = _
    rw [slt_nat he (by omega), ha]
    by_cases h : e.toNat < v0.toNat + 16384 <;> simp [h, ha] <;> omega
  have h1 : (Scalar.subi (Scalar.minsi e (Scalar.addi v0 16384#32)) 1#32).toNat = min e.toNat (v0.toNat + 16384) - 1 := by
    show (Scalar.minsi e (Scalar.addi v0 16384#32) - 1#32).toNat = _
    rw [sub_nat (by simp; omega), hm]; simp
  show (Scalar.subi (Scalar.minsi e (Scalar.addi v0 16384#32)) 1#32 - v0).toNat = _
  rw [sub_nat (by omega), h1]

/-- The last block of a segment in a tile. -/
theorem blkHi_nat {v0 e : BitVec 32} (hv : v0.toNat ≤ 16384) (he : e.toNat < 2 ^ 31) (h : v0.toNat < e.toNat) :
    (blkHi v0 e).toNat = min 127 ((min e.toNat (v0.toNat + 16384) - 1 - v0.toNat) / 128) := by
  have hl := lastRow_nat hv he h
  have hf := fdiv_nat (x := lastRow v0 e) (by omega)
  show (clampBlk _).toNat = _
  rw [clamp127, toInt_small (by omega), Int.toNat_natCast, hf, hl]

/-- The first row of segment `s`, as the word a scalar program computes. -/
def stW (T : (⟨1, ![16]⟩ : Shape).Idx → BitVec 32) (s : ℕ) : BitVec 32 := if s = 0 then 0#32 else word T (s - 1)
/-- The row after the last. -/
def enW (T : (⟨1, ![16]⟩ : Shape).Idx → BitVec 32) (s : ℕ) : BitVec 32 := if s = 16 then 32768#32 else word T s

theorem stW_nat (s : ℕ) : (stW T s).toNat = st T s := by unfold stW st; split <;> rfl
theorem enW_nat (s : ℕ) : (enW T s).toNat = en T s := by unfold enW en; split <;> rfl

/-- The rows of segment `s`. -/
def rowsOf (T : (⟨1, ![16]⟩ : Shape).Idx → BitVec 32) (s : ℕ) : Finset (Fin 32768) := Finset.univ.filter fun n => st T s ≤ n.val ∧ n.val < en T s

theorem mem_rowsOf {s : ℕ} {n : Fin 32768} : n ∈ rowsOf T s ↔ st T s ≤ n.val ∧ n.val < en T s := by simp [rowsOf]

theorem card_rowsOf (h : Sorted T) {s : ℕ} (hs : s ≤ 16) : (rowsOf T s).card = en T s - st T s := by
  have := en_le h hs
  refine (Finset.card_map Fin.valEmbedding).symm.trans ((congrArg Finset.card ?_).trans (Nat.card_Ico (st T s) (en T s)))
  ext v
  rw [Finset.mem_map, Finset.mem_Ico]
  constructor
  · rintro ⟨n, hn, rfl⟩; exact mem_rowsOf.1 hn
  · intro hv; exact ⟨⟨v, by omega⟩, mem_rowsOf.2 hv, rfl⟩

end SegTable

end
-- ==== Proof.Maxima.lean ====
/-
  The segments' running maxima, read at an index: each step bounds a segment's maximum by exactly
  the rows of the tile that are in the segment.
-/
module

public import proofs.«01_k».proof.Proof.Sums
public import proofs.«01_k».proof.Proof.Segments

@[expose] public section

noncomputable section

namespace Cert.KernelIdeal.Body

open Cert.KernelIdeal Cert.KernelIdeal.Gen Cert.KernelIdeal.Checks SegWords SegReads SegLayout SegTable Idealize.ShloMosaic.ValueIdx
open Idealize.ShloMosaic
open scoped BigOperators

/-- The maxima of the tile's blocks of 128 rows. -/
theorem pay1_le (Y : FVec Ideal S16384x128 .f32) (g j : Fin 128) (x : EReal) :
    k0_pay1 (F := Ideal) Y (ix2 g j) ≤ x ↔ ∀ r : Fin 16384, r.val / 128 = g.val → Y (ix2 r j) ≤ x := by
  have c1 : ∀ (X : FVec Ideal S128x1x8x128 .f32) (r : Fin 8), shapeCast S128x8x128 X shapeCasts_S128x1x8x128_S128x8x128 (ix3 g r j) ≤ x
      ↔ ∀ q : Fin 1, X (ix4 g q r j) ≤ x := fun X r => by
    have e : shapeCast S128x8x128 X shapeCasts_S128x1x8x128_S128x8x128 (ix3 g r j) = X (ix4 g 0 r j) := shapeCast_apply _ _ _ _ (by
      rw [Shape.rowMajor_val_three, Shape.rowMajor_val_four]
      show ((g.val * 1 + 0) * 8 + r.val) * 128 + j.val = (g.val * 8 + r.val) * 128 + j.val
      rw [Nat.mul_one, Nat.add_zero])
    rw [e]
    exact ⟨fun h q => by rw [Subsingleton.elim q 0]; exact h, fun h => h 0⟩
  have c2 : ∀ (q : Fin 16) (r : Fin 8), shapeCast S128x16x8x128 Y shapeCasts_S16384x128_S128x16x8x128 (ix4 g q r j)
      = Y (ix2 ⟨g.val * 128 + q.val * 8 + r.val, by omega⟩ j) := fun q r => shapeCast_apply _ _ _ _ (by
    rw [Shape.rowMajor_val_two, Shape.rowMajor_val_four]
    show (g.val * 128 + q.val * 8 + r.val) * 128 + j.val = ((g.val * 16 + q.val) * 8 + r.val) * 128 + j.val
    ring)
  unfold k0_pay1
  refine (midMax_le _ _ _ _ g j x).trans ?_
  refine (forall_congr' fun r => (c1 _ r).trans ((halve_max 2 rfl _ _ _ g r j x).trans ((halve_max 4 rfl _ _ _ g r j x).trans
    ((halve_max 8 rfl _ _ _ g r j x).trans (halve_max 16 rfl _ _ _ g r j x))))).trans ?_
  constructor
  · intro h r hr
    have := h ⟨r.val % 8, by omega⟩ ⟨r.val % 128 / 8, by omega⟩
    rw [c2] at this
    refine le_of_eq_of_le (congrArg (fun r => Y (ix2 r j)) (Fin.ext ?_)) this
    show r.val = g.val * 128 + r.val % 128 / 8 * 8 + r.val % 8
    omega
  · intro h r q
    rw [c2]
    exact h _ (by show (g.val * 128 + q.val * 8 + r.val) / 128 = g.val; omega)

/-- The rows' numbers in a block. -/
abbrev iota128 : IVec S128x1 32 := iota .tc S128x1 32 [0] iota_S128x1_d0_w32

theorem iota128_apply (q : Fin 128) : iota128 (ix2 q 0) = BitVec.ofNat 32 q.val := iota_single_apply _ _ _ _ _ _
theorem rowIota_apply (s : Fin 32) : rowIota (ix2 s 0) = BitVec.ofNat 32 s.val := iota_single_apply _ _ _ _ _ _

/-- Which rows of a block are in the segment from `s` to `e`. -/
theorem pay9_apply (v0 s e b : BitVec 32) (hv : v0.toNat ≤ 16384) (hs : s.toNat < 2 ^ 31) (he : e.toNat < 2 ^ 31) (hb : b.toNat ≤ 127) (q j : Fin 128) :
    k0_pay9 v0 iota128 s e b (ix2 q j)
      = BitVec.ofBool (decide (s.toNat ≤ v0.toNat + b.toNat * 128 + q.val ∧ v0.toNat + b.toNat * 128 + q.val < e.toNat)) := by
  unfold k0_pay9
  rw [bcastCol, shapeCast_self]
  have hr : (Scalar.addi v0 (Scalar.muli b 128#32) + iota128 (ix2 q 0)).toNat = v0.toNat + b.toNat * 128 + q.val := by
    have h1 := blockRow hb
    have h2 : (Scalar.addi v0 (Scalar.muli b 128#32)).toNat = v0.toNat + b.toNat * 128 := by
      show (v0 + Scalar.muli b 128#32).toNat = _
      rw [add_nat (by omega), h1]
    have h3 : (iota128 (ix2 q 0)).toNat = q.val := by rw [iota128_apply, BitVec.toNat_ofNat]; omega
    rw [add_nat (by omega), h2, h3]
  show IntOp.andi (BitVec.ofBool (s.sle (Scalar.addi v0 (Scalar.muli b 128#32) + iota128 (ix2 q 0))))
    (BitVec.ofBool ((Scalar.addi v0 (Scalar.muli b 128#32) + iota128 (ix2 q 0)).slt e)) = _
  rw [WordArith.andi_ofBool, sle_nat hs (by omega), slt_nat (by omega) he, hr, Bool.decide_and]

/-- The maximum over the rows of a block that are in the segment. -/
theorem masked_le (v0 s e b : BitVec 32) (hv : v0.toNat ≤ 16384) (hs : s.toNat < 2 ^ 31) (he : e.toNat < 2 ^ 31) (hb : b.toNat ≤ 127)
    (Y : FVec Ideal S16384x128 .f32) (h) (hφ) (hacc) (j : Fin 128) (x : EReal) :
    multiReduction .maximumf [0] S128 (select (k0_pay9 v0 iota128 s e b) (k0_pay8 (F := Ideal) (block Y b.toNat)) (k0_pay10 (F := Ideal))) 0xFF800000#32 h hφ hacc (ix1 j) ≤ x
      ↔ ∀ r : Fin 16384, r.val / 128 = b.toNat → s.toNat ≤ v0.toNat + r.val → v0.toNat + r.val < e.toNat → Y (ix2 r j) ≤ x := by
  refine (colMax_le _ h hφ hacc j x).trans ?_
  have c : ∀ q : Fin 128, k0_pay8 (F := Ideal) (block Y b.toNat) (ix2 q j) = Y (ix2 ⟨b.toNat * 128 + q.val, by omega⟩ j) := fun q => by
    unfold k0_pay8
    refine (shapeCast_1ab_ab_apply _ _ q j).trans ?_
    refine congrArg (fun r => Y (ix2 r j)) (Fin.ext ?_)
    show (b.toNat * 128 + q.val) % 16384 = b.toNat * 128 + q.val
    omega
  have e1 : ∀ q : Fin 128, select (k0_pay9 v0 iota128 s e b) (k0_pay8 (F := Ideal) (block Y b.toNat)) (k0_pay10 (F := Ideal)) (ix2 q j)
      = if s.toNat ≤ v0.toNat + b.toNat * 128 + q.val ∧ v0.toNat + b.toNat * 128 + q.val < e.toNat
        then Y (ix2 ⟨b.toNat * 128 + q.val, by omega⟩ j) else ⊥ := fun q => by
    rw [select_apply, pay9_apply v0 s e b hv hs he hb, sel_dec, c, show k0_pay10 (F := Ideal) (ix2 q j) = ⊥ from Column.bot_word]
  constructor
  · intro H r hr h1 h2
    have := H ⟨r.val % 128, by omega⟩
    rw [e1, if_pos (by show _ ≤ v0.toNat + b.toNat * 128 + r.val % 128 ∧ v0.toNat + b.toNat * 128 + r.val % 128 < _; omega)] at this
    refine le_of_eq_of_le (congrArg (fun r => Y (ix2 r j)) (Fin.ext ?_)) this
    show r.val = b.toNat * 128 + r.val % 128
    omega
  · intro H q
    rw [e1]
    split
    · rename_i hc
      exact H _ (by show (b.toNat * 128 + q.val) / 128 = _; omega) (by show _ ≤ v0.toNat + (b.toNat * 128 + q.val); omega)
        (by show v0.toNat + (b.toNat * 128 + q.val) < _; omega)
    · exact bot_le

/-- The maximum over the blocks strictly between the first and the last. -/
theorem pay7_le (V : FVec Ideal S128x128 .f32) (lb l : BitVec 32) (hb : lb.toNat ≤ 127) (j : Fin 128) (x : EReal) :
    k0_pay7 (F := Ideal) V iota128 lb l 128#32 (Scalar.divsi l 128#32) 0#32 (ix2 0 j) ≤ x
      ↔ ∀ g : Fin 128, lb.toNat < g.val → g.val < (clampBlk (fdiv l)).toNat → V (ix2 g j) ≤ x := by
  have hc : (clampBlk (fdiv l)).toNat ≤ 127 := clamp127_le _
  unfold k0_pay7
  refine (le_of_eq_of_le' ((shapeCast_a_1a_apply _ _ 0 j))).trans ((colMax_le _ _ _ _ j x).trans ?_)
  refine forall_congr' fun g => ?_
  have hg : (iota128 (ix2 g 0)).toNat = g.val := by rw [iota128_apply, BitVec.toNat_ofNat]; omega
  rw [select_apply, bcastCol, shapeCast_self]
  show Scalar.select (IntOp.andi (BitVec.ofBool (lb.slt (iota128 (ix2 g 0)))) (BitVec.ofBool ((iota128 (ix2 g 0)).slt (clampBlk (fdiv l))))) _ (Ideal.ofBits .f32 0xFF800000#32) ≤ x ↔ _
  rw [WordArith.andi_ofBool, slt_nat (by omega) (by omega), slt_nat (by omega) (by omega), hg, Column.bot_word, ← Bool.decide_and, sel_dec]
  split
  · rename_i h; exact ⟨fun h' _ _ => h', fun h' => h' h.1 h.2⟩
  · rename_i h; exact ⟨fun _ h1 h2 => absurd ⟨h1, h2⟩ h, fun _ => bot_le⟩
where
  le_of_eq_of_le' {a b : EReal} (h : a = b) : a ≤ x ↔ b ≤ x := by rw [h]

/-- One step of the running maxima at an index. -/
theorem pay3_apply (i : grid0.Coords) (a s e b : BitVec 32) (V : FVec Ideal S1x128 .f32) (L : FVec Ideal S128x128 .f32) (M : IVec S128x128 1)
    (N : FVec Ideal S128x128 .f32) (B : Vec Ideal S1x128x128 .f32) (X : Vec Ideal S32x128 .f32) (p : Fin 32) (j : Fin 128) :
    ∃ h hφ hacc, k0_pay3 (F := Ideal) i a s e b V L M N B X X (ix2 p j)
      = if a.toNat = p.val then max (X (ix2 p j)) (max (V (ix2 0 j)) (max (multiReduction .maximumf [0] S128 (select M L N) 0xFF800000#32 h hφ hacc (ix1 j))
          (multiReduction .maximumf [0] S128 (select (k0_pay9 (tw i) iota128 s e b) (k0_pay8 (F := Ideal) B) (k0_pay10 (F := Ideal))) 0xFF800000#32 h hφ hacc (ix1 j))))
        else X (ix2 p j) := by
  refine ⟨reduces_S128x128_S128, .inl rfl, rfl, ?_⟩
  have hp : rowIota (ix2 p 0) = BitVec.ofNat 32 p.val := rowIota_apply p
  have hc : BitVec.ofBool (rowIota (ix2 p 0) == a) = BitVec.ofBool (decide (a.toNat = p.val)) := by
    rw [hp, Bool.beq_comm, beq_ofNat (by omega)]
  unfold k0_pay3
  rw [shapeCast_self, select_apply, bcastCol, shapeCast_self]
  refine (congrArg (fun c => Scalar.select c _ _) hc).trans ?_
  rw [sel_dec]
  refine if_congr Iff.rfl ?_ rfl
  rw [maximumf_apply]
  refine congrArg (max _) ?_
  rw [broadcastTo_1b_ab_apply, maximumf_apply, maximumf_apply]
  refine congrArg (max _) (congrArg₂ max ?_ ?_)
  · exact shapeCast_a_1a_apply _ _ 0 j
  · exact shapeCast_a_1a_apply _ _ 0 j

/-- A step takes in exactly the tile's rows from `s` on and before `e`. -/
theorem segStep_le (i : grid0.Coords) (Y : FVec Ideal S16384x128 .f32) (a s e : BitVec 32) (X : Vec Ideal S32x128 .f32)
    (hv : (tw i).toNat ≤ 16384) (hs : s.toNat ≤ (tw i).toNat + 16383) (he : e.toNat ≤ 32768) (hse : s.toNat ≤ e.toNat) (hve : (tw i).toNat < e.toNat)
    (p : Fin 32) (j : Fin 128) (x : EReal) :
    segStep (F := Ideal) i Y Y a s e X (ix2 p j) ≤ x
      ↔ X (ix2 p j) ≤ x ∧ (a.toNat = p.val → ∀ r : Fin 16384, s.toNat ≤ (tw i).toNat + r.val → (tw i).toNat + r.val < e.toNat → Y (ix2 r j) ≤ x) := by
  have hlb := blkLo_nat (v0 := tw i) (s := s) hv (by omega)
  have hhb := blkHi_nat (v0 := tw i) (e := e) hv (by omega) hve
  have hlb' : (blkLo (tw i) s).toNat ≤ 127 := clamp127_le _
  have hhb' : (blkHi (tw i) e).toNat ≤ 127 := clamp127_le _
  unfold segStep
  obtain ⟨h, hφ, hacc, E⟩ := pay3_apply i a s e (blkHi (tw i) e)
    (k0_pay7 (F := Ideal) (k0_pay1 Y) iota128 (blkLo (tw i) s) (lastRow (tw i) e) 128#32 (Scalar.divsi (lastRow (tw i) e) 128#32) 0#32)
    (k0_pay8 (block Y (blkLo (tw i) s).toNat)) (k0_pay9 (tw i) iota128 s e (blkLo (tw i) s)) k0_pay10 (block Y (blkHi (tw i) e).toNat) X p j
  rw [E]
  split
  · rename_i hap
    rw [max_le_iff, max_le_iff, max_le_iff, masked_le (tw i) s e _ hv (by omega) (by omega) hlb', masked_le (tw i) s e _ hv (by omega) (by omega) hhb',
      pay7_le _ _ _ hlb']
    refine and_congr_right fun _ => ⟨?_, fun H => ⟨?_, ?_, ?_⟩⟩
    · rintro ⟨h1, h2, h3⟩ _ r hr1 hr2
      by_cases c1 : r.val / 128 = (blkLo (tw i) s).toNat
      · exact h2 r c1 hr1 hr2
      by_cases c2 : r.val / 128 = (blkHi (tw i) e).toNat
      · exact h3 r c2 hr1 hr2
      refine (pay1_le Y ⟨r.val / 128, by omega⟩ j x).1 (h1 ⟨r.val / 128, by omega⟩ ?_ ?_) r rfl
      · show _ < r.val / 128
        omega
      · show r.val / 128 < (blkHi (tw i) e).toNat
        omega
    · intro g hg1 hg2
      replace hg2 : g.val < (blkHi (tw i) e).toNat := hg2
      exact (pay1_le Y g j x).2 fun r hr => H hap r (by omega) (by omega)
    · exact fun r _ h1 h2 => H hap r h1 h2
    · exact fun r _ h1 h2 => H hap r h1 h2
  · rename_i hap
    exact ⟨fun h => ⟨h, fun h' => absurd h' hap⟩, fun h => h.1⟩

/-- The running maxima after a number of segments. -/
theorem segAcc_le (i : grid0.Coords) (Y : FVec Ideal S16384x128 .f32) (T : Vec Ideal S16 .i32) (hT : Sorted T) (lo hi : BitVec 32)
    (hlo : lo.toNat = cnt T (tw i).toNat) (hhi : hi.toNat = cnt T ((tw i).toNat + 16383)) (hle : lo.toNat ≤ hi.toNat)
    (hv : (tw i).toNat ≤ 16384) (X : Vec Ideal S32x128 .f32) (p : Fin 32) (hp : p.val ≤ 16) (j : Fin 128) (x : EReal) (n : ℕ)
    (hn : n ≤ hi.toNat + 1 - lo.toNat) :
    segAcc (F := Ideal) i Y Y T lo X n (ix2 p j) ≤ x
      ↔ X (ix2 p j) ≤ x ∧ (lo.toNat ≤ p.val → p.val < lo.toNat + n →
          ∀ r : Fin 16384, SegTable.st T p.val ≤ (tw i).toNat + r.val → (tw i).toNat + r.val < en T p.val → Y (ix2 r j) ≤ x) := by
  have hhi16 : hi.toNat ≤ 16 := by rw [hhi]; exact cnt_le _
  induction n with
  | zero => exact ⟨fun h => ⟨h, fun h1 h2 => absurd h2 (by omega)⟩, fun h => h.1⟩
  | succ n ih =>
    have ha : (Scf.iv lo 1#32 n).toNat = lo.toNat + n := by
      show (lo + BitVec.ofNat 32 n * 1#32).toNat = _
      simp only [BitVec.toNat_add, BitVec.toNat_mul, BitVec.toNat_ofNat]; omega
    set a := Scf.iv lo 1#32 n with hadef
    have hs : (segStart (F := Ideal) T a).toNat = SegTable.st T a.toNat := by
      have e : Scalar.cmpi .eq a 0#32 = BitVec.ofBool (decide (a.toNat = 0)) := congrArg BitVec.ofBool (beq_ofNat (n := 0) (by omega))
      unfold segStart SegTable.st
      rw [e, sel_dec, pred_clamp (by omega)]
      split <;> rfl
    have he : (segEnd (F := Ideal) T a).toNat = en T a.toNat := by
      have e : Scalar.cmpi .eq a 16#32 = BitVec.ofBool (decide (a.toNat = 16)) := congrArg BitVec.ofBool (beq_ofNat (n := 16) (by omega))
      unfold segEnd en
      rw [e, sel_dec, min_clamp (by omega)]
      split
      · rfl
      · rw [Nat.min_eq_left (by omega)]
    have h1 := st_le hT (s := a.toNat) (v := (tw i).toNat + 16383) (by omega) (by omega)
    have h2 := lt_en hT (s := a.toNat) (v := (tw i).toNat) (by omega) (by omega) (by omega)
    have h3 := en_le hT (s := a.toNat) (by omega)
    have h4 := st_le_en hT (s := a.toNat) (by omega)
    have step := segStep_le i Y a (segStart (F := Ideal) T a) (segEnd (F := Ideal) T a) (segAcc (F := Ideal) i Y Y T lo X n) hv (by omega) (by omega) (by omega)
      (by omega) p j x
    refine Iff.trans step ((and_congr_left' (ih (by omega))).trans ?_)
    rw [hs, he]
    constructor
    · rintro ⟨⟨hX, h5⟩, h6⟩
      refine ⟨hX, fun h7 h8 => ?_⟩
      by_cases c : a.toNat = p.val
      · have := h6 c; rwa [c] at this
      · exact h5 h7 (by omega)
    · rintro ⟨hX, h5⟩
      refine ⟨⟨hX, fun h7 h8 => h5 h7 (by omega)⟩, fun c => ?_⟩
      rw [c]; exact h5 (by omega) (by omega)

/-! ## A tile -/

/-- A tile that lies in one segment is taken in at once. -/
theorem pay2_le (Y : FVec Ideal S16384x128 .f32) (a b : BitVec 32) (X : Vec Ideal S32x128 .f32) (p : Fin 32) (j : Fin 128) (x : EReal) :
    k0_pay2 (F := Ideal) Y a b X X (ix2 p j) ≤ x
      ↔ X (ix2 p j) ≤ x ∧ ((Scalar.addi a b).toNat = p.val → ∀ r : Fin 16384, Y (ix2 r j) ≤ x) := by
  have hp : rowIota (ix2 p 0) = BitVec.ofNat 32 p.val := rowIota_apply p
  have hc : ∀ w : BitVec 32, cmpi .eq rowIota (broadcast S32x1 w) (ix2 p 0) = BitVec.ofBool (decide (w.toNat = p.val)) := fun w => by
    show BitVec.ofBool (rowIota (ix2 p 0) == w) = _
    rw [hp, Bool.beq_comm, beq_ofNat (by omega)]
  have hm : ∀ h hφ hacc, multiReduction .maximumf [0] S128 (k0_pay1 (F := Ideal) Y) 0xFF800000#32 h hφ hacc (ix1 j) ≤ x
      ↔ ∀ r : Fin 16384, Y (ix2 r j) ≤ x := fun h hφ hacc => by
    refine (colMax_le _ h hφ hacc j x).trans ?_
    refine (forall_congr' fun g => pay1_le Y g j x).trans ?_
    exact ⟨fun H r => H ⟨r.val / 128, by omega⟩ r rfl, fun H g r _ => H r⟩
  have e : ∃ h hφ hacc, k0_pay2 (F := Ideal) Y a b X X (ix2 p j) = if (Scalar.addi a b).toNat = p.val
      then max (X (ix2 p j)) (multiReduction .maximumf [0] S128 (k0_pay1 (F := Ideal) Y) 0xFF800000#32 h hφ hacc (ix1 j)) else X (ix2 p j) := by
    refine ⟨reduces_S128x128_S128, .inl rfl, rfl, ?_⟩
    unfold k0_pay2
    rw [shapeCast_self, select_apply, bcastCol, shapeCast_self]
    rw [show cmpi .eq (iota .tc S32x1 32 [0] iota_S32x1_d0_w32) (broadcast S32x1 (Scalar.addi a b)) (ix2 p 0) = _ from hc _, sel_dec]
    refine if_congr Iff.rfl ?_ rfl
    rw [maximumf_apply, broadcastTo_1b_ab_apply]
    exact congrArg (max _) (shapeCast_a_1a_apply _ _ 0 j)
  obtain ⟨h, hφ, hacc, e⟩ := e
  rw [e]
  split
  · rename_i hap
    rw [max_le_iff, hm]
    exact and_congr_right fun _ => ⟨fun H _ => H, fun H => H hap⟩
  · rename_i hap
    exact ⟨fun h => ⟨h, fun h' => absurd h' hap⟩, fun h => h.1⟩

theorem tw_nat (i : grid0.Coords) : (tw i).toNat = (i 1).val * 16384 := tileRow _ (i 1).isLt
theorem tl_nat (i : grid0.Coords) : (tl i).toNat = (i 1).val * 16384 + 16383 := tileLast _ (i 1).isLt

/-- The running maxima after a tile take in exactly the tile's rows of each segment. -/
theorem maxNext_le (i : grid0.Coords) (T : Vec Ideal S16 .i32) (hT : Sorted T) (Y : FVec Ideal S16384x128 .f32) (X : Vec Ideal S32x128 .f32)
    (p : Fin 32) (hp : p.val ≤ 16) (j : Fin 128) (x : EReal) :
    maxNext (F := Ideal) i T Y X (ix2 p j) ≤ x
      ↔ X (ix2 p j) ≤ x ∧ ∀ r : Fin 16384, SegTable.st T p.val ≤ (i 1).val * 16384 + r.val → (i 1).val * 16384 + r.val < en T p.val → Y (ix2 r j) ≤ x := by
  have hi1 : (i 1).val < 2 := (i 1).isLt
  have htw := tw_nat i
  have htl := tl_nat i
  have hlo : (loT (F := Ideal) i T).toNat = cnt T (tw i).toNat := cntLe_cnt hT (by omega)
  have hhi : (hiT (F := Ideal) i T).toNat = cnt T ((tw i).toNat + 16383) := (cntLe_cnt hT (v := tl i) (by omega)).trans (by rw [htw, htl])
  have hle : (loT (F := Ideal) i T).toNat ≤ (hiT (F := Ideal) i T).toNat := lo_le_hi i _ _ _ _ _ _ _ _ _ _ _ _ _ _ _ _
  have hhi16 : (hiT (F := Ideal) i T).toNat ≤ 16 := by rw [hhi]; exact cnt_le _
  -- a row of the tile in segment `p` puts `p` between the tile's first and last segments
  have key : ∀ r : Fin 16384, SegTable.st T p.val ≤ (i 1).val * 16384 + r.val → (i 1).val * 16384 + r.val < en T p.val →
      (loT (F := Ideal) i T).toNat ≤ p.val ∧ p.val ≤ (hiT (F := Ideal) i T).toNat := fun r h1 h2 => by
    have hc := (cnt_eq_iff hT (s := p.val) hp (v := (i 1).val * 16384 + r.val) (by omega)).2 ⟨h1, h2⟩
    have m : ∀ u v, u ≤ v → cnt T u ≤ cnt T v := fun u v h =>
      Finset.card_le_card fun k hk => Finset.mem_filter.2 ⟨(Finset.mem_filter.1 hk).1, (Finset.mem_filter.1 hk).2.trans h⟩
    have := m (tw i).toNat ((i 1).val * 16384 + r.val) (by omega)
    have := m ((i 1).val * 16384 + r.val) ((tw i).toNat + 16383) (by omega)
    omega
  have hs1 : single (F := Ideal) i T = 1#1 ↔ loT (F := Ideal) i T = hiT (F := Ideal) i T := by
    have e : ∀ b : BitVec 1, Scalar.cmpi .ne (Scalar.extui b : BitVec 32) 0#32 = 1#1 ↔ b = 1#1 := by decide
    exact (e _).trans IntOp.cmpi_eq
  have hs4 : k0_cond4 i (word T 0) (word T 1) (word T 2) (word T 3) (word T 4) (word T 5) (word T 6) (word T 7) (word T 8) (word T 9) (word T 10)
      (word T 11) (word T 12) (word T 13) (word T 14) (word T 15) = 1#1 ↔ loT (F := Ideal) i T ≠ hiT (F := Ideal) i T := by
    have e : ∀ b : BitVec 1, Scalar.cmpi .ne (Scalar.extui b : BitVec 32) 0#32 = 1#1 ↔ b = 1#1 := by decide
    exact (e _).trans IntOp.cmpi_ne
  unfold maxNext maxBase
  by_cases hh : loT (F := Ideal) i T = hiT (F := Ideal) i T
  · rw [if_neg (by rw [hs4]; exact fun h => h hh), if_pos (hs1.2 hh), pay2_le]
    refine and_congr_right fun _ => ⟨fun H r h1 h2 => H ?_ r, fun H hpn r => ?_⟩
    · have := key r h1 h2
      show (loT (F := Ideal) i T).toNat = p.val
      rw [hh] at this ⊢; omega
    · replace hpn : (loT (F := Ideal) i T).toNat = p.val := hpn
      have h1 := st_le hT (s := p.val) (v := (tw i).toNat) hp (by omega)
      have h2 := lt_en hT (s := p.val) (v := (tw i).toNat + 16383) hp (by omega) (by rw [← hhi, ← hh]; omega)
      exact H r (by omega) (by omega)
  · rw [if_pos (hs4.2 hh), if_neg (by rw [hs1]; exact hh)]
    have ht : nTrips (F := Ideal) i T = (hiT (F := Ideal) i T).toNat + 1 - (loT (F := Ideal) i T).toNat := segLoop_trips _ _ hle hhi16
    rw [segAcc_le i Y T hT _ _ hlo hhi hle (by omega) X p hp j x _ (le_of_eq ht), ht]
    refine and_congr_right fun _ => ⟨fun H r h1 h2 => ?_, fun H _ _ r h1 h2 => H r (by omega) (by omega)⟩
    have := key r h1 h2
    exact H (by omega) (by omega) r (by omega) (by omega)

variable (m : (ℓ : Loc nD τ sig) → Buf (Elt Ideal) ℓ)

/-- The maxima after both tiles are the segments' maxima. -/
theorem max1_apply (hT : Sorted (Tb m)) (c : Dev nD) (p : Fin 32) (hp : p.val ≤ 16) (j : Fin 128) :
    max1 m c (ix2 p j) = (rowsOf (Tb m) p.val).sup fun n => hh m c n j := by
  refine eq_of_forall_ge_iff fun x => ?_
  unfold max1 max0
  rw [maxNext_le _ _ hT _ _ p hp, maxNext_le _ _ hT _ _ p hp, pay17_apply, Finset.sup_le_iff]
  have e0 : (p0 1).val = 0 := rfl
  have e1 : (p1 1).val = 1 := rfl
  rw [e0, e1]
  constructor
  · rintro ⟨⟨_, h0⟩, h1⟩ n hn
    rw [mem_rowsOf] at hn
    show allRows _ _ n j ≤ x
    unfold allRows
    split
    · exact h0 ⟨n.val, by assumption⟩ (by simpa using hn.1) (by simpa using hn.2)
    · exact h1 ⟨n.val - 16384, by omega⟩ (by show _ ≤ 1 * 16384 + (n.val - 16384); omega) (by show 1 * 16384 + (n.val - 16384) < _; omega)
  · intro H
    refine ⟨⟨bot_le, fun r h1 h2 => ?_⟩, fun r h1 h2 => ?_⟩
    · rw [← allRows_lo (rows0 m c) (rows1 m c)]
      exact H ⟨r.val, by omega⟩ (mem_rowsOf.2 ⟨by simpa using h1, by simpa using h2⟩)
    · rw [← allRows_hi (rows0 m c) (rows1 m c)]
      exact H ⟨16384 + r.val, by omega⟩ (mem_rowsOf.2 ⟨by show _ ≤ 16384 + r.val; omega, by show 16384 + r.val < _; omega⟩)

end Cert.KernelIdeal.Body

end
-- ==== Proof.Outputs.lean ====
/-
  The segments' sums and the kernel's result, read at an index.
-/
module

public import proofs.«01_k».proof.Proof.Maxima

@[expose] public section

noncomputable section

namespace Cert.KernelIdeal.Body

open Cert.KernelIdeal Cert.KernelIdeal.Gen Cert.KernelIdeal.Checks SegWords SegReads SegLayout SegTable Idealize.ShloMosaic.ValueIdx
open Idealize.ShloMosaic
open scoped BigOperators

/-! ## The segments' ends as columns -/

/-- The word `w` added in row `k`. -/
def put (k : ℕ) (w : BitVec 32) (A : IVec S32x1 32) : IVec S32x1 32 :=
  addi A (select (cmpi .eq rowIota (broadcast S32x1 (BitVec.ofNat 32 k))) (broadcast S32x1 w) (broadcast S32x1 0#32))

theorem rowEq (k : ℕ) (hk : k < 32) (p : Fin 32) :
    cmpi .eq rowIota (broadcast S32x1 (BitVec.ofNat 32 k)) (ix2 p 0) = BitVec.ofBool (decide (p.val = k)) := by
  show BitVec.ofBool (rowIota (ix2 p 0) == BitVec.ofNat 32 k) = _
  rw [rowIota_apply, beq_ofNat (by omega), BitVec.toNat_ofNat, Nat.mod_eq_of_lt (by omega)]

theorem put_apply (k : ℕ) (hk : k < 32) (w : BitVec 32) (A : IVec S32x1 32) (p : Fin 32) :
    put k w A (ix2 p 0) = A (ix2 p 0) + if p.val = k then w else 0#32 := by
  show A (ix2 p 0) + Scalar.select (cmpi .eq rowIota (broadcast S32x1 (BitVec.ofNat 32 k)) (ix2 p 0)) w 0#32 = _
  rw [rowEq k hk, sel_dec]

/-- The rows after the last of the segments. -/
theorem ends_apply (T : Vec Ideal S16 .i32) (p : Fin 32) (hp : p.val ≤ 16) :
    put 15 (word T 15) (endsPart (F := Ideal) T) (ix2 p 0) = enW T p.val := by
  have e : endsPart (F := Ideal) T = put 14 (word T 14) (put 13 (word T 13) (put 12 (word T 12) (put 11 (word T 11) (put 10 (word T 10) (put 9 (word T 9)
      (put 8 (word T 8) (put 7 (word T 7) (put 6 (word T 6) (put 5 (word T 5) (put 4 (word T 4) (put 3 (word T 3) (put 2 (word T 2) (put 1 (word T 1)
      (put 0 (word T 0) (select (cmpi .eq rowIota (broadcast S32x1 16#32)) (broadcast S32x1 32768#32) (broadcast S32x1 0#32)))))))))))))))) := rfl
  have e0 : select (cmpi .eq rowIota (broadcast S32x1 16#32)) (broadcast S32x1 32768#32) (broadcast S32x1 0#32) (ix2 p 0)
      = if p.val = 16 then 32768#32 else 0#32 := by
    show Scalar.select (cmpi .eq rowIota (broadcast S32x1 (BitVec.ofNat 32 16)) (ix2 p 0)) 32768#32 0#32 = _
    rw [rowEq 16 (by omega), sel_dec]
  rw [e]
  simp only [put_apply, Nat.reduceLT, e0]
  obtain ⟨s, hs⟩ := p
  simp only at hp ⊢
  unfold enW
  interval_cases s <;> simp

/-- The first rows of the segments. -/
theorem starts_apply (T : Vec Ideal S16 .i32) (p : Fin 32) (hp : p.val ≤ 16) :
    put 16 (word T 15) (startsPart (F := Ideal) T) (ix2 p 0) = stW T p.val := by
  have e : startsPart (F := Ideal) T = put 15 (word T 14) (put 14 (word T 13) (put 13 (word T 12) (put 12 (word T 11) (put 11 (word T 10) (put 10 (word T 9)
      (put 9 (word T 8) (put 8 (word T 7) (put 7 (word T 6) (put 6 (word T 5) (put 5 (word T 4) (put 4 (word T 3) (put 3 (word T 2) (put 2 (word T 1)
      (put 1 (word T 0) (broadcast S32x1 0#32))))))))))))))) := rfl
  rw [e]
  simp only [put_apply, Nat.reduceLT, show broadcast S32x1 0#32 (ix2 p 0) = 0#32 from rfl]
  obtain ⟨s, hs⟩ := p
  simp only at hp ⊢
  unfold stW
  interval_cases s <;> simp

/-- The value `x` added in row `k`. -/
def putF (k : ℕ) (x : EReal) (A : FVec Ideal S32x1 .f32) : FVec Ideal S32x1 .f32 :=
  addf A (select (cmpi .eq rowIota (broadcast S32x1 (BitVec.ofNat 32 k))) (broadcast S32x1 x) (broadcast S32x1 (Ideal.ofBits .f32 0x00000000#32)))

theorem putF_apply (k : ℕ) (hk : k < 32) (x : EReal) (A : FVec Ideal S32x1 .f32) (p : Fin 32) :
    putF k x A (ix2 p 0) = A (ix2 p 0) + if p.val = k then x else 0 := by
  show A (ix2 p 0) + Scalar.select (cmpi .eq rowIota (broadcast S32x1 (BitVec.ofNat 32 k)) (ix2 p 0)) x (Ideal.ofBits .f32 0x00000000#32) = _
  rw [rowEq k hk, sel_dec, Ideal.ofBits_zero_f32]

/-- A word as a value. -/
abbrev fw (w : BitVec 32) : EReal := ((w.toInt : ℝ) : EReal)

theorem endsF_apply (T : Vec Ideal S16 .i32) (p : Fin 32) (hp : p.val ≤ 16) :
    putF 15 (fw (word T 15)) (endsF (F := Ideal) T) (ix2 p 0) = fw (enW T p.val) := by
  have e : endsF (F := Ideal) T = putF 14 (fw (word T 14)) (putF 13 (fw (word T 13)) (putF 12 (fw (word T 12)) (putF 11 (fw (word T 11)) (putF 10 (fw (word T 10))
      (putF 9 (fw (word T 9)) (putF 8 (fw (word T 8)) (putF 7 (fw (word T 7)) (putF 6 (fw (word T 6)) (putF 5 (fw (word T 5)) (putF 4 (fw (word T 4))
      (putF 3 (fw (word T 3)) (putF 2 (fw (word T 2)) (putF 1 (fw (word T 1)) (putF 0 (fw (word T 0)) (select (cmpi .eq rowIota (broadcast S32x1 16#32))
      (broadcast S32x1 Column.cN) (broadcast S32x1 (Ideal.ofBits .f32 0x00000000#32))))))))))))))))) := rfl
  have e0 : select (cmpi .eq rowIota (broadcast S32x1 16#32)) (broadcast S32x1 Column.cN) (broadcast S32x1 (Ideal.ofBits .f32 0x00000000#32)) (ix2 p 0)
      = if p.val = 16 then fw 32768#32 else 0 := by
    show Scalar.select (cmpi .eq rowIota (broadcast S32x1 (BitVec.ofNat 32 16)) (ix2 p 0)) Column.cN (Ideal.ofBits .f32 0x00000000#32) = _
    rw [rowEq 16 (by omega), sel_dec, Ideal.ofBits_zero_f32, Column.cN_eq, fw, show (32768#32 : BitVec 32).toInt = 32768 from by decide]
    norm_cast
  rw [e]
  simp only [putF_apply, Nat.reduceLT, e0]
  obtain ⟨s, hs⟩ := p
  simp only at hp ⊢
  unfold enW
  interval_cases s <;> simp

theorem startsF_apply (T : Vec Ideal S16 .i32) (p : Fin 32) (hp : p.val ≤ 16) :
    putF 16 (fw (word T 15)) (startsF (F := Ideal) T) (ix2 p 0) = fw (stW T p.val) := by
  have e : startsF (F := Ideal) T = putF 15 (fw (word T 14)) (putF 14 (fw (word T 13)) (putF 13 (fw (word T 12)) (putF 12 (fw (word T 11)) (putF 11 (fw (word T 10))
      (putF 10 (fw (word T 9)) (putF 9 (fw (word T 8)) (putF 8 (fw (word T 7)) (putF 7 (fw (word T 6)) (putF 6 (fw (word T 5)) (putF 5 (fw (word T 4))
      (putF 4 (fw (word T 3)) (putF 3 (fw (word T 2)) (putF 2 (fw (word T 1)) (putF 1 (fw (word T 0))
      (broadcast S32x1 (Ideal.ofBits .f32 0x00000000#32)))))))))))))))) := rfl
  rw [e]
  simp only [putF_apply, Nat.reduceLT, show broadcast S32x1 (Ideal.ofBits .f32 0x00000000#32) (ix2 p 0) = 0 from Ideal.ofBits_zero_f32]
  obtain ⟨s, hs⟩ := p
  simp only at hp ⊢
  unfold stW
  interval_cases s <;> simp [fw]

/-- The number of rows of a segment. -/
theorem pay52_apply (T : Vec Ideal S16 .i32) (hT : Sorted T) (p : Fin 32) (hp : p.val ≤ 16) :
    k0_pay52 (F := Ideal) rowIota (endsF T) (startsF T) (k0_pay50 (word T 15)) k0_pay51 (ix2 p 0) = (((rowsOf T p.val).card : ℝ) : EReal) := by
  have e : k0_pay52 (F := Ideal) rowIota (endsF T) (startsF T) (k0_pay50 (word T 15)) k0_pay51 (ix2 p 0)
      = putF 15 (fw (word T 15)) (endsF (F := Ideal) T) (ix2 p 0) - putF 16 (fw (word T 15)) (startsF (F := Ideal) T) (ix2 p 0) := rfl
  have h1 := st_le_en hT hp
  have h2 := en_le hT hp
  rw [e, endsF_apply T p hp, startsF_apply T p hp, fw, fw, toInt_small (by rw [enW_nat]; omega), toInt_small (by rw [stW_nat]; omega), enW_nat, stW_nat,
    Column.sub_coe, card_rowsOf hT hp, Nat.cast_sub h1]
  norm_cast

/-! ## The segments' sums -/

theorem pay60_apply (Y : FVec Ideal S16384x128 .f32) (SH : Vec Ideal S1x128 .f32) (r : Fin 16384) (j : Fin 128) :
    k0_pay60 (F := Ideal) (fun x => Y (ix2 (x 1) (x 2))) SH (ix2 r j) = max (Y (ix2 r j)) (SH (ix2 0 j)) := by
  unfold k0_pay60
  rw [maximumf_apply, broadcastTo_1b_ab_apply]
  exact congrArg (max · _) (shapeCast_1ab_ab_apply _ _ r j)

/-- A tile's rows of a segment are added. -/
theorem sumNext_apply (i : grid0.Coords) (T : Vec Ideal S16 .i32) (hT : Sorted T) (Y : FVec Ideal S16384x128 .f32) (SH : Vec Ideal S1x128 .f32)
    (X : Vec Ideal S32x128 .f32) (p : Fin 32) (hp : p.val ≤ 16) (j : Fin 128) :
    sumNext (F := Ideal) i T (fun x => Y (ix2 (x 1) (x 2))) SH X (ix2 p j)
      = X (ix2 p j) + ∑ r : Fin 16384, if SegTable.st T p.val ≤ (i 1).val * 16384 + r.val ∧ (i 1).val * 16384 + r.val < en T p.val
          then max (Y (ix2 r j)) (SH (ix2 0 j)) else 0 := by
  have hi1 : (i 1).val < 2 := (i 1).isLt
  have h1 := st_le_en hT hp
  have h2 := en_le hT hp
  -- the mask, as a value
  have hm : ∀ r : Fin 16384, (sitofp .f32 (extui 32 (andi
      (cmpi .sge (addi (broadcast S32x16384 (tw i)) (iota .tc S32x16384 32 [1] iota_S32x16384_d1_w32))
        (broadcastTo S32x16384 (put 16 (word T 15) (startsPart (F := Ideal) T)) broadcasts_S32x1_S32x16384))
      (cmpi .slt (addi (broadcast S32x16384 (tw i)) (iota .tc S32x16384 32 [1] iota_S32x16384_d1_w32))
        (broadcastTo S32x16384 (put 15 (word T 15) (endsPart (F := Ideal) T)) broadcasts_S32x1_S32x16384))) natLt_1_32) : FVec Ideal S32x16384 .f32) (ix2 p r)
      = if SegTable.st T p.val ≤ (i 1).val * 16384 + r.val ∧ (i 1).val * 16384 + r.val < en T p.val then (1 : EReal) else 0 := fun r => by
    have hr : (tw i + BitVec.ofNat 32 r.val).toNat = (i 1).val * 16384 + r.val := by
      have h := tw_nat i
      have h' : (BitVec.ofNat 32 r.val).toNat = r.val := by rw [BitVec.toNat_ofNat]; omega
      rw [add_nat (by omega), h, h']
    have hio : iota .tc S32x16384 32 [1] iota_S32x16384_d1_w32 (ix2 p r) = BitVec.ofNat 32 r.val := iota_single_apply _ _ _ _ _ _
    show ((((IntOp.andi (BitVec.ofBool (BitVec.sle (broadcastTo S32x16384 (put 16 (word T 15) (startsPart (F := Ideal) T)) broadcasts_S32x1_S32x16384 (ix2 p r))
        (tw i + iota .tc S32x16384 32 [1] iota_S32x16384_d1_w32 (ix2 p r))))
      (BitVec.ofBool (BitVec.slt (tw i + iota .tc S32x16384 32 [1] iota_S32x16384_d1_w32 (ix2 p r))
        (broadcastTo S32x16384 (put 15 (word T 15) (endsPart (F := Ideal) T)) broadcasts_S32x1_S32x16384 (ix2 p r))))).setWidth 32).toInt : ℝ) : EReal) = _
    rw [bcastCol, bcastCol, starts_apply T p hp, ends_apply T p hp, hio, sle_nat (by rw [stW_nat]; omega) (by omega), slt_nat (by omega) (by rw [enW_nat]; omega),
      hr, stW_nat, enW_nat, WordArith.andi_ofBool, ← Bool.decide_and]
    split
    · rename_i h; rw [decide_eq_true h]; simp
    · rename_i h; rw [decide_eq_false h]; simp
  unfold sumNext k0_pay5
  rw [shapeCast_self, addf_apply]
  refine congrArg (X (ix2 p j) + ·) ?_
  refine (plain_zero _ _ p j).trans (Finset.sum_congr rfl fun r _ => ?_)
  rw [pay60_apply]
  refine (congrArg (· * _) (hm r)).trans ?_
  rw [ite_mul, one_mul, zero_mul]

/-! ## The result -/

variable (m : (ℓ : Loc nD τ sig) → Buf (Elt Ideal) ℓ)

/-- The sums after both tiles are the segments' sums. -/
theorem seg1_apply (hT : Sorted (Tb m)) (c : Dev nD) (p : Fin 32) (hp : p.val ≤ 16) (j : Fin 128) :
    seg1 m c (ix2 p j) = ∑ n ∈ rowsOf (Tb m) p.val, max (hh m c n j) (shf m c (ix2 0 j)) := by
  unfold seg1 seg0
  rw [sumNext_apply _ _ hT _ _ _ p hp, sumNext_apply _ _ hT _ _ _ p hp, pay59_apply, zero_add, rowsOf, Finset.sum_filter, sum_tiles]
  simp only [allRows_lo, allRows_hi]
  have e0 : (p2 1).val = 0 := rfl
  have e1 : (p3 1).val = 1 := rfl
  rw [e0, e1]
  refine congrArg₂ (· + ·) (Finset.sum_congr rfl fun r _ => ?_) (Finset.sum_congr rfl fun r _ => ?_)
  · simp only [Nat.zero_mul, Nat.zero_add]
  · simp only [Nat.one_mul]

/-- The kernel's result at row `p`, column `o`. -/
theorem outVec_apply (T : Vec Ideal S16 .i32) (hT : Sorted T) (M SU : Vec Ideal S32x128 .f32) (SC SH : Vec Ideal S1x128 .f32)
    (WX WN : Vec Ideal S128x128 .f32) (BO : Vec Ideal S1x128 .f32) (p : Fin 32) (hp : p.val ≤ 16) (o : Fin 128) :
    outVec (F := Ideal) T M SU SC SH WX WN BO (ix2 p o)
      = (∑ j : Fin 128, Column.kMax (((rowsOf T p.val).card : ℝ) : EReal) (SC (ix2 0 j)) (SH (ix2 0 j)) (M (ix2 p j)) * WX (ix2 j o))
        + (∑ j : Fin 128, Column.kMean (((rowsOf T p.val).card : ℝ) : EReal) (SC (ix2 0 j)) (SH (ix2 0 j)) (SU (ix2 p j)) * WN (ix2 j o))
        + BO (ix2 0 o) := by
  have hc := pay52_apply T hT p hp
  have h54 : ∀ j : Fin 128, k0_pay54 (F := Ideal) rowIota (endsF T) (startsF T) (k0_pay50 (word T 15)) k0_pay51 SC M SH (ix2 p j)
      = Column.kMax (((rowsOf T p.val).card : ℝ) : EReal) (SC (ix2 0 j)) (SH (ix2 0 j)) (M (ix2 p j)) := fun j => by
    unfold k0_pay54 Column.kMax
    rw [select_apply, bcastCol, shapeCast_self, mulf_apply, maximumf_apply, subf_apply, broadcastTo_1b_ab_apply, broadcastTo_1b_ab_apply, ← hc]
    show Scalar.select (Ideal.cmp .ogt _ (Ideal.ofBits .f32 0x00000000#32)) (_ * max _ (Ideal.ofBits .f32 0x00000000#32)) (Ideal.ofBits .f32 0x00000000#32) = _
    rw [Ideal.ofBits_zero_f32]
  have h53 : ∀ j : Fin 128, k0_pay53 (F := Ideal) rowIota (endsF T) (startsF T) (k0_pay50 (word T 15)) k0_pay51 SU SH SC (ix2 p j)
      = Column.kMean (((rowsOf T p.val).card : ℝ) : EReal) (SC (ix2 0 j)) (SH (ix2 0 j)) (SU (ix2 p j)) := fun j => by
    unfold k0_pay53 Column.kMean
    rw [divf_apply, mulf_apply, subf_apply, mulf_apply, broadcastTo_1b_ab_apply, broadcastTo_1b_ab_apply, bcastCol, bcastCol, maximumf_apply, ← hc]
    show Ideal.div _ (max _ (Ideal.ofBits .f32 0x3F800000#32)) = _
    rw [Ideal.ofBits_one_f32]
  unfold outVec k0_pay6
  rw [addf_apply, addf_apply, shapeCast_self, shapeCast_self, shapeCast_self, broadcastTo_1b_ab_apply]
  refine congrArg (· + _) (congrArg₂ (· + ·) ?_ ?_)
  · refine (plain_zero _ _ p o).trans (Finset.sum_congr rfl fun j _ => ?_)
    rw [h54]
  · refine (plain_zero _ _ p o).trans (Finset.sum_congr rfl fun j _ => ?_)
    rw [h53]

end Cert.KernelIdeal.Body

end
-- ==== Proof.Operands.lean ====
/-
  The kernel's blocks as entries of the arguments.
-/
module

public import proofs.«01_k».proof.Proof.Outputs
public import proofs.«01_k».proof.Proof.Run_KernelIdeal

@[expose] public section

noncomputable section

namespace Cert.KernelIdeal.Body

open Cert.KernelIdeal Cert.KernelIdeal.Gen Cert.KernelIdeal.Checks SegWords SegReads SegLayout SegTable Idealize.ShloMosaic.ValueIdx
open Idealize.ShloMosaic Idealize.ShloMosaic.TcCoe
open scoped BigOperators

variable (m : (ℓ : Loc nD τ sig) → Buf (Elt Ideal) ℓ)

/-- The arguments on a device. -/
abbrev aX (c : Dev nD) : FVec Ideal S32768x128 .f32 := m ((c : Thread nD τ).loc main_arg0)
abbrev aT (c : Dev nD) : IVec S16 32 := m ((c : Thread nD τ).loc main_arg1)
abbrev aW (c : Dev nD) : FVec Ideal S128x128 .f32 := m ((c : Thread nD τ).loc main_arg2)
abbrev aG (c : Dev nD) : FVec Ideal S128 .f32 := m ((c : Thread nD τ).loc main_arg4)
abbrev aBe (c : Dev nD) : FVec Ideal S128 .f32 := m ((c : Thread nD τ).loc main_arg5)
abbrev aWo (c : Dev nD) : FVec Ideal S128x256 .f32 := m ((c : Thread nD τ).loc main_arg6)
abbrev aBo (c : Dev nD) : FVec Ideal S128 .f32 := m ((c : Thread nD τ).loc main_arg7)

theorem V_w (c : Dev nD) : V₀ m c (Proc.devRef .tc main_v0) = transpose S128x128 [1, 0] (aW m c) transposes_S128x128_S128x128_1_0 := by
  simp only [V₀, List.flatten_cons, List.flatten_nil, List.append_nil, hostOps0]
  after_results_simp

theorem V_wx (c : Dev nD) : V₀ m c (Proc.devRef .tc main_v2)
    = transpose S128x128 [1, 0] (extractStridedSlice S128x128 ![0, 0] (aWo m c) slices_S128x256_S128x128_0_0) transposes_S128x128_S128x128_1_0 := by
  simp only [V₀, List.flatten_cons, List.flatten_nil, List.append_nil, hostOps0]
  after_results_simp

theorem V_wn (c : Dev nD) : V₀ m c (Proc.devRef .tc main_v4)
    = transpose S128x128 [1, 0] (extractStridedSlice S128x128 ![0, 128] (aWo m c) slices_S128x256_S128x128_0_128) transposes_S128x128_S128x128_1_0 := by
  simp only [V₀, List.flatten_cons, List.flatten_nil, List.append_nil, hostOps0]
  after_results_simp

theorem V_g (c : Dev nD) : V₀ m c (Proc.devRef .tc main_v5) = shapeCast S1x128 (aG m c) shapeCasts_S128_S1x128 := by
  simp only [V₀, List.flatten_cons, List.flatten_nil, List.append_nil, hostOps0]
  after_results_simp
  rfl

theorem V_be (c : Dev nD) : V₀ m c (Proc.devRef .tc main_v6) = shapeCast S1x128 (aBe m c) shapeCasts_S128_S1x128 := by
  simp only [V₀, List.flatten_cons, List.flatten_nil, List.append_nil, hostOps0]
  after_results_simp
  rfl

theorem V_bo (c : Dev nD) : V₀ m c (Proc.devRef .tc main_v7) = shapeCast S1x128 (aBo m c) shapeCasts_S128_S1x128 := by
  simp only [V₀, List.flatten_cons, List.flatten_nil, List.append_nil, hostOps0]
  after_results_simp
  rfl

theorem bW_apply (c : Dev nD) (t : Fin grid0.N) (k j : Fin 128) : bW m c t (ix2 k j) = aW m c (ix2 j k) := by
  have e : bW m c t (ix2 k j) = V₀ m c (Proc.devRef .tc main_v0) (ix2 k j) := by
    refine congrArg (V₀ m c (Proc.devRef .tc main_v0)) (funext fun a => Fin.ext ?_)
    exact Pipeline.Window.rect_emb_val_of_index_zero ((cfgT m).win 1) t a (by match a with | ⟨0, _⟩ => rfl | ⟨1, _⟩ => rfl) (ix2 k j)
  rw [e, V_w, transpose_ix2_apply]

theorem tile_first : cc0_transform_0 (grid0.coords t0_0) 0 = 0 := by decide +kernel
theorem tile_second : cc0_transform_0 (grid0.coords t0_1) 0 = 1 := by decide +kernel

theorem tile_index (t : Fin grid0.N) : ((cfgT m).win 0).index t = cc0_transform_0 (grid0.coords t) := rfl

theorem tile_first0 (a : Fin ((cfgT m).win 0).shape.rank) : ((cfgT m).win 0).index t0_0 a = 0 := by
  rw [tile_index]
  match a with
  | ⟨0, _⟩ => exact tile_first
  | ⟨1, _⟩ => rfl

theorem bX_first (c : Dev nD) (r : Fin 16384) (k : Fin 128) : bX m c t0_0 (ix2 r k) = aX m c (ix2 ⟨r.val, by omega⟩ k) := by
  have e : bX m c t0_0 (ix2 r k) = V₀ m c (Proc.devRef .tc main_arg0) (ix2 ⟨r.val, by omega⟩ k) := by
    refine congrArg (V₀ m c (Proc.devRef .tc main_arg0)) (funext fun a => Fin.ext ?_)
    refine (Pipeline.Window.rect_emb_val_of_index_zero ((cfgT m).win 0) t0_0 a (tile_first0 m a) (ix2 r k)).trans ?_
    match a with
    | ⟨0, _⟩ => rfl
    | ⟨1, _⟩ => rfl
  rw [e, V₀_kept m c main_arg0 (by decide)]

theorem bX_second (c : Dev nD) (r : Fin 16384) (k : Fin 128) : bX m c t0_1 (ix2 r k) = aX m c (ix2 ⟨16384 + r.val, by omega⟩ k) := by
  have e : bX m c t0_1 (ix2 r k) = V₀ m c (Proc.devRef .tc main_arg0) (ix2 ⟨16384 + r.val, by omega⟩ k) := by
    refine congrArg (V₀ m c (Proc.devRef .tc main_arg0)) (funext fun a => Fin.ext ?_)
    refine (Pipeline.Window.rect_emb_val ((cfgT m).win 0) t0_1 (ix2 r k) a rfl).trans ?_
    rw [tile_index]
    match a with
    | ⟨0, _⟩ => exact (congrArg (fun i => i * 16384 + r.val) tile_second).trans (by rw [Nat.one_mul])
    | ⟨1, _⟩ => exact Nat.zero_add k.val
  rw [e, V₀_kept m c main_arg0 (by decide)]

theorem bGA_apply (c : Dev nD) (t : Fin grid0.N) (u : Fin 1) (j : Fin 128) : bGA m c t (ix2 u j) = aG m c (ix1 j) := by
  have e : bGA m c t (ix2 u j) = V₀ m c (Proc.devRef .tc main_v5) (ix2 u j) := by
    refine congrArg (V₀ m c (Proc.devRef .tc main_v5)) (funext fun a => Fin.ext ?_)
    exact Pipeline.Window.rect_emb_val_of_index_zero ((cfgT m).win 2) t a (by match a with | ⟨0, _⟩ => rfl | ⟨1, _⟩ => rfl) (ix2 u j)
  rw [e, V_g, shapeCast_a_1a_apply]

theorem bBE_apply (c : Dev nD) (t : Fin grid0.N) (u : Fin 1) (j : Fin 128) : bBE m c t (ix2 u j) = aBe m c (ix1 j) := by
  have e : bBE m c t (ix2 u j) = V₀ m c (Proc.devRef .tc main_v6) (ix2 u j) := by
    refine congrArg (V₀ m c (Proc.devRef .tc main_v6)) (funext fun a => Fin.ext ?_)
    exact Pipeline.Window.rect_emb_val_of_index_zero ((cfgT m).win 3) t a (by match a with | ⟨0, _⟩ => rfl | ⟨1, _⟩ => rfl) (ix2 u j)
  rw [e, V_be, shapeCast_a_1a_apply]

theorem bBO_apply (c : Dev nD) (t : Fin grid0.N) (u : Fin 1) (j : Fin 128) : bBO m c t (ix2 u j) = aBo m c (ix1 j) := by
  have e : bBO m c t (ix2 u j) = V₀ m c (Proc.devRef .tc main_v7) (ix2 u j) := by
    refine congrArg (V₀ m c (Proc.devRef .tc main_v7)) (funext fun a => Fin.ext ?_)
    exact Pipeline.Window.rect_emb_val_of_index_zero ((cfgT m).win 6) t a (by match a with | ⟨0, _⟩ => rfl | ⟨1, _⟩ => rfl) (ix2 u j)
  rw [e, V_bo, shapeCast_a_1a_apply]

theorem bWX_apply (c : Dev nD) (t : Fin grid0.N) (j o : Fin 128) : bWX m c t (ix2 j o) = aWo m c (ix2 o (Fin.castAdd 128 j)) := by
  have e : bWX m c t (ix2 j o) = V₀ m c (Proc.devRef .tc main_v2) (ix2 j o) := by
    refine congrArg (V₀ m c (Proc.devRef .tc main_v2)) (funext fun a => Fin.ext ?_)
    exact Pipeline.Window.rect_emb_val_of_index_zero ((cfgT m).win 4) t a (by match a with | ⟨0, _⟩ => rfl | ⟨1, _⟩ => rfl) (ix2 j o)
  rw [e, V_wx, transpose_ix2_apply]
  exact extractStridedSlice_apply _ _ _ _ (ix2 o (Fin.castAdd 128 j)) fun a => match a with
    | ⟨0, _⟩ => (Nat.zero_add _).symm
    | ⟨1, _⟩ => (Nat.zero_add _).symm

theorem bWN_apply (c : Dev nD) (t : Fin grid0.N) (j o : Fin 128) : bWN m c t (ix2 j o) = aWo m c (ix2 o (Fin.natAdd 128 j)) := by
  have e : bWN m c t (ix2 j o) = V₀ m c (Proc.devRef .tc main_v4) (ix2 j o) := by
    refine congrArg (V₀ m c (Proc.devRef .tc main_v4)) (funext fun a => Fin.ext ?_)
    exact Pipeline.Window.rect_emb_val_of_index_zero ((cfgT m).win 5) t a (by match a with | ⟨0, _⟩ => rfl | ⟨1, _⟩ => rfl) (ix2 j o)
  rw [e, V_wn, transpose_ix2_apply]
  exact extractStridedSlice_apply _ _ _ _ (ix2 o (Fin.natAdd 128 j)) fun a => match a with
    | ⟨0, _⟩ => (Nat.zero_add _).symm
    | ⟨1, _⟩ => rfl

/-- The kernel's table of offsets is the second argument. -/
theorem Tb_eq (c : Dev nD) : Tb m = aT m c := by
  obtain rfl : c = 0 := Subsingleton.elim _ _
  exact V₀_table m 0

/-- The kernel's product rows, all of them. -/
theorem hh_apply (c : Dev nD) (n : Fin 32768) (j : Fin 128) : hh m c n j = ∑ k, aX m c (ix2 n k) * aW m c (ix2 j k) := by
  by_cases h : n.val < 16384
  · rw [hh, allRows, dif_pos h, rows0, pay18_apply]
    simp only [bX_first, bW_apply]
  · rw [hh, allRows, dif_neg h, rows1, pay18_apply]
    have e : (⟨16384 + (n.val - 16384), by omega⟩ : Fin 32768) = n := Fin.ext (by show 16384 + (n.val - 16384) = n.val; omega)
    simp only [bX_second, bW_apply, e]

end Cert.KernelIdeal.Body

end
-- ==== Proof.RefTerm.lean ====
/-
  The reference's result, in named stages.
-/
module

public import proofs.«01_k».proof.Proof.Gen.ReferenceIdeal.Run
public import Idealize.ShloMosaic.Lib.IdealHost

@[expose] public section

noncomputable section

namespace RefTerm

open Cert.ReferenceIdeal Cert.ReferenceIdeal.Gen Cert.ReferenceIdeal.Value Idealize.ShloMosaic Idealize.ShloMosaic.TcCoe
open scoped BigOperators

/-- A row of 128 repeated over the 32768 rows. -/
def down (x : FVec Ideal S1x128 .f32) : FVec Ideal S32768x128 .f32 := broadcastInDim S32768x128 ![0, 1] bcast_S1x128_S32768x128_0_1 x
/-- A vector of 128 as a row. -/
def asRow (x : FVec Ideal S128 .f32) : FVec Ideal S1x128 .f32 := broadcastInDim S1x128 ![1] bcast_S128_S1x128_1 x
/-- A number repeated over a row. -/
def fill (x : FVec Ideal S_ .f32) : FVec Ideal S1x128 .f32 := broadcastInDim S1x128 ![] bcast_S_S1x128 x

/-- The linear layer. -/
def lin (X : FVec Ideal S32768x128 .f32) (W : FVec Ideal S128x128 .f32) (b : FVec Ideal S128 .f32) : FVec Ideal S32768x128 .f32 :=
  addf (Host.dotGeneral dot_S32768x128_S128x128_S32768x128_1_0_0_1_n_n none X (transpose S128x128 [1, 0] W transposes_S128x128_S128x128_1_0)) (down (asRow b))
/-- The column sums, as a row. -/
def colSums (H : FVec Ideal S32768x128 .f32) : FVec Ideal S1x128 .f32 :=
  asRow (Host.reduceAdd H (constant S_ .f32 0x00000000#32) reducesTo_S32768x128_S128_d0 h_S_)
/-- The columns' means. -/
def mean (H : FVec Ideal S32768x128 .f32) : FVec Ideal S1x128 .f32 := Host.divf (colSums H) (fill (constant S_ .f32 0x47000000#32))
/-- The deviations from the mean. -/
def dev (H : FVec Ideal S32768x128 .f32) : FVec Ideal S32768x128 .f32 := subf H (down (mean H))
/-- The number of rows as the variance divides by it. -/
def rowsF : FVec Ideal S_ .f32 := subf (constant S_ .f32 0x47000000#32) (sitofp .f32 (constantI S_ 32 0#32))
/-- The columns' variances. -/
def var (H : FVec Ideal S32768x128 .f32) : FVec Ideal S1x128 .f32 :=
  select (broadcastInDim S1x128 ![] bcast_S_S1x128 (cmpf .ogt rowsF (constant S_ .f32 0x00000000#32)))
    (Host.divf (colSums (mulf (dev H) (dev H))) (fill rowsF)) (fill (id (constant S_ .f32 0x7FC00000#32)))
/-- The normalised, scaled and rectified layer. -/
def norm (H : FVec Ideal S32768x128 .f32) (g be : FVec Ideal S128 .f32) : FVec Ideal S32768x128 .f32 :=
  maximumf (addf (mulf (Host.divf (dev H) (down (Host.sqrt (addf (var H) (fill (constant S_ .f32 0x3727C5AC#32)))))) (down (asRow g))) (down (asRow be)))
    (broadcastInDim S32768x128 ![] bcast_S_S32768x128 (constant S_ .f32 0x00000000#32))
/-- The segment of each row. -/
def batch (T : IVec S16 32) : IVec S32768 32 :=
  Host.reduce IntOp.addi (extui 32 (cmpi .sle (broadcastInDim S32768x16 ![0, 1] bcast_S1x16_S32768x16_0_1 (broadcastInDim S1x16 ![1] bcast_S16_S1x16_1 T))
    (broadcastInDim S32768x16 ![0, 1] bcast_S32768x1_S32768x16_0_1 (broadcastInDim S32768x1 ![0] bcast_S32768_S32768x1_0 (iotaInDim S32768 32 0)))) natLt_1_32)
    (constantI S_ 32 0#32) reducesTo_S32768x16_S32768_d1 h_S_
/-- Which rows a segment has. -/
def member (b : IVec S32768 32) : IVec S17x32768 1 :=
  cmpi .eq (broadcastInDim S17x32768 ![0, 1] bcast_S1x32768_S17x32768_0_1 (broadcastInDim S1x32768 ![1] bcast_S32768_S1x32768_1 b))
    (broadcastInDim S17x32768 ![0, 1] bcast_S17x1_S17x32768_0_1 (broadcastInDim S17x1 ![0] bcast_S17_S17x1_0 (iotaInDim S17 32 0)))
/-- The rows, those outside a segment at minus infinity. -/
def masked (M : IVec S17x32768 1) (Y : FVec Ideal S32768x128 .f32) : FVec Ideal S17x32768x128 .f32 :=
  select (broadcastInDim S17x32768x128 ![0, 1, 2] bcast_S17x32768x1_S17x32768x128_0_1_2 (broadcastInDim S17x32768x1 ![0, 1] bcast_S17x32768_S17x32768x1_0_1 M))
    (broadcastInDim S17x32768x128 ![0, 1, 2] bcast_S1x32768x128_S17x32768x128_0_1_2 (broadcastInDim S1x32768x128 ![1, 2] bcast_S32768x128_S1x32768x128_1_2 Y))
    (broadcastInDim S17x32768x128 ![] bcast_S_S17x32768x128 (id (constant S_ .f32 0xFF800000#32)))
/-- The segments' maxima. -/
def tops (M : IVec S17x32768 1) (Y : FVec Ideal S32768x128 .f32) : FVec Ideal S17x128 .f32 :=
  Host.reduce FloatOps.maximumf (masked M Y) (constant S_ .f32 0xFF800000#32) reducesTo_S17x32768x128_S17x128_d1 h_S_
/-- The segments' maxima, an empty segment's at zero. -/
def maxes (M : IVec S17x32768 1) (Y : FVec Ideal S32768x128 .f32) : FVec Ideal S17x128 .f32 :=
  select (cmpf .olt (Host.absf (tops M Y)) (broadcastInDim S17x128 ![] bcast_S_S17x128 (constant S_ .f32 0x7F800000#32))) (tops M Y)
    (broadcastInDim S17x128 ![] bcast_S_S17x128 (id (constant S_ .f32 0x00000000#32)))
/-- The segments' sums. -/
def sums (b : IVec S32768 32) (Y : FVec Ideal S32768x128 .f32) : FVec Ideal S17x128 .f32 :=
  Host.scatterAdd scatter_S17x128_S32768x1_S32768x128_1_0_0_1 (broadcastInDim S17x128 ![] bcast_S_S17x128 (constant S_ .f32 0x00000000#32))
    (broadcastInDim S32768x1 ![0] bcast_S32768_S32768x1_0 b) Y
/-- The segments' numbers of rows. -/
def counts (b : IVec S32768 32) : FVec Ideal S17x1 .f32 :=
  Host.scatterAdd scatter_S17x1_S32768x1_S32768x1_1_0_0_1 (broadcastInDim S17x1 ![] bcast_S_S17x1 (constant S_ .f32 0x00000000#32))
    (broadcastInDim S32768x1 ![0] bcast_S32768_S32768x1_0 b) (broadcastInDim S32768x1 ![] bcast_S_S32768x1 (constant S_ .f32 0x3F800000#32))
/-- The segments' means. -/
def means (b : IVec S32768 32) (Y : FVec Ideal S32768x128 .f32) : FVec Ideal S17x128 .f32 :=
  Host.divf (sums b Y) (broadcastInDim S17x128 ![0, 1] bcast_S17x1_S17x128_0_1
    (maximumf (counts b) (broadcastInDim S17x1 ![] bcast_S_S17x1 (constant S_ .f32 0x3F800000#32))))
/-- The output layer. -/
def outLayer (A B : FVec Ideal S17x128 .f32) (Wo : FVec Ideal S128x256 .f32) (bo : FVec Ideal S128 .f32) : FVec Ideal S17x128 .f32 :=
  addf (Host.dotGeneral dot_S17x256_S256x128_S17x128_1_0_0_1_n_n none (concatenate S17x256 1 [⟨S17x128, A⟩, ⟨S17x128, B⟩] concatenates_S17x128_S17x128_S17x256_d1)
      (transpose S256x128 [1, 0] Wo transposes_S128x256_S256x128_1_0))
    (broadcastInDim S17x128 ![0, 1] bcast_S1x128_S17x128_0_1 (broadcastInDim S1x128 ![1] bcast_S128_S1x128_1 bo))

/-- The reference's result. -/
def result (X : FVec Ideal S32768x128 .f32) (T : IVec S16 32) (W : FVec Ideal S128x128 .f32) (b g be : FVec Ideal S128 .f32)
    (Wo : FVec Ideal S128x256 .f32) (bo : FVec Ideal S128 .f32) : FVec Ideal S17x128 .f32 :=
  outLayer (maxes (member (batch T)) (norm (lin X W b) g be)) (means (batch T) (norm (lin X W b) g be)) Wo bo

set_option maxRecDepth 8192 in
theorem result_eq (m : (ℓ : Loc nD τ sig) → Buf (Elt Ideal) ℓ) (c : Dev nD) :
    res_main_v62 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := rfl

end RefTerm

end
-- ==== Proof.RefReads.lean ====
/-
  The stages of the reference, read at an index.
-/
module

public import proofs.«01_k».proof.Proof.RefTerm
public import proofs.«01_k».proof.Proof.Layout
public import proofs.«01_k».proof.Proof.Segments
public import Idealize.ShloMosaic.Lib.StackMember
public import Idealize.ShloMosaic.Lib.StableHlo.Predicate
public import Idealize.ShloMosaic.Lib.Routing.OpsPair

@[expose] public section

noncomputable section

namespace RefTerm

open Cert.ReferenceIdeal Cert.ReferenceIdeal.Gen Idealize.ShloMosaic Idealize.ShloMosaic.ValueIdx SegTable SegLayout SegWords SegReads
open scoped BigOperators

/-! ## The normalised layer -/

theorem down_apply (x : FVec Ideal S1x128 .f32) (n : Fin 32768) (j : Fin 128) : down x (ix2 n j) = x (ix2 0 j) :=
  broadcastInDim_apply _ _ _ _ (ix2 (0 : Fin 1) j) fun a => match a with | ⟨0, _⟩ => rfl | ⟨1, _⟩ => rfl

theorem asRow_apply (x : FVec Ideal S128 .f32) (p : Fin 1) (j : Fin 128) : asRow x (ix2 p j) = x (ix1 j) :=
  broadcastInDim_apply _ _ _ _ (ix1 j) fun a => match a with | ⟨0, _⟩ => rfl

theorem fill_apply (x : FVec Ideal S_ .f32) (p : Fin 1) (j : Fin 128) : fill x (ix2 p j) = x ix0 := broadcastInDim_scalar_apply _ _ _

theorem lin_apply (X : FVec Ideal S32768x128 .f32) (W : FVec Ideal S128x128 .f32) (b : FVec Ideal S128 .f32) (n : Fin 32768) (j : Fin 128) :
    lin X W b (ix2 n j) = (∑ k : Fin 128, X (ix2 n k) * W (ix2 j k)) + b (ix1 j) := by
  unfold lin
  rw [addf_apply, down_apply, asRow_apply]
  refine congrArg (· + _) ((StackMember.dotGeneral_plain_apply none X _ n j).trans (Finset.sum_congr rfl fun k _ => ?_))
  rw [transpose_ix2_apply]

theorem colSums_apply (H : FVec Ideal S32768x128 .f32) (p : Fin 1) (j : Fin 128) : colSums H (ix2 p j) = 0 + ∑ n, H (ix2 n j) := by
  unfold colSums
  rw [asRow_apply, hostReduceAdd_apply, Ideal.hostReduceAdd_single _ (by decide : S32768x128.Reduces [0] S128)]
  refine congrArg₂ (· + ·) Ideal.ofBits_zero_f32 (Finset.sum_congr rfl fun n _ => congrArg H ?_)
  funext d; match d with | ⟨0, _⟩ => rfl | ⟨1, _⟩ => rfl

theorem mean_apply (H : FVec Ideal S32768x128 .f32) (p : Fin 1) (j : Fin 128) : mean H (ix2 p j) = Column.rMu fun n => H (ix2 n j) := by
  unfold mean
  rw [hostDivf_apply, colSums_apply, fill_apply]
  rfl

theorem dev_apply (H : FVec Ideal S32768x128 .f32) (n : Fin 32768) (j : Fin 128) :
    dev H (ix2 n j) = H (ix2 n j) - Column.rMu fun n => H (ix2 n j) := by
  unfold dev
  rw [subf_apply, down_apply, mean_apply]

theorem var_apply (H : FVec Ideal S32768x128 .f32) (p : Fin 1) (j : Fin 128) : var H (ix2 p j) = Column.rVar fun n => H (ix2 n j) := by
  unfold var
  rw [select_apply, broadcastInDim_scalar_apply, hostDivf_apply, colSums_apply, fill_apply, fill_apply]
  simp only [mulf_apply, dev_apply]
  show Scalar.select (Ideal.cmp .ogt _ (Ideal.ofBits .f32 0x00000000#32)) _ _ = _
  rw [Ideal.ofBits_zero_f32]
  rfl

theorem norm_apply (H : FVec Ideal S32768x128 .f32) (g be : FVec Ideal S128 .f32) (n : Fin 32768) (j : Fin 128) :
    norm H g be (ix2 n j) = Column.rY (fun n => H (ix2 n j)) (g (ix1 j)) (be (ix1 j)) n := by
  unfold norm
  rw [maximumf_apply, addf_apply, mulf_apply, hostDivf_apply, dev_apply, down_apply, down_apply, down_apply, asRow_apply, asRow_apply, broadcastInDim_scalar_apply]
  show max (Ideal.div _ (Ideal.sqrt (addf (var H) _ (ix2 0 j))) * _ + _) (Ideal.ofBits .f32 0x00000000#32) = _
  rw [addf_apply, var_apply, fill_apply, Ideal.ofBits_zero_f32]
  rfl

/-! ## The segments -/

variable {T : IVec S16 32} (hT : Sorted T)

include hT

theorem batch_apply (n : Fin 32768) : (batch T (ix1 n)).toNat = cnt T n.val := by
  unfold batch
  rw [StableHlo.Predicate.toNat_reduce_count_cols (by omega), cnt_sum, Finset.sum_range, ← Finset.card_filter]
  refine congrArg Finset.card (Finset.filter_congr fun q _ => ?_)
  have hq := hT.lt q.val q.isLt
  have e1 : broadcastInDim S32768x16 ![0, 1] bcast_S1x16_S32768x16_0_1 (broadcastInDim S1x16 ![1] bcast_S16_S1x16_1 T) (ix2 n q) = word T q.val := by
    refine (broadcastInDim_apply _ _ _ _ (ix2 (0 : Fin 1) q) fun a => match a with | ⟨0, _⟩ => rfl | ⟨1, _⟩ => rfl).trans ?_
    refine (broadcastInDim_apply _ _ _ _ (ix1 q) fun a => match a with | ⟨0, _⟩ => rfl).trans ?_
    exact congrArg (fun a => T (ix1 a)) (Fin.ext (Nat.mod_eq_of_lt q.isLt).symm)
  have e2 : broadcastInDim S32768x16 ![0, 1] bcast_S32768x1_S32768x16_0_1 (broadcastInDim S32768x1 ![0] bcast_S32768_S32768x1_0 (iotaInDim S32768 32 0)) (ix2 n q)
      = BitVec.ofNat 32 n.val := by
    refine (broadcastInDim_apply _ _ _ _ (ix2 n (0 : Fin 1)) fun a => match a with | ⟨0, _⟩ => rfl | ⟨1, _⟩ => rfl).trans ?_
    exact broadcastInDim_apply _ _ _ _ (ix1 n) fun a => match a with | ⟨0, _⟩ => rfl
  have hij : StableHlo.Predicate.ij n q = ix2 n q := by funext a; match a with | ⟨0, _⟩ => rfl | ⟨1, _⟩ => rfl
  have hn : (BitVec.ofNat 32 n.val).toNat = n.val := by rw [BitVec.toNat_ofNat]; omega
  show IntOp.cmpi .sle (broadcastInDim S32768x16 ![0, 1] bcast_S1x16_S32768x16_0_1 (broadcastInDim S1x16 ![1] bcast_S16_S1x16_1 T) (StableHlo.Predicate.ij n q))
    (broadcastInDim S32768x16 ![0, 1] bcast_S32768x1_S32768x16_0_1 (broadcastInDim S32768x1 ![0] bcast_S32768_S32768x1_0 (iotaInDim S32768 32 0)) (StableHlo.Predicate.ij n q)) = 1#1 ↔ _
  rw [hij, e1, e2]
  show BitVec.ofBool (BitVec.sle _ _) = 1#1 ↔ _
  rw [sle_nat (by omega) (by omega), hn]
  by_cases h : (word T q.val).toNat ≤ n.val <;> simp [h]

theorem batch_iff (s : Fin 17) (n : Fin 32768) : (batch T (ix1 n)).toNat = s.val ↔ n ∈ rowsOf T s.val := by
  rw [batch_apply hT, mem_rowsOf, cnt_eq_iff hT (by omega) n.isLt]

theorem member_apply (s : Fin 17) (n : Fin 32768) : member (batch T) (ix2 s n) = BitVec.ofBool (decide (st T s.val ≤ n.val ∧ n.val < en T s.val)) := by
  unfold member
  have e1 : broadcastInDim S17x32768 ![0, 1] bcast_S1x32768_S17x32768_0_1 (broadcastInDim S1x32768 ![1] bcast_S32768_S1x32768_1 (batch T)) (ix2 s n) = batch T (ix1 n) := by
    refine (broadcastInDim_apply _ _ _ _ (ix2 (0 : Fin 1) n) fun a => match a with | ⟨0, _⟩ => rfl | ⟨1, _⟩ => rfl).trans ?_
    exact broadcastInDim_apply _ _ _ _ (ix1 n) fun a => match a with | ⟨0, _⟩ => rfl
  have e2 : broadcastInDim S17x32768 ![0, 1] bcast_S17x1_S17x32768_0_1 (broadcastInDim S17x1 ![0] bcast_S17_S17x1_0 (iotaInDim S17 32 0)) (ix2 s n)
      = BitVec.ofNat 32 s.val := by
    refine (broadcastInDim_apply _ _ _ _ (ix2 s (0 : Fin 1)) fun a => match a with | ⟨0, _⟩ => rfl | ⟨1, _⟩ => rfl).trans ?_
    exact broadcastInDim_apply _ _ _ _ (ix1 s) fun a => match a with | ⟨0, _⟩ => rfl
  refine (congrArg₂ (IntOp.cmpi .eq) e1 e2).trans ?_
  have h := (batch_iff hT s n).trans mem_rowsOf
  generalize batch T (ix1 n) = w at h ⊢
  show BitVec.ofBool (w == BitVec.ofNat 32 s.val) = _
  rw [beq_ofNat (by omega), decide_eq_decide.2 h]

omit hT in
theorem masked_apply (M : IVec S17x32768 1) (Y : FVec Ideal S32768x128 .f32) (s : Fin 17) (n : Fin 32768) (j : Fin 128) :
    masked M Y (ix3 s n j) = Scalar.select (M (ix2 s n)) (Y (ix2 n j)) ⊥ := by
  unfold masked
  have e1 : broadcastInDim S17x32768x128 ![0, 1, 2] bcast_S17x32768x1_S17x32768x128_0_1_2 (broadcastInDim S17x32768x1 ![0, 1] bcast_S17x32768_S17x32768x1_0_1 M) (ix3 s n j)
      = M (ix2 s n) := by
    refine (broadcastInDim_apply _ _ _ _ (ix3 s n (0 : Fin 1)) fun a => match a with | ⟨0, _⟩ => rfl | ⟨1, _⟩ => rfl | ⟨2, _⟩ => rfl).trans ?_
    exact broadcastInDim_apply _ _ _ _ (ix2 s n) fun a => match a with | ⟨0, _⟩ => rfl | ⟨1, _⟩ => rfl
  have e2 : broadcastInDim S17x32768x128 ![0, 1, 2] bcast_S1x32768x128_S17x32768x128_0_1_2 (broadcastInDim S1x32768x128 ![1, 2] bcast_S32768x128_S1x32768x128_1_2 Y) (ix3 s n j)
      = Y (ix2 n j) := by
    refine (broadcastInDim_apply _ _ _ _ (ix3 (0 : Fin 1) n j) fun a => match a with | ⟨0, _⟩ => rfl | ⟨1, _⟩ => rfl | ⟨2, _⟩ => rfl).trans ?_
    exact broadcastInDim_apply _ _ _ _ (ix2 n j) fun a => match a with | ⟨0, _⟩ => rfl | ⟨1, _⟩ => rfl
  have e3 : broadcastInDim S17x32768x128 ![] bcast_S_S17x32768x128 (id (constant S_ .f32 0xFF800000#32 : FVec Ideal S_ .f32)) (ix3 s n j) = ⊥ :=
    (broadcastInDim_scalar_apply _ _ _).trans Column.bot_word
  rw [select_apply, e1, e2, e3]

omit hT in
/-- The maximum along the middle axis of three, as the host takes it. -/
theorem midReduce_le {a m b : ℕ} {u : Shape} (X : FVec Ideal ⟨3, ![a, m, b]⟩ .f32) (init : FVec Ideal u .f32) (h' : (⟨3, ![a, m, b]⟩ : Shape).ReducesTo [1] ⟨2, ![a, b]⟩)
    (h : (⟨3, ![a, m, b]⟩ : Shape).Reduces [1] ⟨2, ![a, b]⟩) (hu : 0 < u.numel) (hi : init (Shape.Idx.first hu) = ⊥) (g : Fin a) (j : Fin b) (x : EReal) :
    Host.reduce FloatOps.maximumf X init h' hu (ix2 g j) ≤ x ↔ ∀ r : Fin m, X (ix3 g r j) ≤ x := by
  rw [Host.reduce_eq_fold_single _ _ _ _ h, hi]
  show Finset.fold max ⊥ _ _ ≤ x ↔ _
  rw [fold_max_le]
  have e : ∀ r : Fin m, h.lift (ix2 g j) r = ix3 g r j := fun r => by
    funext d; match d with | ⟨0, _⟩ => rfl | ⟨1, _⟩ => rfl | ⟨2, _⟩ => rfl
  exact ⟨fun H r => (congrArg X (e r)).symm.le.trans (H r (Finset.mem_univ _)), fun H r _ => (congrArg X (e r)).le.trans (H r)⟩

theorem tops_apply (Y : FVec Ideal S32768x128 .f32) (s : Fin 17) (j : Fin 128) :
    tops (member (batch T)) Y (ix2 s j) = (rowsOf T s.val).sup fun n => Y (ix2 n j) := by
  have hx : ∀ x : EReal, tops (member (batch T)) Y (ix2 s j) ≤ x ↔ (rowsOf T s.val).sup (fun n => Y (ix2 n j)) ≤ x := fun x => by
    unfold tops
    rw [midReduce_le _ _ _ (by decide) _ Column.bot_word, Finset.sup_le_iff]
    refine forall_congr' fun n => ?_
    rw [masked_apply, member_apply hT, sel_dec, mem_rowsOf]
    split
    · exact ⟨fun H _ => H, fun H => H ‹_›⟩
    · exact ⟨fun _ H => absurd H ‹_›, fun _ => bot_le⟩
  exact le_antisymm ((hx _).2 le_rfl) ((hx _).1 le_rfl)

omit hT in
theorem absf_apply {u : Shape} (x : FVec Ideal u .f32) (i : u.Idx) : Host.absf x i = max (x i) (-(x i)) := rfl

theorem maxes_apply (Y : FVec Ideal S32768x128 .f32) (s : Fin 17) (j : Fin 128) :
    maxes (member (batch T)) Y (ix2 s j) = Column.rMax ((rowsOf T s.val).sup fun n => Y (ix2 n j)) := by
  unfold maxes
  have hb : broadcastInDim S17x128 ![] bcast_S_S17x128 (constant S_ .f32 0x7F800000#32 : FVec Ideal S_ .f32) (ix2 s j) = ⊤ :=
    (broadcastInDim_scalar_apply _ _ _).trans Column.top_word
  have hz : broadcastInDim S17x128 ![] bcast_S_S17x128 (id (constant S_ .f32 0x00000000#32 : FVec Ideal S_ .f32)) (ix2 s j) = 0 :=
    (broadcastInDim_scalar_apply _ _ _).trans Ideal.ofBits_zero_f32
  rw [select_apply, cmpf_apply, hb, hz, absf_apply, tops_apply hT]
  generalize (rowsOf T s.val).sup (fun n => Y (ix2 n j)) = x
  rfl

/-! ## The sums -/

omit hT in
/-- The word that places update row `n`. -/
theorem place (b : IVec S32768 32) (n : Fin 32768) : broadcastInDim S32768x1 ![0] bcast_S32768_S32768x1_0 b (ix2 n (0 : Fin 1)) = b (ix1 n) :=
  broadcastInDim_apply _ _ _ _ (ix1 n) fun a => match a with | ⟨0, _⟩ => rfl

omit hT in
theorem lands_sums (idx : IVec S32768x1 32) (n : Fin 32768) (k : Fin 128) (s : Fin 17) (j : Fin 128) :
    scatter_S17x128_S32768x1_S32768x128_1_0_0_1.resultIdx? (ix2 n k) idx = some (ix2 s j) ↔ (idx (ix2 n 0)).toInt = s.val ∧ k = j := by
  rw [Routing.resultIdx?_ix2]
  have h0 : scatter_S17x128_S32768x1_S32768x128_1_0_0_1.start (ix2 n k) idx 0 = (idx (ix2 n 0)).toInt := by
    refine congrArg (fun i => (idx i).toInt) (funext fun b => ?_)
    match b with | ⟨0, _⟩ => rfl | ⟨1, _⟩ => rfl
  have h1 : scatter_S17x128_S32768x1_S32768x128_1_0_0_1.start (ix2 n k) idx 1 = 0 := rfl
  have w0 : scatter_S17x128_S32768x1_S32768x128_1_0_0_1.window (ix2 n k) 0 = 0 := rfl
  have w1 : scatter_S17x128_S32768x1_S32768x128_1_0_0_1.window (ix2 n k) 1 = k.val := rfl
  rw [h0, h1, w0, w1, Fin.ext_iff]
  omega

omit hT in
theorem lands_counts (idx : IVec S32768x1 32) (n : Fin 32768) (k : Fin 1) (s : Fin 17) :
    scatter_S17x1_S32768x1_S32768x1_1_0_0_1.resultIdx? (ix2 n k) idx = some (ix2 s 0) ↔ (idx (ix2 n 0)).toInt = s.val := by
  rw [Routing.resultIdx?_ix2]
  have h0 : scatter_S17x1_S32768x1_S32768x1_1_0_0_1.start (ix2 n k) idx 0 = (idx (ix2 n 0)).toInt := by
    refine congrArg (fun i => (idx i).toInt) (funext fun b => ?_)
    match b with | ⟨0, _⟩ => rfl | ⟨1, _⟩ => rfl
  have h1 : scatter_S17x1_S32768x1_S32768x1_1_0_0_1.start (ix2 n k) idx 1 = 0 := rfl
  have w0 : scatter_S17x1_S32768x1_S32768x1_1_0_0_1.window (ix2 n k) 0 = 0 := rfl
  have w1 : scatter_S17x1_S32768x1_S32768x1_1_0_0_1.window (ix2 n k) 1 = k.val := rfl
  have := k.isLt
  rw [h0, h1, w0, w1]
  simp only [Fin.val_zero]
  omega

/-- Where the segment's word sends row `n`. -/
theorem toInt_iff (s : Fin 17) (n : Fin 32768) : (batch T (ix1 n)).toInt = s.val ↔ n ∈ rowsOf T s.val := by
  have h := batch_apply hT n
  have h' := cnt_le (T := T) n.val
  rw [toInt_small (by omega), ← batch_iff hT]
  omega

omit hT in
/-- A scatter that adds, read at an index. -/
theorem scatterAdd_apply {s si su : Shape} (d : ScatterDims s si su) {w : ℕ} (x : FVec Ideal s .f32) (idx : IVec si w) (upd : FVec Ideal su .f32) (i : s.Idx) :
    Host.scatterAdd d x idx upd i = x i + ∑ u : su.Idx, if d.resultIdx? u idx = some i then upd u else 0 := by
  rw [← Finset.sum_filter]; rfl

theorem sums_apply (Y : FVec Ideal S32768x128 .f32) (s : Fin 17) (j : Fin 128) :
    sums (batch T) Y (ix2 s j) = 0 + ∑ n ∈ rowsOf T s.val, Y (ix2 n j) := by
  unfold sums
  rw [scatterAdd_apply, broadcastInDim_scalar_apply, sum_idx2]
  refine congrArg₂ (· + ·) Ideal.ofBits_zero_f32 ?_
  rw [rowsOf, Finset.sum_filter]
  refine Finset.sum_congr rfl fun n _ => ?_
  have e : ∀ k : Fin 128, (if scatter_S17x128_S32768x1_S32768x128_1_0_0_1.resultIdx? (ix2 n k) (broadcastInDim S32768x1 ![0] bcast_S32768_S32768x1_0 (batch T)) = some (ix2 s j)
      then Y (ix2 n k) else 0) = if k = j then (if st T s.val ≤ n.val ∧ n.val < en T s.val then Y (ix2 n j) else 0) else 0 := fun k => by
    rw [if_congr (lands_sums _ n k s j) rfl rfl, place, if_congr (and_congr_left' (toInt_iff hT s n)) rfl rfl, if_congr (and_congr_left' mem_rowsOf) rfl rfl]
    by_cases hk : k = j
    · subst hk; simp
    · simp [hk]
  rw [Finset.sum_congr rfl fun k _ => e k, Finset.sum_ite_eq' Finset.univ j, if_pos (Finset.mem_univ j)]

theorem counts_apply (s : Fin 17) : counts (batch T) (ix2 s 0) = (((rowsOf T s.val).card : ℝ) : EReal) := by
  unfold counts
  rw [scatterAdd_apply, broadcastInDim_scalar_apply, sum_idx2]
  refine (congrArg₂ (· + ·) Ideal.ofBits_zero_f32 ?_).trans (zero_add _)
  have e : ∀ n : Fin 32768, (∑ k : Fin 1, if scatter_S17x1_S32768x1_S32768x1_1_0_0_1.resultIdx? (ix2 n k) (broadcastInDim S32768x1 ![0] bcast_S32768_S32768x1_0 (batch T)) = some (ix2 s 0)
      then (broadcastInDim S32768x1 ![] bcast_S_S32768x1 (constant S_ .f32 0x3F800000#32 : FVec Ideal S_ .f32) (ix2 n k) : EReal) else (0 : EReal)) = (((if n ∈ rowsOf T s.val then 1 else 0 : ℝ)) : EReal) := fun n => by
    rw [Fin.sum_univ_one, if_congr (lands_counts _ n 0 s) rfl rfl, place, if_congr (toInt_iff hT s n) rfl rfl, broadcastInDim_scalar_apply]
    by_cases hn : n ∈ rowsOf T s.val
    · rw [if_pos hn, if_pos hn]; exact Ideal.ofBits_one_f32
    · rw [if_neg hn, if_neg hn]; rfl
  rw [Finset.sum_congr rfl fun n _ => e n, Column.coe_sum, Finset.sum_ite_mem, Finset.univ_inter, Finset.sum_const, nsmul_eq_mul, mul_one]

theorem means_apply (Y : FVec Ideal S32768x128 .f32) (s : Fin 17) (j : Fin 128) :
    means (batch T) Y (ix2 s j) = Ideal.div (0 + ∑ n ∈ rowsOf T s.val, Y (ix2 n j)) (max (((rowsOf T s.val).card : ℝ) : EReal) 1) := by
  unfold means
  rw [hostDivf_apply, sums_apply hT]
  refine congrArg (Ideal.div _) ?_
  refine (broadcastInDim_apply _ _ _ _ (ix2 s (0 : Fin 1)) fun a => match a with | ⟨0, _⟩ => rfl | ⟨1, _⟩ => rfl).trans ?_
  rw [maximumf_apply, counts_apply hT, broadcastInDim_scalar_apply]
  exact congrArg (max _) Ideal.ofBits_one_f32

omit hT in
theorem outLayer_apply (A B : FVec Ideal S17x128 .f32) (Wo : FVec Ideal S128x256 .f32) (bo : FVec Ideal S128 .f32) (s : Fin 17) (o : Fin 128) :
    outLayer A B Wo bo (ix2 s o) = (∑ j : Fin 128, A (ix2 s j) * Wo (ix2 o (Fin.castAdd 128 j))) + (∑ j : Fin 128, B (ix2 s j) * Wo (ix2 o (Fin.natAdd 128 j))) + bo (ix1 o) := by
  unfold outLayer
  rw [addf_apply]
  refine congrArg₂ (· + ·) ?_ ?_
  · refine (StackMember.dotGeneral_plain_apply none _ _ s o).trans ((Fin.sum_univ_add (a := 128) (b := 128) _).trans ?_)
    refine congrArg₂ (· + ·) (Finset.sum_congr rfl fun j _ => ?_) (Finset.sum_congr rfl fun j _ => ?_)
    · rw [transpose_ix2_apply]
      refine congrArg (· * _) (concatenate_pair_apply_left (t := S17x256) 1 A B concatenates_S17x128_S17x128_S17x256_d1 (ix2 s (Fin.castAdd 128 j)) rfl (ix2 s j) fun b => ?_)
      match b with | ⟨0, _⟩ => rfl | ⟨1, _⟩ => rfl
    · rw [transpose_ix2_apply]
      refine congrArg (· * _) (concatenate_pair_apply_right (t := S17x256) 1 A B concatenates_S17x128_S17x128_S17x256_d1 (ix2 s (Fin.natAdd 128 j)) rfl rfl (ix2 s j) (fun b hb => ?_) (Nat.add_comm _ _))
      match b with | ⟨0, _⟩ => rfl | ⟨1, _⟩ => exact absurd rfl hb
  · refine (broadcastInDim_apply _ _ _ _ (ix2 (0 : Fin 1) o) fun a => match a with | ⟨0, _⟩ => rfl | ⟨1, _⟩ => rfl).trans ?_
    exact broadcastInDim_apply _ _ _ _ (ix1 o) fun a => match a with | ⟨0, _⟩ => rfl

/-- The reference's result at segment `s`, column `o`. -/
theorem result_apply (X : FVec Ideal S32768x128 .f32) (W : FVec Ideal S128x128 .f32) (b g be : FVec Ideal S128 .f32)
    (Wo : FVec Ideal S128x256 .f32) (bo : FVec Ideal S128 .f32) (s : Fin 17) (o : Fin 128) :
    result X T W b g be Wo bo (ix2 s o)
      = (∑ j : Fin 128, Column.rMax ((rowsOf T s.val).sup fun n => norm (lin X W b) g be (ix2 n j)) * Wo (ix2 o (Fin.castAdd 128 j)))
        + (∑ j : Fin 128, Ideal.div (0 + ∑ n ∈ rowsOf T s.val, norm (lin X W b) g be (ix2 n j)) (max (((rowsOf T s.val).card : ℝ) : EReal) 1) * Wo (ix2 o (Fin.natAdd 128 j)))
        + bo (ix1 o) := by
  unfold result
  rw [outLayer_apply]
  simp only [maxes_apply hT, means_apply hT]

end RefTerm

end
-- ==== Proof.Value.lean ====
/-
  The kernel's result is the reference's, for finite operands, a positive gain and a sorted table of offsets.
-/
module

public import proofs.«01_k».proof.Proof.Operands
public import proofs.«01_k».proof.Proof.RefReads

@[expose] public section

noncomputable section

namespace Cert.KernelIdeal.Body

open Cert.KernelIdeal Cert.KernelIdeal.Gen Cert.KernelIdeal.Checks SegWords SegReads SegLayout SegTable Idealize.ShloMosaic.ValueIdx
open Idealize.ShloMosaic Idealize.ShloMosaic.TcCoe
open scoped BigOperators

variable (m : (ℓ : Loc nD τ sig) → Buf (Elt Ideal) ℓ)

/-- The first layer's bias. -/
abbrev aB (c : Dev nD) : FVec Ideal S128 .f32 := m ((c : Thread nD τ).loc main_arg3)

/-- What is asked of the operands on a device. -/
structure Fit (c : Dev nD) : Prop where
  sorted : Sorted (aT m c)
  x : ∀ n k, ∃ r : ℝ, aX m c (ix2 n k) = (r : EReal)
  w : ∀ j k, ∃ r : ℝ, aW m c (ix2 j k) = (r : EReal)
  b : ∀ j, ∃ r : ℝ, aB m c (ix1 j) = (r : EReal)
  g : ∀ j, ∃ r : ℝ, 0 < r ∧ aG m c (ix1 j) = (r : EReal)
  be : ∀ j, ∃ r : ℝ, aBe m c (ix1 j) = (r : EReal)

variable {m}

/-- The product rows are real. -/
theorem hh_real {c : Dev nD} (F : Fit m c) : ∃ h : Fin 32768 → Fin 128 → ℝ, ∀ n j, hh m c n j = (h n j : EReal) := by
  choose x hx using F.x
  choose w hw using F.w
  refine ⟨fun n j => ∑ k, x n k * w j k, fun n j => ?_⟩
  rw [hh_apply, ← Column.coe_sum]
  exact Finset.sum_congr rfl fun k _ => by rw [hx, hw, EReal.coe_mul]

/-- Column by column: a real scale above zero and a real shift, with the reference's values in their terms. -/
theorem columns {c : Dev nD} (F : Fit m c) (h : Fin 32768 → Fin 128 → ℝ) (hh' : ∀ n j, hh m c n j = (h n j : EReal)) (j : Fin 128) :
    ∃ sc sh : ℝ, 0 < sc ∧ scl m c (ix2 0 j) = sc ∧ shf m c (ix2 0 j) = sh
      ∧ ∀ n, RefTerm.norm (RefTerm.lin (aX m c) (aW m c) (aB m c)) (aG m c) (aBe m c) (ix2 n j) = ((sc * (max (h n j) sh - sh) : ℝ) : EReal) := by
  obtain ⟨b, hb⟩ := F.b j
  obtain ⟨g, hg0, hg⟩ := F.g j
  obtain ⟨be, hbe⟩ := F.be j
  obtain ⟨sc, sh, hsc, e1, e2, e3⟩ := Column.column (fun n => h n j) b g be hg0 (by rw [Fintype.card_fin]; norm_num)
  have eh : (fun n => hh m c n j) = fun n => (h n j : EReal) := funext fun n => hh' n j
  refine ⟨sc, sh, hsc, ?_, ?_, fun n => ?_⟩
  · rw [scl_apply, bGA_apply, hg, eh, e1]
  · rw [shf_apply, bGA_apply, bBE_apply, hg, hbe, eh, e2]
  · have ez : (fun n => RefTerm.lin (aX m c) (aW m c) (aB m c) (ix2 n j)) = fun n => (h n j : EReal) + b :=
      funext fun n => by rw [RefTerm.lin_apply, ← hh_apply, hh', hb]
    rw [RefTerm.norm_apply, ez, hg, hbe, e3]

/-- Entry by entry, the kernel's result on its first 17 rows is the reference's. -/
theorem value_apply {c : Dev nD} (F : Fit m c) (s : Fin 17) (o : Fin 128) :
    outK m c (ix2 ⟨s.val, by omega⟩ o)
      = RefTerm.result (aX m c) (aT m c) (aW m c) (aB m c) (aG m c) (aBe m c) (aWo m c) (aBo m c) (ix2 s o) := by
  obtain ⟨h, hh'⟩ := hh_real F
  choose sc sh hsc e1 e2 e3 using columns F h hh'
  have hT : Sorted (Tb m) := by rw [Tb_eq m c]; exact F.sorted
  have hs : s.val ≤ 16 := Nat.le_of_lt_succ s.isLt
  unfold outK
  rw [outVec_apply _ hT _ _ _ _ _ _ _ ⟨s.val, by omega⟩ hs o, RefTerm.result_apply F.sorted, bBO_apply]
  refine congrArg (· + _) (congrArg₂ (· + ·) (Finset.sum_congr rfl fun j _ => ?_) (Finset.sum_congr rfl fun j _ => ?_))
  · rw [max1_apply m hT c _ hs, e1, e2, bWX_apply, Tb_eq m c]
    simp only [hh', e3]
    rw [Column.seg_max _ (fun n => h n j) _ _ (hsc j)]
  · rw [seg1_apply m hT c _ hs, e1, e2, bWN_apply, Tb_eq m c]
    simp only [hh', e3]
    rw [Column.seg_mean _ (fun n => h n j)]

/-- The kernel's result, cut to its first 17 rows, is the reference's. -/
theorem value {c : Dev nD} (F : Fit m c) :
    extractStridedSlice S17x128 ![0, 0] (outK m c) slices_S32x128_S17x128_0_0
      = RefTerm.result (aX m c) (aT m c) (aW m c) (aB m c) (aG m c) (aBe m c) (aWo m c) (aBo m c) := by
  funext i
  obtain ⟨s, o, rfl⟩ : ∃ (s : Fin 17) (o : Fin 128), i = ix2 s o := ⟨i 0, i 1, eq_ix2 i⟩
  exact (extractStridedSlice_apply _ _ _ _ (ix2 ⟨s.val, by omega⟩ o) fun a => match a with
    | ⟨0, _⟩ => (Nat.zero_add _).symm
    | ⟨1, _⟩ => (Nat.zero_add _).symm).trans (value_apply F s o)

end Cert.KernelIdeal.Body

end
-- ==== Proof.Precond.lean ====
/-
  What the precondition says: a sorted table of offsets in range, finite operands and a positive gain.
-/
module

public import proofs.«01_k».proof.Defs
public import proofs.«01_k».proof.Proof.Value

@[expose] public section

noncomputable section

namespace Precond

open Cert.Pre_pre Cert.Pre_pre.Facts SegReads SegTable Idealize.ShloMosaic.ValueIdx
open Idealize.ShloMosaic

/-- The shape relations the precondition's operations need. -/
instance facts : Cert.Pre_pre.Facts where
  bcast_S_S16 := by decide
  slices_S16_S15_1 := by decide
  slices_S16_S15_0 := by decide
  bcast_S_S32768x128 := by decide
  bcast_S_S128x128 := by decide
  bcast_S_S128 := by decide

/-- A value whose absolute value is below infinity is real. -/
theorem real_of_lt {x : EReal} (h : Ideal.cmp .olt (max x (-x)) (Ideal.ofBits .f32 0x7F800000#32) = 1#1) : ∃ r : ℝ, x = r := by
  rw [Column.top_word] at h
  induction x with
  | bot => simp [Ideal.cmp] at h
  | top => simp [Ideal.cmp] at h
  | coe r => exact ⟨r, rfl⟩

/-- An array all of whose absolute values are below infinity is real. -/
theorem real_of {u : Shape} (x : FVec Ideal u .f32) (hb : (⟨0, ![]⟩ : Shape).BroadcastsInDim u ![])
    (h : cmpf .olt (Host.absf x) (broadcastInDim u ![] hb (constant (F := Ideal) ⟨0, ![]⟩ .f32 0x7F800000#32)) = fun _ => 1#1) (i : u.Idx) : ∃ r : ℝ, x i = r := by
  have e := congrFun h i
  rw [cmpf_apply, broadcastInDim_scalar_apply] at e
  exact real_of_lt e

/-- A gain above zero. -/
theorem pos_of {u : Shape} (x : FVec Ideal u .f32) (hb : (⟨0, ![]⟩ : Shape).BroadcastsInDim u ![])
    (h : cmpf .ogt x (broadcastInDim u ![] hb (constant (F := Ideal) ⟨0, ![]⟩ .f32 0x00000000#32)) = fun _ => 1#1) (i : u.Idx) : 0 < x i := by
  have e := congrFun h i
  rw [cmpf_apply, broadcastInDim_scalar_apply] at e
  have e' : Ideal.cmp .ogt (x i) (Ideal.ofBits .f32 0x00000000#32) = 1#1 := e
  rw [Ideal.ofBits_zero_f32] at e'
  by_contra hn
  simp [Ideal.cmp, hn] at e'

/-- A table of offsets in range, each at least the one before, is sorted. -/
theorem sorted_of [Cert.Pre_pre.Facts] (T : IVec S16 32)
    (h0 : cmpi .sge T (broadcastInDim S16 ![] bcast_S_S16 (constantI S_ 32 0#32)) = fun _ => 1#1)
    (h1 : cmpi .slt T (broadcastInDim S16 ![] bcast_S_S16 (constantI S_ 32 32768#32)) = fun _ => 1#1)
    (h2 : cmpi .sge (extractStridedSlice S15 ![1] T slices_S16_S15_1) (extractStridedSlice S15 ![0] T slices_S16_S15_0) = fun _ => 1#1) :
    Sorted T := by
  have lo : ∀ k, 0 ≤ (word T k).toInt := fun k => by
    have e := congrFun h0 (ix1 ⟨k % 16, Nat.mod_lt _ (by decide)⟩)
    exact IntOp.cmpi_sge.1 ((congrArg (IntOp.cmpi .sge _) (broadcastInDim_scalar_apply _ _ _).symm).trans e)
  have hi : ∀ k, (word T k).toInt < 32768 := fun k => by
    have e := congrFun h1 (ix1 ⟨k % 16, Nat.mod_lt _ (by decide)⟩)
    exact IntOp.cmpi_slt.1 ((congrArg (IntOp.cmpi .slt _) (broadcastInDim_scalar_apply _ _ _).symm).trans e)
  have lt : ∀ k, (word T k).toNat < 32768 := fun k => by
    have := lo k; have := hi k; have := (word T k).isLt; rw [BitVec.toInt_eq_toNat_cond] at *; split at * <;> omega
  have ti : ∀ k, (word T k).toInt = ((word T k).toNat : ℤ) := fun k => by
    have := lt k; rw [BitVec.toInt_eq_toNat_cond]; split <;> omega
  have step : ∀ k, k < 15 → (word T k).toNat ≤ (word T (k + 1)).toNat := fun k hk => by
    have e := congrFun h2 (ix1 ⟨k, hk⟩)
    have a1 : extractStridedSlice S15 ![1] T slices_S16_S15_1 (ix1 ⟨k, hk⟩) = word T (k + 1) :=
      extractStridedSlice_apply _ _ _ _ _ fun a => match a with
        | ⟨0, _⟩ => (Nat.mod_eq_of_lt (by omega : k + 1 < 16)).trans (Nat.add_comm _ _)
    have a0 : extractStridedSlice S15 ![0] T slices_S16_S15_0 (ix1 ⟨k, hk⟩) = word T k :=
      extractStridedSlice_apply _ _ _ _ _ fun a => match a with
        | ⟨0, _⟩ => (Nat.mod_eq_of_lt (by omega : k < 16)).trans (Nat.zero_add _).symm
    have e' := IntOp.cmpi_sge.1 ((congrArg₂ (IntOp.cmpi .sge) a1 a0).symm.trans e)
    rw [ti, ti] at e'
    exact Int.ofNat_le.1 e'
  refine ⟨fun k _ => lt k, fun j k hjk => ?_⟩
  induction k, hjk using Nat.le_induction with
  | base => exact fun _ => le_rfl
  | succ k _ ih => exact fun h => (ih (by omega)).trans (step k (by omega))

/-- The precondition, as what the value proof asks of the operands. -/
theorem fit [Cert.Pre_pre.Facts] {m : (ℓ : Loc Cert.KernelIdeal.nD Cert.KernelIdeal.τ Cert.KernelIdeal.sig) → Buf (Elt Ideal) ℓ}
    (h : Cert.Pre_KernelIdeal_pre m) (c : Dev Cert.KernelIdeal.nD) : Cert.KernelIdeal.Body.Fit m c := by
  obtain ⟨t0, t1, t2, x, w, b, g, gp, be⟩ := h c
  refine ⟨sorted_of _ t0 t1 t2, fun n k => real_of _ _ x _, fun j k => real_of _ _ w _, fun j => real_of _ _ b _, fun j => ?_, fun j => real_of _ _ be _⟩
  obtain ⟨r, hr⟩ := real_of _ _ g (ix1 j)
  have hp := pos_of _ _ gp (ix1 j)
  exact ⟨r, EReal.coe_pos.1 (hr ▸ hp), hr⟩

end Precond

end
-- ==== Proof.lean ====
/-
  The proof of the claims of this certificate: the kernel, as printed and as idealized, and the reference run to the end and leave their arguments as they were,
  and over the extended reals the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run_Kernel
public import proofs.«01_k».proof.Proof.Run_KernelIdeal
public import proofs.«01_k».proof.Proof.Precond
public import Idealize.ShloMosaic.Adequacy
public import Idealize.ShloMosaic.Init

@[expose] public section

noncomputable section

namespace Cert.Proof

open Idealize.ShloMosaic Idealize.ShloMosaic.TcCoe Idealize.SL.Sem

/-- The printed kernel runs to the end, leaving its arguments unchanged and its counters at zero. -/
theorem kernel_frame : Cert.quiescent_Kernel := fun m g _ =>
  (θ_run Cert.Kernel.defs _ _).mono (fun _ h => ⟨fun c => Cert.Kernel.Body.end_args m h.1 c, h.2⟩) (Cert.Kernel.Body.run_main (F := Bits) m g)

/-- So does the idealized kernel. -/
theorem ideal_frame : Cert.quiescent_KernelIdeal := fun m g _ =>
  (θ_run Cert.KernelIdeal.defs _ _).mono (fun _ h => ⟨fun c => Cert.KernelIdeal.Body.end_args m h.1 c, h.2⟩) (Cert.KernelIdeal.Body.run_main (F := Ideal) m g)

/-- So does the reference, which launches nothing and so never touches a counter. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- Over the extended reals the kernel's result is the reference's, under the precondition. -/
theorem same_result [hKernelIdeal : Cert.KernelIdeal.Facts] [hReferenceIdeal : Cert.ReferenceIdeal.Facts] [hPre_pre : Cert.Pre_pre.Facts] :
    Cert.algebraic_KernelIdeal_ReferenceIdeal_pre_pre := fun m g m' g' hpre hargs => by
  refine ⟨fun c => Cert.ReferenceIdeal.Value.res_main_v62 (F := Ideal) m' c, ?_, Cert.ReferenceIdeal.Value.run (F := Ideal) m' g'⟩
  refine (θ_run Cert.KernelIdeal.defs _ _).mono (fun _ h c => ⟨?_, Cert.KernelIdeal.Body.end_args m h.1 c⟩) (Cert.KernelIdeal.Body.run_main (F := Ideal) m g)
  obtain ⟨a0, a1, a2, a3, a4, a5, a6, a7⟩ := hargs c
  refine (Cert.KernelIdeal.Body.end_out m h.1 c).trans ((Cert.KernelIdeal.Body.value (Precond.fit hpre c)).trans ?_)
  refine Eq.trans ?_ (RefTerm.result_eq m' c).symm
  rw [a0, a1, a2, a3, a4, a5, a6, a7]

/-- Every claim. -/
theorem claim : Cert.Claim := ⟨Cert.Kernel.Gen.facts, Cert.KernelIdeal.Gen.facts, Cert.ReferenceIdeal.Gen.facts, Precond.facts,
  kernel_frame, ideal_frame, fun m g _ => ideal_frame m g trivial, reference_frame, fun m g _ => reference_frame m g trivial, trivial, same_result⟩

end Cert.Proof

end
